-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v834)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v834) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1001) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1000000x3 : Shape := ⟨2, ![1000000, 3]⟩
abbrev S_ : Shape := ⟨0, ![]⟩
abbrev S3 : Shape := ⟨1, ![3]⟩
abbrev S2197000x3 : Shape := ⟨2, ![2197000, 3]⟩
abbrev S2197000x1 : Shape := ⟨2, ![2197000, 1]⟩
abbrev S1000000x1 : Shape := ⟨2, ![1000000, 1]⟩
abbrev S1x3 : Shape := ⟨2, ![1, 3]⟩
abbrev S1000000 : Shape := ⟨1, ![1000000]⟩
abbrev S13x1300x390 : Shape := ⟨3, ![13, 1300, 390]⟩
abbrev S1x1300x390 : Shape := ⟨3, ![1, 1300, 390]⟩
abbrev S130x130x130x3 : Shape := ⟨4, ![130, 130, 130, 3]⟩

abbrev nBuf : Space → Nat
  | .hbm => 980
  | .vmem => 6
  | .smem => 0
  | _ => 0

abbrev hbmTy0_0 (i : Nat) : BufTy := match i % 128 with
  | 0 => ⟨S1000000x3, .f32⟩
  | 1 => ⟨S1000000x3, .f32⟩
  | 2 => ⟨S_, .f32⟩
  | 3 => ⟨S3, .i32⟩
  | 4 => ⟨S3, .i32⟩
  | 5 => ⟨S3, .i32⟩
  | 6 => ⟨S3, .i32⟩
  | 7 => ⟨S3, .i32⟩
  | 8 => ⟨S3, .i32⟩
  | 9 => ⟨S3, .i32⟩
  | 10 => ⟨S3, .i32⟩
  | 11 => ⟨S3, .i32⟩
  | 12 => ⟨S3, .i32⟩
  | 13 => ⟨S3, .i32⟩
  | 14 => ⟨S3, .i32⟩
  | 15 => ⟨S3, .i32⟩
  | 16 => ⟨S3, .i32⟩
  | 17 => ⟨S3, .i32⟩
  | 18 => ⟨S3, .i32⟩
  | 19 => ⟨S3, .i32⟩
  | 20 => ⟨S3, .i32⟩
  | 21 => ⟨S3, .i32⟩
  | 22 => ⟨S3, .i32⟩
  | 23 => ⟨S3, .i32⟩
  | 24 => ⟨S3, .i32⟩
  | 25 => ⟨S3, .i32⟩
  | 26 => ⟨S3, .i32⟩
  | 27 => ⟨S3, .i32⟩
  | 28 => ⟨S3, .i32⟩
  | 29 => ⟨S3, .i32⟩
  | 30 => ⟨S1000000x3, .f32⟩
  | 31 => ⟨S1000000x3, .f32⟩
  | 32 => ⟨S1000000x3, .i32⟩
  | 33 => ⟨S1000000x3, .f32⟩
  | 34 => ⟨S1000000x3, .f32⟩
  | 35 => ⟨S_, .f32⟩
  | 36 => ⟨S1000000x3, .f32⟩
  | 37 => ⟨S1000000x3, .f32⟩
  | 38 => ⟨S1000000x3, .f32⟩
  | 39 => ⟨S_, .f32⟩
  | 40 => ⟨S1000000x3, .f32⟩
  | 41 => ⟨S1000000x3, .f32⟩
  | 42 => ⟨S_, .f32⟩
  | 43 => ⟨S1000000x3, .f32⟩
  | 44 => ⟨S1000000x3, .f32⟩
  | 45 => ⟨S1000000x3, .f32⟩
  | 46 => ⟨S_, .f32⟩
  | 47 => ⟨S1000000x3, .f32⟩
  | 48 => ⟨S1000000x3, .f32⟩
  | 49 => ⟨S1000000x3, .f32⟩
  | 50 => ⟨S_, .f32⟩
  | 51 => ⟨S1000000x3, .f32⟩
  | 52 => ⟨S1000000x3, .f32⟩
  | 53 => ⟨S_, .f32⟩
  | 54 => ⟨S2197000x3, .f32⟩
  | 55 => ⟨S_, .f32⟩
  | 56 => ⟨S2197000x1, .f32⟩
  | 57 => ⟨S1000000x1, .f32⟩
  | 58 => ⟨S1000000x1, .f32⟩
  | 59 => ⟨S1000000x1, .f32⟩
  | 60 => ⟨S1000000x1, .f32⟩
  | 61 => ⟨S1000000x1, .f32⟩
  | 62 => ⟨S1x3, .i32⟩
  | 63 => ⟨S1000000x3, .i32⟩
  | 64 => ⟨S1000000x3, .i32⟩
  | 65 => ⟨S1000000x1, .i32⟩
  | 66 => ⟨S1000000, .i32⟩
  | 67 => ⟨S_, .i32⟩
  | 68 => ⟨S1000000, .i32⟩
  | 69 => ⟨S1000000, .i32⟩
  | 70 => ⟨S1000000x1, .i32⟩
  | 71 => ⟨S1000000, .i32⟩
  | 72 => ⟨S_, .i32⟩
  | 73 => ⟨S1000000, .i32⟩
  | 74 => ⟨S1000000, .i32⟩
  | 75 => ⟨S1000000, .i32⟩
  | 76 => ⟨S1000000x1, .i32⟩
  | 77 => ⟨S1000000, .i32⟩
  | 78 => ⟨S1000000, .i32⟩
  | 79 => ⟨S1000000x3, .f32⟩
  | 80 => ⟨S1000000x3, .f32⟩
  | 81 => ⟨S_, .f32⟩
  | 82 => ⟨S2197000x3, .f32⟩
  | 83 => ⟨S1000000x1, .i32⟩
  | 84 => ⟨S2197000x3, .f32⟩
  | 85 => ⟨S2197000x3, .f32⟩
  | 86 => ⟨S_, .f32⟩
  | 87 => ⟨S2197000x1, .f32⟩
  | 88 => ⟨S1000000x1, .i32⟩
  | 89 => ⟨S2197000x1, .f32⟩
  | 90 => ⟨S2197000x1, .f32⟩
  | 91 => ⟨S1000000x1, .f32⟩
  | 92 => ⟨S1000000x1, .f32⟩
  | 93 => ⟨S1000000x1, .f32⟩
  | 94 => ⟨S1000000x1, .f32⟩
  | 95 => ⟨S1000000x1, .f32⟩
  | 96 => ⟨S1x3, .i32⟩
  | 97 => ⟨S1000000x3, .i32⟩
  | 98 => ⟨S1000000x3, .i32⟩
  | 99 => ⟨S1000000x1, .i32⟩
  | 100 => ⟨S1000000, .i32⟩
  | 101 => ⟨S_, .i32⟩
  | 102 => ⟨S1000000, .i32⟩
  | 103 => ⟨S1000000, .i32⟩
  | 104 => ⟨S1000000x1, .i32⟩
  | 105 => ⟨S1000000, .i32⟩
  | 106 => ⟨S_, .i32⟩
  | 107 => ⟨S1000000, .i32⟩
  | 108 => ⟨S1000000, .i32⟩
  | 109 => ⟨S1000000, .i32⟩
  | 110 => ⟨S1000000x1, .i32⟩
  | 111 => ⟨S1000000, .i32⟩
  | 112 => ⟨S1000000, .i32⟩
  | 113 => ⟨S1000000x3, .f32⟩
  | 114 => ⟨S1000000x3, .f32⟩
  | 115 => ⟨S_, .f32⟩
  | 116 => ⟨S2197000x3, .f32⟩
  | 117 => ⟨S1000000x1, .i32⟩
  | 118 => ⟨S2197000x3, .f32⟩
  | 119 => ⟨S2197000x3, .f32⟩
  | 120 => ⟨S_, .f32⟩
  | 121 => ⟨S2197000x1, .f32⟩
  | 122 => ⟨S1000000x1, .i32⟩
  | 123 => ⟨S2197000x1, .f32⟩
  | 124 => ⟨S2197000x1, .f32⟩
  | 125 => ⟨S1000000x1, .f32⟩
  | 126 => ⟨S1000000x1, .f32⟩
  | 127 => ⟨S1000000x1, .f32⟩
  | _ => ⟨S1000000x3, .f32⟩

abbrev hbmTy0_1 (i : Nat) : BufTy := match i % 128 with
  | 0 => ⟨S1000000x1, .f32⟩
  | 1 => ⟨S1000000x1, .f32⟩
  | 2 => ⟨S1x3, .i32⟩
  | 3 => ⟨S1000000x3, .i32⟩
  | 4 => ⟨S1000000x3, .i32⟩
  | 5 => ⟨S1000000x1, .i32⟩
  | 6 => ⟨S1000000, .i32⟩
  | 7 => ⟨S_, .i32⟩
  | 8 => ⟨S1000000, .i32⟩
  | 9 => ⟨S1000000, .i32⟩
  | 10 => ⟨S1000000x1, .i32⟩
  | 11 => ⟨S1000000, .i32⟩
  | 12 => ⟨S_, .i32⟩
  | 13 => ⟨S1000000, .i32⟩
  | 14 => ⟨S1000000, .i32⟩
  | 15 => ⟨S1000000, .i32⟩
  | 16 => ⟨S1000000x1, .i32⟩
  | 17 => ⟨S1000000, .i32⟩
  | 18 => ⟨S1000000, .i32⟩
  | 19 => ⟨S1000000x3, .f32⟩
  | 20 => ⟨S1000000x3, .f32⟩
  | 21 => ⟨S_, .f32⟩
  | 22 => ⟨S2197000x3, .f32⟩
  | 23 => ⟨S1000000x1, .i32⟩
  | 24 => ⟨S2197000x3, .f32⟩
  | 25 => ⟨S2197000x3, .f32⟩
  | 26 => ⟨S_, .f32⟩
  | 27 => ⟨S2197000x1, .f32⟩
  | 28 => ⟨S1000000x1, .i32⟩
  | 29 => ⟨S2197000x1, .f32⟩
  | 30 => ⟨S2197000x1, .f32⟩
  | 31 => ⟨S1000000x1, .f32⟩
  | 32 => ⟨S1000000x1, .f32⟩
  | 33 => ⟨S1000000x1, .f32⟩
  | 34 => ⟨S1000000x1, .f32⟩
  | 35 => ⟨S1000000x1, .f32⟩
  | 36 => ⟨S1x3, .i32⟩
  | 37 => ⟨S1000000x3, .i32⟩
  | 38 => ⟨S1000000x3, .i32⟩
  | 39 => ⟨S1000000x1, .i32⟩
  | 40 => ⟨S1000000, .i32⟩
  | 41 => ⟨S_, .i32⟩
  | 42 => ⟨S1000000, .i32⟩
  | 43 => ⟨S1000000, .i32⟩
  | 44 => ⟨S1000000x1, .i32⟩
  | 45 => ⟨S1000000, .i32⟩
  | 46 => ⟨S_, .i32⟩
  | 47 => ⟨S1000000, .i32⟩
  | 48 => ⟨S1000000, .i32⟩
  | 49 => ⟨S1000000, .i32⟩
  | 50 => ⟨S1000000x1, .i32⟩
  | 51 => ⟨S1000000, .i32⟩
  | 52 => ⟨S1000000, .i32⟩
  | 53 => ⟨S1000000x3, .f32⟩
  | 54 => ⟨S1000000x3, .f32⟩
  | 55 => ⟨S_, .f32⟩
  | 56 => ⟨S2197000x3, .f32⟩
  | 57 => ⟨S1000000x1, .i32⟩
  | 58 => ⟨S2197000x3, .f32⟩
  | 59 => ⟨S2197000x3, .f32⟩
  | 60 => ⟨S_, .f32⟩
  | 61 => ⟨S2197000x1, .f32⟩
  | 62 => ⟨S1000000x1, .i32⟩
  | 63 => ⟨S2197000x1, .f32⟩
  | 64 => ⟨S2197000x1, .f32⟩
  | 65 => ⟨S1000000x1, .f32⟩
  | 66 => ⟨S1000000x1, .f32⟩
  | 67 => ⟨S1000000x1, .f32⟩
  | 68 => ⟨S1000000x1, .f32⟩
  | 69 => ⟨S1000000x1, .f32⟩
  | 70 => ⟨S1x3, .i32⟩
  | 71 => ⟨S1000000x3, .i32⟩
  | 72 => ⟨S1000000x3, .i32⟩
  | 73 => ⟨S1000000x1, .i32⟩
  | 74 => ⟨S1000000, .i32⟩
  | 75 => ⟨S_, .i32⟩
  | 76 => ⟨S1000000, .i32⟩
  | 77 => ⟨S1000000, .i32⟩
  | 78 => ⟨S1000000x1, .i32⟩
  | 79 => ⟨S1000000, .i32⟩
  | 80 => ⟨S_, .i32⟩
  | 81 => ⟨S1000000, .i32⟩
  | 82 => ⟨S1000000, .i32⟩
  | 83 => ⟨S1000000, .i32⟩
  | 84 => ⟨S1000000x1, .i32⟩
  | 85 => ⟨S1000000, .i32⟩
  | 86 => ⟨S1000000, .i32⟩
  | 87 => ⟨S1000000x3, .f32⟩
  | 88 => ⟨S1000000x3, .f32⟩
  | 89 => ⟨S_, .f32⟩
  | 90 => ⟨S2197000x3, .f32⟩
  | 91 => ⟨S1000000x1, .i32⟩
  | 92 => ⟨S2197000x3, .f32⟩
  | 93 => ⟨S2197000x3, .f32⟩
  | 94 => ⟨S_, .f32⟩
  | 95 => ⟨S2197000x1, .f32⟩
  | 96 => ⟨S1000000x1, .i32⟩
  | 97 => ⟨S2197000x1, .f32⟩
  | 98 => ⟨S2197000x1, .f32⟩
  | 99 => ⟨S1000000x1, .f32⟩
  | 100 => ⟨S1000000x1, .f32⟩
  | 101 => ⟨S1000000x1, .f32⟩
  | 102 => ⟨S1000000x1, .f32⟩
  | 103 => ⟨S1000000x1, .f32⟩
  | 104 => ⟨S1x3, .i32⟩
  | 105 => ⟨S1000000x3, .i32⟩
  | 106 => ⟨S1000000x3, .i32⟩
  | 107 => ⟨S1000000x1, .i32⟩
  | 108 => ⟨S1000000, .i32⟩
  | 109 => ⟨S_, .i32⟩
  | 110 => ⟨S1000000, .i32⟩
  | 111 => ⟨S1000000, .i32⟩
  | 112 => ⟨S1000000x1, .i32⟩
  | 113 => ⟨S1000000, .i32⟩
  | 114 => ⟨S_, .i32⟩
  | 115 => ⟨S1000000, .i32⟩
  | 116 => ⟨S1000000, .i32⟩
  | 117 => ⟨S1000000, .i32⟩
  | 118 => ⟨S1000000x1, .i32⟩
  | 119 => ⟨S1000000, .i32⟩
  | 120 => ⟨S1000000, .i32⟩
  | 121 => ⟨S1000000x3, .f32⟩
  | 122 => ⟨S1000000x3, .f32⟩
  | 123 => ⟨S_, .f32⟩
  | 124 => ⟨S2197000x3, .f32⟩
  | 125 => ⟨S1000000x1, .i32⟩
  | 126 => ⟨S2197000x3, .f32⟩
  | 127 => ⟨S2197000x3, .f32⟩
  | _ => ⟨S1000000x3, .f32⟩

abbrev hbmTy0_2 (i : Nat) : BufTy := match i % 128 with
  | 0 => ⟨S_, .f32⟩
  | 1 => ⟨S2197000x1, .f32⟩
  | 2 => ⟨S1000000x1, .i32⟩
  | 3 => ⟨S2197000x1, .f32⟩
  | 4 => ⟨S2197000x1, .f32⟩
  | 5 => ⟨S1000000x1, .f32⟩
  | 6 => ⟨S1000000x1, .f32⟩
  | 7 => ⟨S1000000x1, .f32⟩
  | 8 => ⟨S1000000x1, .f32⟩
  | 9 => ⟨S1000000x1, .f32⟩
  | 10 => ⟨S1x3, .i32⟩
  | 11 => ⟨S1000000x3, .i32⟩
  | 12 => ⟨S1000000x3, .i32⟩
  | 13 => ⟨S1000000x1, .i32⟩
  | 14 => ⟨S1000000, .i32⟩
  | 15 => ⟨S_, .i32⟩
  | 16 => ⟨S1000000, .i32⟩
  | 17 => ⟨S1000000, .i32⟩
  | 18 => ⟨S1000000x1, .i32⟩
  | 19 => ⟨S1000000, .i32⟩
  | 20 => ⟨S_, .i32⟩
  | 21 => ⟨S1000000, .i32⟩
  | 22 => ⟨S1000000, .i32⟩
  | 23 => ⟨S1000000, .i32⟩
  | 24 => ⟨S1000000x1, .i32⟩
  | 25 => ⟨S1000000, .i32⟩
  | 26 => ⟨S1000000, .i32⟩
  | 27 => ⟨S1000000x3, .f32⟩
  | 28 => ⟨S1000000x3, .f32⟩
  | 29 => ⟨S_, .f32⟩
  | 30 => ⟨S2197000x3, .f32⟩
  | 31 => ⟨S1000000x1, .i32⟩
  | 32 => ⟨S2197000x3, .f32⟩
  | 33 => ⟨S2197000x3, .f32⟩
  | 34 => ⟨S_, .f32⟩
  | 35 => ⟨S2197000x1, .f32⟩
  | 36 => ⟨S1000000x1, .i32⟩
  | 37 => ⟨S2197000x1, .f32⟩
  | 38 => ⟨S2197000x1, .f32⟩
  | 39 => ⟨S1000000x1, .f32⟩
  | 40 => ⟨S1000000x1, .f32⟩
  | 41 => ⟨S1000000x1, .f32⟩
  | 42 => ⟨S1000000x1, .f32⟩
  | 43 => ⟨S1000000x1, .f32⟩
  | 44 => ⟨S1x3, .i32⟩
  | 45 => ⟨S1000000x3, .i32⟩
  | 46 => ⟨S1000000x3, .i32⟩
  | 47 => ⟨S1000000x1, .i32⟩
  | 48 => ⟨S1000000, .i32⟩
  | 49 => ⟨S_, .i32⟩
  | 50 => ⟨S1000000, .i32⟩
  | 51 => ⟨S1000000, .i32⟩
  | 52 => ⟨S1000000x1, .i32⟩
  | 53 => ⟨S1000000, .i32⟩
  | 54 => ⟨S_, .i32⟩
  | 55 => ⟨S1000000, .i32⟩
  | 56 => ⟨S1000000, .i32⟩
  | 57 => ⟨S1000000, .i32⟩
  | 58 => ⟨S1000000x1, .i32⟩
  | 59 => ⟨S1000000, .i32⟩
  | 60 => ⟨S1000000, .i32⟩
  | 61 => ⟨S1000000x3, .f32⟩
  | 62 => ⟨S1000000x3, .f32⟩
  | 63 => ⟨S_, .f32⟩
  | 64 => ⟨S2197000x3, .f32⟩
  | 65 => ⟨S1000000x1, .i32⟩
  | 66 => ⟨S2197000x3, .f32⟩
  | 67 => ⟨S2197000x3, .f32⟩
  | 68 => ⟨S_, .f32⟩
  | 69 => ⟨S2197000x1, .f32⟩
  | 70 => ⟨S1000000x1, .i32⟩
  | 71 => ⟨S2197000x1, .f32⟩
  | 72 => ⟨S2197000x1, .f32⟩
  | 73 => ⟨S1000000x1, .f32⟩
  | 74 => ⟨S1000000x1, .f32⟩
  | 75 => ⟨S1000000x1, .f32⟩
  | 76 => ⟨S1000000x1, .f32⟩
  | 77 => ⟨S1000000x1, .f32⟩
  | 78 => ⟨S1x3, .i32⟩
  | 79 => ⟨S1000000x3, .i32⟩
  | 80 => ⟨S1000000x3, .i32⟩
  | 81 => ⟨S1000000x1, .i32⟩
  | 82 => ⟨S1000000, .i32⟩
  | 83 => ⟨S_, .i32⟩
  | 84 => ⟨S1000000, .i32⟩
  | 85 => ⟨S1000000, .i32⟩
  | 86 => ⟨S1000000x1, .i32⟩
  | 87 => ⟨S1000000, .i32⟩
  | 88 => ⟨S_, .i32⟩
  | 89 => ⟨S1000000, .i32⟩
  | 90 => ⟨S1000000, .i32⟩
  | 91 => ⟨S1000000, .i32⟩
  | 92 => ⟨S1000000x1, .i32⟩
  | 93 => ⟨S1000000, .i32⟩
  | 94 => ⟨S1000000, .i32⟩
  | 95 => ⟨S1000000x3, .f32⟩
  | 96 => ⟨S1000000x3, .f32⟩
  | 97 => ⟨S_, .f32⟩
  | 98 => ⟨S2197000x3, .f32⟩
  | 99 => ⟨S1000000x1, .i32⟩
  | 100 => ⟨S2197000x3, .f32⟩
  | 101 => ⟨S2197000x3, .f32⟩
  | 102 => ⟨S_, .f32⟩
  | 103 => ⟨S2197000x1, .f32⟩
  | 104 => ⟨S1000000x1, .i32⟩
  | 105 => ⟨S2197000x1, .f32⟩
  | 106 => ⟨S2197000x1, .f32⟩
  | 107 => ⟨S1000000x1, .f32⟩
  | 108 => ⟨S1000000x1, .f32⟩
  | 109 => ⟨S1000000x1, .f32⟩
  | 110 => ⟨S1000000x1, .f32⟩
  | 111 => ⟨S1000000x1, .f32⟩
  | 112 => ⟨S1x3, .i32⟩
  | 113 => ⟨S1000000x3, .i32⟩
  | 114 => ⟨S1000000x3, .i32⟩
  | 115 => ⟨S1000000x1, .i32⟩
  | 116 => ⟨S1000000, .i32⟩
  | 117 => ⟨S_, .i32⟩
  | 118 => ⟨S1000000, .i32⟩
  | 119 => ⟨S1000000, .i32⟩
  | 120 => ⟨S1000000x1, .i32⟩
  | 121 => ⟨S1000000, .i32⟩
  | 122 => ⟨S_, .i32⟩
  | 123 => ⟨S1000000, .i32⟩
  | 124 => ⟨S1000000, .i32⟩
  | 125 => ⟨S1000000, .i32⟩
  | 126 => ⟨S1000000x1, .i32⟩
  | 127 => ⟨S1000000, .i32⟩
  | _ => ⟨S1000000x3, .f32⟩

abbrev hbmTy0_3 (i : Nat) : BufTy := match i % 128 with
  | 0 => ⟨S1000000, .i32⟩
  | 1 => ⟨S1000000x3, .f32⟩
  | 2 => ⟨S1000000x3, .f32⟩
  | 3 => ⟨S_, .f32⟩
  | 4 => ⟨S2197000x3, .f32⟩
  | 5 => ⟨S1000000x1, .i32⟩
  | 6 => ⟨S2197000x3, .f32⟩
  | 7 => ⟨S2197000x3, .f32⟩
  | 8 => ⟨S_, .f32⟩
  | 9 => ⟨S2197000x1, .f32⟩
  | 10 => ⟨S1000000x1, .i32⟩
  | 11 => ⟨S2197000x1, .f32⟩
  | 12 => ⟨S2197000x1, .f32⟩
  | 13 => ⟨S1000000x1, .f32⟩
  | 14 => ⟨S1000000x1, .f32⟩
  | 15 => ⟨S1000000x1, .f32⟩
  | 16 => ⟨S1000000x1, .f32⟩
  | 17 => ⟨S1000000x1, .f32⟩
  | 18 => ⟨S1x3, .i32⟩
  | 19 => ⟨S1000000x3, .i32⟩
  | 20 => ⟨S1000000x3, .i32⟩
  | 21 => ⟨S1000000x1, .i32⟩
  | 22 => ⟨S1000000, .i32⟩
  | 23 => ⟨S_, .i32⟩
  | 24 => ⟨S1000000, .i32⟩
  | 25 => ⟨S1000000, .i32⟩
  | 26 => ⟨S1000000x1, .i32⟩
  | 27 => ⟨S1000000, .i32⟩
  | 28 => ⟨S_, .i32⟩
  | 29 => ⟨S1000000, .i32⟩
  | 30 => ⟨S1000000, .i32⟩
  | 31 => ⟨S1000000, .i32⟩
  | 32 => ⟨S1000000x1, .i32⟩
  | 33 => ⟨S1000000, .i32⟩
  | 34 => ⟨S1000000, .i32⟩
  | 35 => ⟨S1000000x3, .f32⟩
  | 36 => ⟨S1000000x3, .f32⟩
  | 37 => ⟨S_, .f32⟩
  | 38 => ⟨S2197000x3, .f32⟩
  | 39 => ⟨S1000000x1, .i32⟩
  | 40 => ⟨S2197000x3, .f32⟩
  | 41 => ⟨S2197000x3, .f32⟩
  | 42 => ⟨S_, .f32⟩
  | 43 => ⟨S2197000x1, .f32⟩
  | 44 => ⟨S1000000x1, .i32⟩
  | 45 => ⟨S2197000x1, .f32⟩
  | 46 => ⟨S2197000x1, .f32⟩
  | 47 => ⟨S1000000x1, .f32⟩
  | 48 => ⟨S1000000x1, .f32⟩
  | 49 => ⟨S1000000x1, .f32⟩
  | 50 => ⟨S1000000x1, .f32⟩
  | 51 => ⟨S1000000x1, .f32⟩
  | 52 => ⟨S1x3, .i32⟩
  | 53 => ⟨S1000000x3, .i32⟩
  | 54 => ⟨S1000000x3, .i32⟩
  | 55 => ⟨S1000000x1, .i32⟩
  | 56 => ⟨S1000000, .i32⟩
  | 57 => ⟨S_, .i32⟩
  | 58 => ⟨S1000000, .i32⟩
  | 59 => ⟨S1000000, .i32⟩
  | 60 => ⟨S1000000x1, .i32⟩
  | 61 => ⟨S1000000, .i32⟩
  | 62 => ⟨S_, .i32⟩
  | 63 => ⟨S1000000, .i32⟩
  | 64 => ⟨S1000000, .i32⟩
  | 65 => ⟨S1000000, .i32⟩
  | 66 => ⟨S1000000x1, .i32⟩
  | 67 => ⟨S1000000, .i32⟩
  | 68 => ⟨S1000000, .i32⟩
  | 69 => ⟨S1000000x3, .f32⟩
  | 70 => ⟨S1000000x3, .f32⟩
  | 71 => ⟨S_, .f32⟩
  | 72 => ⟨S2197000x3, .f32⟩
  | 73 => ⟨S1000000x1, .i32⟩
  | 74 => ⟨S2197000x3, .f32⟩
  | 75 => ⟨S2197000x3, .f32⟩
  | 76 => ⟨S_, .f32⟩
  | 77 => ⟨S2197000x1, .f32⟩
  | 78 => ⟨S1000000x1, .i32⟩
  | 79 => ⟨S2197000x1, .f32⟩
  | 80 => ⟨S2197000x1, .f32⟩
  | 81 => ⟨S1000000x1, .f32⟩
  | 82 => ⟨S1000000x1, .f32⟩
  | 83 => ⟨S1000000x1, .f32⟩
  | 84 => ⟨S1000000x1, .f32⟩
  | 85 => ⟨S1000000x1, .f32⟩
  | 86 => ⟨S1x3, .i32⟩
  | 87 => ⟨S1000000x3, .i32⟩
  | 88 => ⟨S1000000x3, .i32⟩
  | 89 => ⟨S1000000x1, .i32⟩
  | 90 => ⟨S1000000, .i32⟩
  | 91 => ⟨S_, .i32⟩
  | 92 => ⟨S1000000, .i32⟩
  | 93 => ⟨S1000000, .i32⟩
  | 94 => ⟨S1000000x1, .i32⟩
  | 95 => ⟨S1000000, .i32⟩
  | 96 => ⟨S_, .i32⟩
  | 97 => ⟨S1000000, .i32⟩
  | 98 => ⟨S1000000, .i32⟩
  | 99 => ⟨S1000000, .i32⟩
  | 100 => ⟨S1000000x1, .i32⟩
  | 101 => ⟨S1000000, .i32⟩
  | 102 => ⟨S1000000, .i32⟩
  | 103 => ⟨S1000000x3, .f32⟩
  | 104 => ⟨S1000000x3, .f32⟩
  | 105 => ⟨S_, .f32⟩
  | 106 => ⟨S2197000x3, .f32⟩
  | 107 => ⟨S1000000x1, .i32⟩
  | 108 => ⟨S2197000x3, .f32⟩
  | 109 => ⟨S2197000x3, .f32⟩
  | 110 => ⟨S_, .f32⟩
  | 111 => ⟨S2197000x1, .f32⟩
  | 112 => ⟨S1000000x1, .i32⟩
  | 113 => ⟨S2197000x1, .f32⟩
  | 114 => ⟨S2197000x1, .f32⟩
  | 115 => ⟨S1000000x1, .f32⟩
  | 116 => ⟨S1000000x1, .f32⟩
  | 117 => ⟨S1000000x1, .f32⟩
  | 118 => ⟨S1000000x1, .f32⟩
  | 119 => ⟨S1000000x1, .f32⟩
  | 120 => ⟨S1x3, .i32⟩
  | 121 => ⟨S1000000x3, .i32⟩
  | 122 => ⟨S1000000x3, .i32⟩
  | 123 => ⟨S1000000x1, .i32⟩
  | 124 => ⟨S1000000, .i32⟩
  | 125 => ⟨S_, .i32⟩
  | 126 => ⟨S1000000, .i32⟩
  | 127 => ⟨S1000000, .i32⟩
  | _ => ⟨S1000000x3, .f32⟩

abbrev hbmTy0_4 (i : Nat) : BufTy := match i % 128 with
  | 0 => ⟨S1000000x1, .i32⟩
  | 1 => ⟨S1000000, .i32⟩
  | 2 => ⟨S_, .i32⟩
  | 3 => ⟨S1000000, .i32⟩
  | 4 => ⟨S1000000, .i32⟩
  | 5 => ⟨S1000000, .i32⟩
  | 6 => ⟨S1000000x1, .i32⟩
  | 7 => ⟨S1000000, .i32⟩
  | 8 => ⟨S1000000, .i32⟩
  | 9 => ⟨S1000000x3, .f32⟩
  | 10 => ⟨S1000000x3, .f32⟩
  | 11 => ⟨S_, .f32⟩
  | 12 => ⟨S2197000x3, .f32⟩
  | 13 => ⟨S1000000x1, .i32⟩
  | 14 => ⟨S2197000x3, .f32⟩
  | 15 => ⟨S2197000x3, .f32⟩
  | 16 => ⟨S_, .f32⟩
  | 17 => ⟨S2197000x1, .f32⟩
  | 18 => ⟨S1000000x1, .i32⟩
  | 19 => ⟨S2197000x1, .f32⟩
  | 20 => ⟨S2197000x1, .f32⟩
  | 21 => ⟨S1000000x1, .f32⟩
  | 22 => ⟨S1000000x1, .f32⟩
  | 23 => ⟨S1000000x1, .f32⟩
  | 24 => ⟨S1000000x1, .f32⟩
  | 25 => ⟨S1000000x1, .f32⟩
  | 26 => ⟨S1x3, .i32⟩
  | 27 => ⟨S1000000x3, .i32⟩
  | 28 => ⟨S1000000x3, .i32⟩
  | 29 => ⟨S1000000x1, .i32⟩
  | 30 => ⟨S1000000, .i32⟩
  | 31 => ⟨S_, .i32⟩
  | 32 => ⟨S1000000, .i32⟩
  | 33 => ⟨S1000000, .i32⟩
  | 34 => ⟨S1000000x1, .i32⟩
  | 35 => ⟨S1000000, .i32⟩
  | 36 => ⟨S_, .i32⟩
  | 37 => ⟨S1000000, .i32⟩
  | 38 => ⟨S1000000, .i32⟩
  | 39 => ⟨S1000000, .i32⟩
  | 40 => ⟨S1000000x1, .i32⟩
  | 41 => ⟨S1000000, .i32⟩
  | 42 => ⟨S1000000, .i32⟩
  | 43 => ⟨S1000000x3, .f32⟩
  | 44 => ⟨S1000000x3, .f32⟩
  | 45 => ⟨S_, .f32⟩
  | 46 => ⟨S2197000x3, .f32⟩
  | 47 => ⟨S1000000x1, .i32⟩
  | 48 => ⟨S2197000x3, .f32⟩
  | 49 => ⟨S2197000x3, .f32⟩
  | 50 => ⟨S_, .f32⟩
  | 51 => ⟨S2197000x1, .f32⟩
  | 52 => ⟨S1000000x1, .i32⟩
  | 53 => ⟨S2197000x1, .f32⟩
  | 54 => ⟨S2197000x1, .f32⟩
  | 55 => ⟨S1000000x1, .f32⟩
  | 56 => ⟨S1000000x1, .f32⟩
  | 57 => ⟨S1000000x1, .f32⟩
  | 58 => ⟨S1000000x1, .f32⟩
  | 59 => ⟨S1000000x1, .f32⟩
  | 60 => ⟨S1x3, .i32⟩
  | 61 => ⟨S1000000x3, .i32⟩
  | 62 => ⟨S1000000x3, .i32⟩
  | 63 => ⟨S1000000x1, .i32⟩
  | 64 => ⟨S1000000, .i32⟩
  | 65 => ⟨S_, .i32⟩
  | 66 => ⟨S1000000, .i32⟩
  | 67 => ⟨S1000000, .i32⟩
  | 68 => ⟨S1000000x1, .i32⟩
  | 69 => ⟨S1000000, .i32⟩
  | 70 => ⟨S_, .i32⟩
  | 71 => ⟨S1000000, .i32⟩
  | 72 => ⟨S1000000, .i32⟩
  | 73 => ⟨S1000000, .i32⟩
  | 74 => ⟨S1000000x1, .i32⟩
  | 75 => ⟨S1000000, .i32⟩
  | 76 => ⟨S1000000, .i32⟩
  | 77 => ⟨S1000000x3, .f32⟩
  | 78 => ⟨S1000000x3, .f32⟩
  | 79 => ⟨S_, .f32⟩
  | 80 => ⟨S2197000x3, .f32⟩
  | 81 => ⟨S1000000x1, .i32⟩
  | 82 => ⟨S2197000x3, .f32⟩
  | 83 => ⟨S2197000x3, .f32⟩
  | 84 => ⟨S_, .f32⟩
  | 85 => ⟨S2197000x1, .f32⟩
  | 86 => ⟨S1000000x1, .i32⟩
  | 87 => ⟨S2197000x1, .f32⟩
  | 88 => ⟨S2197000x1, .f32⟩
  | 89 => ⟨S1000000x1, .f32⟩
  | 90 => ⟨S1000000x1, .f32⟩
  | 91 => ⟨S1000000x1, .f32⟩
  | 92 => ⟨S1000000x1, .f32⟩
  | 93 => ⟨S1000000x1, .f32⟩
  | 94 => ⟨S1x3, .i32⟩
  | 95 => ⟨S1000000x3, .i32⟩
  | 96 => ⟨S1000000x3, .i32⟩
  | 97 => ⟨S1000000x1, .i32⟩
  | 98 => ⟨S1000000, .i32⟩
  | 99 => ⟨S_, .i32⟩
  | 100 => ⟨S1000000, .i32⟩
  | 101 => ⟨S1000000, .i32⟩
  | 102 => ⟨S1000000x1, .i32⟩
  | 103 => ⟨S1000000, .i32⟩
  | 104 => ⟨S_, .i32⟩
  | 105 => ⟨S1000000, .i32⟩
  | 106 => ⟨S1000000, .i32⟩
  | 107 => ⟨S1000000, .i32⟩
  | 108 => ⟨S1000000x1, .i32⟩
  | 109 => ⟨S1000000, .i32⟩
  | 110 => ⟨S1000000, .i32⟩
  | 111 => ⟨S1000000x3, .f32⟩
  | 112 => ⟨S1000000x3, .f32⟩
  | 113 => ⟨S_, .f32⟩
  | 114 => ⟨S2197000x3, .f32⟩
  | 115 => ⟨S1000000x1, .i32⟩
  | 116 => ⟨S2197000x3, .f32⟩
  | 117 => ⟨S2197000x3, .f32⟩
  | 118 => ⟨S_, .f32⟩
  | 119 => ⟨S2197000x1, .f32⟩
  | 120 => ⟨S1000000x1, .i32⟩
  | 121 => ⟨S2197000x1, .f32⟩
  | 122 => ⟨S2197000x1, .f32⟩
  | 123 => ⟨S1000000x1, .f32⟩
  | 124 => ⟨S1000000x1, .f32⟩
  | 125 => ⟨S1000000x1, .f32⟩
  | 126 => ⟨S1000000x1, .f32⟩
  | 127 => ⟨S1000000x1, .f32⟩
  | _ => ⟨S1000000x3, .f32⟩

abbrev hbmTy0_5 (i : Nat) : BufTy := match i % 128 with
  | 0 => ⟨S1x3, .i32⟩
  | 1 => ⟨S1000000x3, .i32⟩
  | 2 => ⟨S1000000x3, .i32⟩
  | 3 => ⟨S1000000x1, .i32⟩
  | 4 => ⟨S1000000, .i32⟩
  | 5 => ⟨S_, .i32⟩
  | 6 => ⟨S1000000, .i32⟩
  | 7 => ⟨S1000000, .i32⟩
  | 8 => ⟨S1000000x1, .i32⟩
  | 9 => ⟨S1000000, .i32⟩
  | 10 => ⟨S_, .i32⟩
  | 11 => ⟨S1000000, .i32⟩
  | 12 => ⟨S1000000, .i32⟩
  | 13 => ⟨S1000000, .i32⟩
  | 14 => ⟨S1000000x1, .i32⟩
  | 15 => ⟨S1000000, .i32⟩
  | 16 => ⟨S1000000, .i32⟩
  | 17 => ⟨S1000000x3, .f32⟩
  | 18 => ⟨S1000000x3, .f32⟩
  | 19 => ⟨S_, .f32⟩
  | 20 => ⟨S2197000x3, .f32⟩
  | 21 => ⟨S1000000x1, .i32⟩
  | 22 => ⟨S2197000x3, .f32⟩
  | 23 => ⟨S2197000x3, .f32⟩
  | 24 => ⟨S_, .f32⟩
  | 25 => ⟨S2197000x1, .f32⟩
  | 26 => ⟨S1000000x1, .i32⟩
  | 27 => ⟨S2197000x1, .f32⟩
  | 28 => ⟨S2197000x1, .f32⟩
  | 29 => ⟨S1000000x1, .f32⟩
  | 30 => ⟨S1000000x1, .f32⟩
  | 31 => ⟨S1000000x1, .f32⟩
  | 32 => ⟨S1000000x1, .f32⟩
  | 33 => ⟨S1000000x1, .f32⟩
  | 34 => ⟨S1x3, .i32⟩
  | 35 => ⟨S1000000x3, .i32⟩
  | 36 => ⟨S1000000x3, .i32⟩
  | 37 => ⟨S1000000x1, .i32⟩
  | 38 => ⟨S1000000, .i32⟩
  | 39 => ⟨S_, .i32⟩
  | 40 => ⟨S1000000, .i32⟩
  | 41 => ⟨S1000000, .i32⟩
  | 42 => ⟨S1000000x1, .i32⟩
  | 43 => ⟨S1000000, .i32⟩
  | 44 => ⟨S_, .i32⟩
  | 45 => ⟨S1000000, .i32⟩
  | 46 => ⟨S1000000, .i32⟩
  | 47 => ⟨S1000000, .i32⟩
  | 48 => ⟨S1000000x1, .i32⟩
  | 49 => ⟨S1000000, .i32⟩
  | 50 => ⟨S1000000, .i32⟩
  | 51 => ⟨S1000000x3, .f32⟩
  | 52 => ⟨S1000000x3, .f32⟩
  | 53 => ⟨S_, .f32⟩
  | 54 => ⟨S2197000x3, .f32⟩
  | 55 => ⟨S1000000x1, .i32⟩
  | 56 => ⟨S2197000x3, .f32⟩
  | 57 => ⟨S2197000x3, .f32⟩
  | 58 => ⟨S_, .f32⟩
  | 59 => ⟨S2197000x1, .f32⟩
  | 60 => ⟨S1000000x1, .i32⟩
  | 61 => ⟨S2197000x1, .f32⟩
  | 62 => ⟨S2197000x1, .f32⟩
  | 63 => ⟨S1000000x1, .f32⟩
  | 64 => ⟨S1000000x1, .f32⟩
  | 65 => ⟨S1000000x1, .f32⟩
  | 66 => ⟨S1000000x1, .f32⟩
  | 67 => ⟨S1000000x1, .f32⟩
  | 68 => ⟨S1x3, .i32⟩
  | 69 => ⟨S1000000x3, .i32⟩
  | 70 => ⟨S1000000x3, .i32⟩
  | 71 => ⟨S1000000x1, .i32⟩
  | 72 => ⟨S1000000, .i32⟩
  | 73 => ⟨S_, .i32⟩
  | 74 => ⟨S1000000, .i32⟩
  | 75 => ⟨S1000000, .i32⟩
  | 76 => ⟨S1000000x1, .i32⟩
  | 77 => ⟨S1000000, .i32⟩
  | 78 => ⟨S_, .i32⟩
  | 79 => ⟨S1000000, .i32⟩
  | 80 => ⟨S1000000, .i32⟩
  | 81 => ⟨S1000000, .i32⟩
  | 82 => ⟨S1000000x1, .i32⟩
  | 83 => ⟨S1000000, .i32⟩
  | 84 => ⟨S1000000, .i32⟩
  | 85 => ⟨S1000000x3, .f32⟩
  | 86 => ⟨S1000000x3, .f32⟩
  | 87 => ⟨S_, .f32⟩
  | 88 => ⟨S2197000x3, .f32⟩
  | 89 => ⟨S1000000x1, .i32⟩
  | 90 => ⟨S2197000x3, .f32⟩
  | 91 => ⟨S2197000x3, .f32⟩
  | 92 => ⟨S_, .f32⟩
  | 93 => ⟨S2197000x1, .f32⟩
  | 94 => ⟨S1000000x1, .i32⟩
  | 95 => ⟨S2197000x1, .f32⟩
  | 96 => ⟨S2197000x1, .f32⟩
  | 97 => ⟨S1000000x1, .f32⟩
  | 98 => ⟨S1000000x1, .f32⟩
  | 99 => ⟨S1000000x1, .f32⟩
  | 100 => ⟨S1000000x1, .f32⟩
  | 101 => ⟨S1000000x1, .f32⟩
  | 102 => ⟨S1x3, .i32⟩
  | 103 => ⟨S1000000x3, .i32⟩
  | 104 => ⟨S1000000x3, .i32⟩
  | 105 => ⟨S1000000x1, .i32⟩
  | 106 => ⟨S1000000, .i32⟩
  | 107 => ⟨S_, .i32⟩
  | 108 => ⟨S1000000, .i32⟩
  | 109 => ⟨S1000000, .i32⟩
  | 110 => ⟨S1000000x1, .i32⟩
  | 111 => ⟨S1000000, .i32⟩
  | 112 => ⟨S_, .i32⟩
  | 113 => ⟨S1000000, .i32⟩
  | 114 => ⟨S1000000, .i32⟩
  | 115 => ⟨S1000000, .i32⟩
  | 116 => ⟨S1000000x1, .i32⟩
  | 117 => ⟨S1000000, .i32⟩
  | 118 => ⟨S1000000, .i32⟩
  | 119 => ⟨S1000000x3, .f32⟩
  | 120 => ⟨S1000000x3, .f32⟩
  | 121 => ⟨S_, .f32⟩
  | 122 => ⟨S2197000x3, .f32⟩
  | 123 => ⟨S1000000x1, .i32⟩
  | 124 => ⟨S2197000x3, .f32⟩
  | 125 => ⟨S2197000x3, .f32⟩
  | 126 => ⟨S_, .f32⟩
  | 127 => ⟨S2197000x1, .f32⟩
  | _ => ⟨S1000000x3, .f32⟩

abbrev hbmTy0_6 (i : Nat) : BufTy := match i % 128 with
  | 0 => ⟨S1000000x1, .i32⟩
  | 1 => ⟨S2197000x1, .f32⟩
  | 2 => ⟨S2197000x1, .f32⟩
  | 3 => ⟨S1000000x1, .f32⟩
  | 4 => ⟨S1000000x1, .f32⟩
  | 5 => ⟨S1000000x1, .f32⟩
  | 6 => ⟨S1000000x1, .f32⟩
  | 7 => ⟨S1000000x1, .f32⟩
  | 8 => ⟨S1x3, .i32⟩
  | 9 => ⟨S1000000x3, .i32⟩
  | 10 => ⟨S1000000x3, .i32⟩
  | 11 => ⟨S1000000x1, .i32⟩
  | 12 => ⟨S1000000, .i32⟩
  | 13 => ⟨S_, .i32⟩
  | 14 => ⟨S1000000, .i32⟩
  | 15 => ⟨S1000000, .i32⟩
  | 16 => ⟨S1000000x1, .i32⟩
  | 17 => ⟨S1000000, .i32⟩
  | 18 => ⟨S_, .i32⟩
  | 19 => ⟨S1000000, .i32⟩
  | 20 => ⟨S1000000, .i32⟩
  | 21 => ⟨S1000000, .i32⟩
  | 22 => ⟨S1000000x1, .i32⟩
  | 23 => ⟨S1000000, .i32⟩
  | 24 => ⟨S1000000, .i32⟩
  | 25 => ⟨S1000000x3, .f32⟩
  | 26 => ⟨S1000000x3, .f32⟩
  | 27 => ⟨S_, .f32⟩
  | 28 => ⟨S2197000x3, .f32⟩
  | 29 => ⟨S1000000x1, .i32⟩
  | 30 => ⟨S2197000x3, .f32⟩
  | 31 => ⟨S2197000x3, .f32⟩
  | 32 => ⟨S_, .f32⟩
  | 33 => ⟨S2197000x1, .f32⟩
  | 34 => ⟨S1000000x1, .i32⟩
  | 35 => ⟨S2197000x1, .f32⟩
  | 36 => ⟨S2197000x1, .f32⟩
  | 37 => ⟨S1000000x1, .f32⟩
  | 38 => ⟨S1000000x1, .f32⟩
  | 39 => ⟨S1000000x1, .f32⟩
  | 40 => ⟨S1000000x1, .f32⟩
  | 41 => ⟨S1000000x1, .f32⟩
  | 42 => ⟨S1x3, .i32⟩
  | 43 => ⟨S1000000x3, .i32⟩
  | 44 => ⟨S1000000x3, .i32⟩
  | 45 => ⟨S1000000x1, .i32⟩
  | 46 => ⟨S1000000, .i32⟩
  | 47 => ⟨S_, .i32⟩
  | 48 => ⟨S1000000, .i32⟩
  | 49 => ⟨S1000000, .i32⟩
  | 50 => ⟨S1000000x1, .i32⟩
  | 51 => ⟨S1000000, .i32⟩
  | 52 => ⟨S_, .i32⟩
  | 53 => ⟨S1000000, .i32⟩
  | 54 => ⟨S1000000, .i32⟩
  | 55 => ⟨S1000000, .i32⟩
  | 56 => ⟨S1000000x1, .i32⟩
  | 57 => ⟨S1000000, .i32⟩
  | 58 => ⟨S1000000, .i32⟩
  | 59 => ⟨S1000000x3, .f32⟩
  | 60 => ⟨S1000000x3, .f32⟩
  | 61 => ⟨S_, .f32⟩
  | 62 => ⟨S2197000x3, .f32⟩
  | 63 => ⟨S1000000x1, .i32⟩
  | 64 => ⟨S2197000x3, .f32⟩
  | 65 => ⟨S2197000x3, .f32⟩
  | 66 => ⟨S_, .f32⟩
  | 67 => ⟨S2197000x1, .f32⟩
  | 68 => ⟨S1000000x1, .i32⟩
  | 69 => ⟨S2197000x1, .f32⟩
  | 70 => ⟨S2197000x1, .f32⟩
  | 71 => ⟨S1000000x1, .f32⟩
  | 72 => ⟨S1000000x1, .f32⟩
  | 73 => ⟨S1000000x1, .f32⟩
  | 74 => ⟨S1000000x1, .f32⟩
  | 75 => ⟨S1000000x1, .f32⟩
  | 76 => ⟨S1x3, .i32⟩
  | 77 => ⟨S1000000x3, .i32⟩
  | 78 => ⟨S1000000x3, .i32⟩
  | 79 => ⟨S1000000x1, .i32⟩
  | 80 => ⟨S1000000, .i32⟩
  | 81 => ⟨S_, .i32⟩
  | 82 => ⟨S1000000, .i32⟩
  | 83 => ⟨S1000000, .i32⟩
  | 84 => ⟨S1000000x1, .i32⟩
  | 85 => ⟨S1000000, .i32⟩
  | 86 => ⟨S_, .i32⟩
  | 87 => ⟨S1000000, .i32⟩
  | 88 => ⟨S1000000, .i32⟩
  | 89 => ⟨S1000000, .i32⟩
  | 90 => ⟨S1000000x1, .i32⟩
  | 91 => ⟨S1000000, .i32⟩
  | 92 => ⟨S1000000, .i32⟩
  | 93 => ⟨S1000000x3, .f32⟩
  | 94 => ⟨S1000000x3, .f32⟩
  | 95 => ⟨S_, .f32⟩
  | 96 => ⟨S2197000x3, .f32⟩
  | 97 => ⟨S1000000x1, .i32⟩
  | 98 => ⟨S2197000x3, .f32⟩
  | 99 => ⟨S2197000x3, .f32⟩
  | 100 => ⟨S_, .f32⟩
  | 101 => ⟨S2197000x1, .f32⟩
  | 102 => ⟨S1000000x1, .i32⟩
  | 103 => ⟨S2197000x1, .f32⟩
  | 104 => ⟨S2197000x1, .f32⟩
  | 105 => ⟨S1000000x1, .f32⟩
  | 106 => ⟨S1000000x1, .f32⟩
  | 107 => ⟨S1000000x1, .f32⟩
  | 108 => ⟨S1000000x1, .f32⟩
  | 109 => ⟨S1000000x1, .f32⟩
  | 110 => ⟨S1x3, .i32⟩
  | 111 => ⟨S1000000x3, .i32⟩
  | 112 => ⟨S1000000x3, .i32⟩
  | 113 => ⟨S1000000x1, .i32⟩
  | 114 => ⟨S1000000, .i32⟩
  | 115 => ⟨S_, .i32⟩
  | 116 => ⟨S1000000, .i32⟩
  | 117 => ⟨S1000000, .i32⟩
  | 118 => ⟨S1000000x1, .i32⟩
  | 119 => ⟨S1000000, .i32⟩
  | 120 => ⟨S_, .i32⟩
  | 121 => ⟨S1000000, .i32⟩
  | 122 => ⟨S1000000, .i32⟩
  | 123 => ⟨S1000000, .i32⟩
  | 124 => ⟨S1000000x1, .i32⟩
  | 125 => ⟨S1000000, .i32⟩
  | 126 => ⟨S1000000, .i32⟩
  | 127 => ⟨S1000000x3, .f32⟩
  | _ => ⟨S1000000x3, .f32⟩

abbrev hbmTy0_7 (i : Nat) : BufTy := match i % 128 with
  | 0 => ⟨S1000000x3, .f32⟩
  | 1 => ⟨S_, .f32⟩
  | 2 => ⟨S2197000x3, .f32⟩
  | 3 => ⟨S1000000x1, .i32⟩
  | 4 => ⟨S2197000x3, .f32⟩
  | 5 => ⟨S2197000x3, .f32⟩
  | 6 => ⟨S_, .f32⟩
  | 7 => ⟨S2197000x1, .f32⟩
  | 8 => ⟨S1000000x1, .i32⟩
  | 9 => ⟨S2197000x1, .f32⟩
  | 10 => ⟨S2197000x1, .f32⟩
  | 11 => ⟨S1000000x1, .f32⟩
  | 12 => ⟨S1000000x1, .f32⟩
  | 13 => ⟨S1000000x1, .f32⟩
  | 14 => ⟨S1000000x1, .f32⟩
  | 15 => ⟨S1000000x1, .f32⟩
  | 16 => ⟨S1x3, .i32⟩
  | 17 => ⟨S1000000x3, .i32⟩
  | 18 => ⟨S1000000x3, .i32⟩
  | 19 => ⟨S1000000x1, .i32⟩
  | 20 => ⟨S1000000, .i32⟩
  | 21 => ⟨S_, .i32⟩
  | 22 => ⟨S1000000, .i32⟩
  | 23 => ⟨S1000000, .i32⟩
  | 24 => ⟨S1000000x1, .i32⟩
  | 25 => ⟨S1000000, .i32⟩
  | 26 => ⟨S_, .i32⟩
  | 27 => ⟨S1000000, .i32⟩
  | 28 => ⟨S1000000, .i32⟩
  | 29 => ⟨S1000000, .i32⟩
  | 30 => ⟨S1000000x1, .i32⟩
  | 31 => ⟨S1000000, .i32⟩
  | 32 => ⟨S1000000, .i32⟩
  | 33 => ⟨S1000000x3, .f32⟩
  | 34 => ⟨S1000000x3, .f32⟩
  | 35 => ⟨S_, .f32⟩
  | 36 => ⟨S2197000x3, .f32⟩
  | 37 => ⟨S1000000x1, .i32⟩
  | 38 => ⟨S2197000x3, .f32⟩
  | 39 => ⟨S2197000x3, .f32⟩
  | 40 => ⟨S_, .f32⟩
  | 41 => ⟨S2197000x1, .f32⟩
  | 42 => ⟨S1000000x1, .i32⟩
  | 43 => ⟨S2197000x1, .f32⟩
  | 44 => ⟨S2197000x1, .f32⟩
  | 45 => ⟨S1000000x1, .f32⟩
  | 46 => ⟨S1000000x1, .f32⟩
  | 47 => ⟨S1000000x1, .f32⟩
  | 48 => ⟨S1000000x1, .f32⟩
  | 49 => ⟨S1000000x1, .f32⟩
  | 50 => ⟨S1x3, .i32⟩
  | 51 => ⟨S1000000x3, .i32⟩
  | 52 => ⟨S1000000x3, .i32⟩
  | 53 => ⟨S1000000x1, .i32⟩
  | 54 => ⟨S1000000, .i32⟩
  | 55 => ⟨S_, .i32⟩
  | 56 => ⟨S1000000, .i32⟩
  | 57 => ⟨S1000000, .i32⟩
  | 58 => ⟨S1000000x1, .i32⟩
  | 59 => ⟨S1000000, .i32⟩
  | 60 => ⟨S_, .i32⟩
  | 61 => ⟨S1000000, .i32⟩
  | 62 => ⟨S1000000, .i32⟩
  | 63 => ⟨S1000000, .i32⟩
  | 64 => ⟨S1000000x1, .i32⟩
  | 65 => ⟨S1000000, .i32⟩
  | 66 => ⟨S1000000, .i32⟩
  | 67 => ⟨S1000000x3, .f32⟩
  | 68 => ⟨S1000000x3, .f32⟩
  | 69 => ⟨S_, .f32⟩
  | 70 => ⟨S2197000x3, .f32⟩
  | 71 => ⟨S1000000x1, .i32⟩
  | 72 => ⟨S2197000x3, .f32⟩
  | 73 => ⟨S2197000x3, .f32⟩
  | 74 => ⟨S_, .f32⟩
  | 75 => ⟨S2197000x1, .f32⟩
  | 76 => ⟨S1000000x1, .i32⟩
  | 77 => ⟨S2197000x1, .f32⟩
  | 78 => ⟨S2197000x1, .f32⟩
  | 79 => ⟨S13x1300x390, .f32⟩
  | 80 => ⟨S2197000x3, .f32⟩
  | 81 => ⟨S13x1300x390, .f32⟩
  | 82 => ⟨S13x1300x390, .f32⟩
  | 83 => ⟨S130x130x130x3, .f32⟩
  | _ => ⟨S1000000x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S1000000x3, .f32⟩

abbrev bufTy : (tb : Table) → Fin (tcTables nBuf tb) → BufTy
  | .hbm, ⟨i, _⟩ => hbmTy i
  | .local _ .vmem, ⟨0, _⟩ => ⟨S1x1300x390, .f32⟩
  | .local _ .vmem, ⟨1, _⟩ => ⟨S1x1300x390, .f32⟩
  | .local _ .vmem, ⟨2, _⟩ => ⟨S1x1300x390, .f32⟩
  | .local _ .vmem, ⟨3, _⟩ => ⟨S1x1300x390, .f32⟩
  | .local _ .vmem, ⟨4, _⟩ => ⟨S1x1300x390, .f32⟩
  | .local _ .vmem, ⟨5, _⟩ => ⟨S1x1300x390, .f32⟩
  | _, _ => ⟨S1000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_c_4 : Ref sig .tc := ⟨.hbm, 8, rfl⟩
abbrev main_c_5 : Ref sig .tc := ⟨.hbm, 9, rfl⟩
abbrev main_c_6 : Ref sig .tc := ⟨.hbm, 10, rfl⟩
abbrev main_c_7 : Ref sig .tc := ⟨.hbm, 11, rfl⟩
abbrev main_c_8 : Ref sig .tc := ⟨.hbm, 12, rfl⟩
abbrev main_c_9 : Ref sig .tc := ⟨.hbm, 13, rfl⟩
abbrev main_c_10 : Ref sig .tc := ⟨.hbm, 14, rfl⟩
abbrev main_c_11 : Ref sig .tc := ⟨.hbm, 15, rfl⟩
abbrev main_c_12 : Ref sig .tc := ⟨.hbm, 16, rfl⟩
abbrev main_c_13 : Ref sig .tc := ⟨.hbm, 17, rfl⟩
abbrev main_c_14 : Ref sig .tc := ⟨.hbm, 18, rfl⟩
abbrev main_c_15 : Ref sig .tc := ⟨.hbm, 19, rfl⟩
abbrev main_c_16 : Ref sig .tc := ⟨.hbm, 20, rfl⟩
abbrev main_c_17 : Ref sig .tc := ⟨.hbm, 21, rfl⟩
abbrev main_c_18 : Ref sig .tc := ⟨.hbm, 22, rfl⟩
abbrev main_c_19 : Ref sig .tc := ⟨.hbm, 23, rfl⟩
abbrev main_c_20 : Ref sig .tc := ⟨.hbm, 24, rfl⟩
abbrev main_c_21 : Ref sig .tc := ⟨.hbm, 25, rfl⟩
abbrev main_c_22 : Ref sig .tc := ⟨.hbm, 26, rfl⟩
abbrev main_c_23 : Ref sig .tc := ⟨.hbm, 27, rfl⟩
abbrev main_c_24 : Ref sig .tc := ⟨.hbm, 28, rfl⟩
abbrev main_c_25 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_cst_26 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_cst_27 : Ref sig .tc := ⟨.hbm, 39, rfl⟩
abbrev main_v8 : Ref sig .tc := ⟨.hbm, 40, rfl⟩
abbrev main_v9 : Ref sig .tc := ⟨.hbm, 41, rfl⟩
abbrev main_cst_28 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_cst_29 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_cst_30 : Ref sig .tc := ⟨.hbm, 50, rfl⟩
abbrev main_v16 : Ref sig .tc := ⟨.hbm, 51, rfl⟩
abbrev main_v17 : Ref sig .tc := ⟨.hbm, 52, rfl⟩
abbrev main_cst_31 : Ref sig .tc := ⟨.hbm, 53, rfl⟩
abbrev main_v18 : Ref sig .tc := ⟨.hbm, 54, rfl⟩
abbrev main_cst_32 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_c_33 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_c_34 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_cst_35 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_cst_36 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_c_37 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_c_38 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_cst_39 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_cst_40 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_c_41 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_c_42 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_cst_43 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_cst_44 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_c_45 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_c_46 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_cst_47 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_cst_48 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_c_49 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_c_50 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_cst_51 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_cst_52 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_c_53 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_v183 : Ref sig .tc := ⟨.hbm, 241, rfl⟩
abbrev main_c_54 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩
abbrev main_v190 : Ref sig .tc := ⟨.hbm, 249, rfl⟩
abbrev main_v191 : Ref sig .tc := ⟨.hbm, 250, rfl⟩
abbrev main_cst_55 : Ref sig .tc := ⟨.hbm, 251, rfl⟩
abbrev main_v192 : Ref sig .tc := ⟨.hbm, 252, rfl⟩
abbrev main_v193 : Ref sig .tc := ⟨.hbm, 253, rfl⟩
abbrev main_v194 : Ref sig .tc := ⟨.hbm, 254, rfl⟩
abbrev main_v195 : Ref sig .tc := ⟨.hbm, 255, rfl⟩
abbrev main_cst_56 : Ref sig .tc := ⟨.hbm, 256, rfl⟩
abbrev main_v196 : Ref sig .tc := ⟨.hbm, 257, rfl⟩
abbrev main_v197 : Ref sig .tc := ⟨.hbm, 258, rfl⟩
abbrev main_v198 : Ref sig .tc := ⟨.hbm, 259, rfl⟩
abbrev main_v199 : Ref sig .tc := ⟨.hbm, 260, rfl⟩
abbrev main_v200 : Ref sig .tc := ⟨.hbm, 261, rfl⟩
abbrev main_v201 : Ref sig .tc := ⟨.hbm, 262, rfl⟩
abbrev main_v202 : Ref sig .tc := ⟨.hbm, 263, rfl⟩
abbrev main_v203 : Ref sig .tc := ⟨.hbm, 264, rfl⟩
abbrev main_v204 : Ref sig .tc := ⟨.hbm, 265, rfl⟩
abbrev main_v205 : Ref sig .tc := ⟨.hbm, 266, rfl⟩
abbrev main_v206 : Ref sig .tc := ⟨.hbm, 267, rfl⟩
abbrev main_v207 : Ref sig .tc := ⟨.hbm, 268, rfl⟩
abbrev main_v208 : Ref sig .tc := ⟨.hbm, 269, rfl⟩
abbrev main_v209 : Ref sig .tc := ⟨.hbm, 270, rfl⟩
abbrev main_c_57 : Ref sig .tc := ⟨.hbm, 271, rfl⟩
abbrev main_v210 : Ref sig .tc := ⟨.hbm, 272, rfl⟩
abbrev main_v211 : Ref sig .tc := ⟨.hbm, 273, rfl⟩
abbrev main_v212 : Ref sig .tc := ⟨.hbm, 274, rfl⟩
abbrev main_v213 : Ref sig .tc := ⟨.hbm, 275, rfl⟩
abbrev main_c_58 : Ref sig .tc := ⟨.hbm, 276, rfl⟩
abbrev main_v214 : Ref sig .tc := ⟨.hbm, 277, rfl⟩
abbrev main_v215 : Ref sig .tc := ⟨.hbm, 278, rfl⟩
abbrev main_v216 : Ref sig .tc := ⟨.hbm, 279, rfl⟩
abbrev main_v217 : Ref sig .tc := ⟨.hbm, 280, rfl⟩
abbrev main_v218 : Ref sig .tc := ⟨.hbm, 281, rfl⟩
abbrev main_v219 : Ref sig .tc := ⟨.hbm, 282, rfl⟩
abbrev main_v220 : Ref sig .tc := ⟨.hbm, 283, rfl⟩
abbrev main_v221 : Ref sig .tc := ⟨.hbm, 284, rfl⟩
abbrev main_cst_59 : Ref sig .tc := ⟨.hbm, 285, rfl⟩
abbrev main_v222 : Ref sig .tc := ⟨.hbm, 286, rfl⟩
abbrev main_v223 : Ref sig .tc := ⟨.hbm, 287, rfl⟩
abbrev main_v224 : Ref sig .tc := ⟨.hbm, 288, rfl⟩
abbrev main_v225 : Ref sig .tc := ⟨.hbm, 289, rfl⟩
abbrev main_cst_60 : Ref sig .tc := ⟨.hbm, 290, rfl⟩
abbrev main_v226 : Ref sig .tc := ⟨.hbm, 291, rfl⟩
abbrev main_v227 : Ref sig .tc := ⟨.hbm, 292, rfl⟩
abbrev main_v228 : Ref sig .tc := ⟨.hbm, 293, rfl⟩
abbrev main_v229 : Ref sig .tc := ⟨.hbm, 294, rfl⟩
abbrev main_v230 : Ref sig .tc := ⟨.hbm, 295, rfl⟩
abbrev main_v231 : Ref sig .tc := ⟨.hbm, 296, rfl⟩
abbrev main_v232 : Ref sig .tc := ⟨.hbm, 297, rfl⟩
abbrev main_v233 : Ref sig .tc := ⟨.hbm, 298, rfl⟩
abbrev main_v234 : Ref sig .tc := ⟨.hbm, 299, rfl⟩
abbrev main_v235 : Ref sig .tc := ⟨.hbm, 300, rfl⟩
abbrev main_v236 : Ref sig .tc := ⟨.hbm, 301, rfl⟩
abbrev main_v237 : Ref sig .tc := ⟨.hbm, 302, rfl⟩
abbrev main_v238 : Ref sig .tc := ⟨.hbm, 303, rfl⟩
abbrev main_v239 : Ref sig .tc := ⟨.hbm, 304, rfl⟩
abbrev main_c_61 : Ref sig .tc := ⟨.hbm, 305, rfl⟩
abbrev main_v240 : Ref sig .tc := ⟨.hbm, 306, rfl⟩
abbrev main_v241 : Ref sig .tc := ⟨.hbm, 307, rfl⟩
abbrev main_v242 : Ref sig .tc := ⟨.hbm, 308, rfl⟩
abbrev main_v243 : Ref sig .tc := ⟨.hbm, 309, rfl⟩
abbrev main_c_62 : Ref sig .tc := ⟨.hbm, 310, rfl⟩
abbrev main_v244 : Ref sig .tc := ⟨.hbm, 311, rfl⟩
abbrev main_v245 : Ref sig .tc := ⟨.hbm, 312, rfl⟩
abbrev main_v246 : Ref sig .tc := ⟨.hbm, 313, rfl⟩
abbrev main_v247 : Ref sig .tc := ⟨.hbm, 314, rfl⟩
abbrev main_v248 : Ref sig .tc := ⟨.hbm, 315, rfl⟩
abbrev main_v249 : Ref sig .tc := ⟨.hbm, 316, rfl⟩
abbrev main_v250 : Ref sig .tc := ⟨.hbm, 317, rfl⟩
abbrev main_v251 : Ref sig .tc := ⟨.hbm, 318, rfl⟩
abbrev main_cst_63 : Ref sig .tc := ⟨.hbm, 319, rfl⟩
abbrev main_v252 : Ref sig .tc := ⟨.hbm, 320, rfl⟩
abbrev main_v253 : Ref sig .tc := ⟨.hbm, 321, rfl⟩
abbrev main_v254 : Ref sig .tc := ⟨.hbm, 322, rfl⟩
abbrev main_v255 : Ref sig .tc := ⟨.hbm, 323, rfl⟩
abbrev main_cst_64 : Ref sig .tc := ⟨.hbm, 324, rfl⟩
abbrev main_v256 : Ref sig .tc := ⟨.hbm, 325, rfl⟩
abbrev main_v257 : Ref sig .tc := ⟨.hbm, 326, rfl⟩
abbrev main_v258 : Ref sig .tc := ⟨.hbm, 327, rfl⟩
abbrev main_v259 : Ref sig .tc := ⟨.hbm, 328, rfl⟩
abbrev main_v260 : Ref sig .tc := ⟨.hbm, 329, rfl⟩
abbrev main_v261 : Ref sig .tc := ⟨.hbm, 330, rfl⟩
abbrev main_v262 : Ref sig .tc := ⟨.hbm, 331, rfl⟩
abbrev main_v263 : Ref sig .tc := ⟨.hbm, 332, rfl⟩
abbrev main_v264 : Ref sig .tc := ⟨.hbm, 333, rfl⟩
abbrev main_v265 : Ref sig .tc := ⟨.hbm, 334, rfl⟩
abbrev main_v266 : Ref sig .tc := ⟨.hbm, 335, rfl⟩
abbrev main_v267 : Ref sig .tc := ⟨.hbm, 336, rfl⟩
abbrev main_v268 : Ref sig .tc := ⟨.hbm, 337, rfl⟩
abbrev main_v269 : Ref sig .tc := ⟨.hbm, 338, rfl⟩
abbrev main_c_65 : Ref sig .tc := ⟨.hbm, 339, rfl⟩
abbrev main_v270 : Ref sig .tc := ⟨.hbm, 340, rfl⟩
abbrev main_v271 : Ref sig .tc := ⟨.hbm, 341, rfl⟩
abbrev main_v272 : Ref sig .tc := ⟨.hbm, 342, rfl⟩
abbrev main_v273 : Ref sig .tc := ⟨.hbm, 343, rfl⟩
abbrev main_c_66 : Ref sig .tc := ⟨.hbm, 344, rfl⟩
abbrev main_v274 : Ref sig .tc := ⟨.hbm, 345, rfl⟩
abbrev main_v275 : Ref sig .tc := ⟨.hbm, 346, rfl⟩
abbrev main_v276 : Ref sig .tc := ⟨.hbm, 347, rfl⟩
abbrev main_v277 : Ref sig .tc := ⟨.hbm, 348, rfl⟩
abbrev main_v278 : Ref sig .tc := ⟨.hbm, 349, rfl⟩
abbrev main_v279 : Ref sig .tc := ⟨.hbm, 350, rfl⟩
abbrev main_v280 : Ref sig .tc := ⟨.hbm, 351, rfl⟩
abbrev main_v281 : Ref sig .tc := ⟨.hbm, 352, rfl⟩
abbrev main_cst_67 : Ref sig .tc := ⟨.hbm, 353, rfl⟩
abbrev main_v282 : Ref sig .tc := ⟨.hbm, 354, rfl⟩
abbrev main_v283 : Ref sig .tc := ⟨.hbm, 355, rfl⟩
abbrev main_v284 : Ref sig .tc := ⟨.hbm, 356, rfl⟩
abbrev main_v285 : Ref sig .tc := ⟨.hbm, 357, rfl⟩
abbrev main_cst_68 : Ref sig .tc := ⟨.hbm, 358, rfl⟩
abbrev main_v286 : Ref sig .tc := ⟨.hbm, 359, rfl⟩
abbrev main_v287 : Ref sig .tc := ⟨.hbm, 360, rfl⟩
abbrev main_v288 : Ref sig .tc := ⟨.hbm, 361, rfl⟩
abbrev main_v289 : Ref sig .tc := ⟨.hbm, 362, rfl⟩
abbrev main_v290 : Ref sig .tc := ⟨.hbm, 363, rfl⟩
abbrev main_v291 : Ref sig .tc := ⟨.hbm, 364, rfl⟩
abbrev main_v292 : Ref sig .tc := ⟨.hbm, 365, rfl⟩
abbrev main_v293 : Ref sig .tc := ⟨.hbm, 366, rfl⟩
abbrev main_v294 : Ref sig .tc := ⟨.hbm, 367, rfl⟩
abbrev main_v295 : Ref sig .tc := ⟨.hbm, 368, rfl⟩
abbrev main_v296 : Ref sig .tc := ⟨.hbm, 369, rfl⟩
abbrev main_v297 : Ref sig .tc := ⟨.hbm, 370, rfl⟩
abbrev main_v298 : Ref sig .tc := ⟨.hbm, 371, rfl⟩
abbrev main_v299 : Ref sig .tc := ⟨.hbm, 372, rfl⟩
abbrev main_c_69 : Ref sig .tc := ⟨.hbm, 373, rfl⟩
abbrev main_v300 : Ref sig .tc := ⟨.hbm, 374, rfl⟩
abbrev main_v301 : Ref sig .tc := ⟨.hbm, 375, rfl⟩
abbrev main_v302 : Ref sig .tc := ⟨.hbm, 376, rfl⟩
abbrev main_v303 : Ref sig .tc := ⟨.hbm, 377, rfl⟩
abbrev main_c_70 : Ref sig .tc := ⟨.hbm, 378, rfl⟩
abbrev main_v304 : Ref sig .tc := ⟨.hbm, 379, rfl⟩
abbrev main_v305 : Ref sig .tc := ⟨.hbm, 380, rfl⟩
abbrev main_v306 : Ref sig .tc := ⟨.hbm, 381, rfl⟩
abbrev main_v307 : Ref sig .tc := ⟨.hbm, 382, rfl⟩
abbrev main_v308 : Ref sig .tc := ⟨.hbm, 383, rfl⟩
abbrev main_v309 : Ref sig .tc := ⟨.hbm, 384, rfl⟩
abbrev main_v310 : Ref sig .tc := ⟨.hbm, 385, rfl⟩
abbrev main_v311 : Ref sig .tc := ⟨.hbm, 386, rfl⟩
abbrev main_cst_71 : Ref sig .tc := ⟨.hbm, 387, rfl⟩
abbrev main_v312 : Ref sig .tc := ⟨.hbm, 388, rfl⟩
abbrev main_v313 : Ref sig .tc := ⟨.hbm, 389, rfl⟩
abbrev main_v314 : Ref sig .tc := ⟨.hbm, 390, rfl⟩
abbrev main_v315 : Ref sig .tc := ⟨.hbm, 391, rfl⟩
abbrev main_cst_72 : Ref sig .tc := ⟨.hbm, 392, rfl⟩
abbrev main_v316 : Ref sig .tc := ⟨.hbm, 393, rfl⟩
abbrev main_v317 : Ref sig .tc := ⟨.hbm, 394, rfl⟩
abbrev main_v318 : Ref sig .tc := ⟨.hbm, 395, rfl⟩
abbrev main_v319 : Ref sig .tc := ⟨.hbm, 396, rfl⟩
abbrev main_v320 : Ref sig .tc := ⟨.hbm, 397, rfl⟩
abbrev main_v321 : Ref sig .tc := ⟨.hbm, 398, rfl⟩
abbrev main_v322 : Ref sig .tc := ⟨.hbm, 399, rfl⟩
abbrev main_v323 : Ref sig .tc := ⟨.hbm, 400, rfl⟩
abbrev main_v324 : Ref sig .tc := ⟨.hbm, 401, rfl⟩
abbrev main_v325 : Ref sig .tc := ⟨.hbm, 402, rfl⟩
abbrev main_v326 : Ref sig .tc := ⟨.hbm, 403, rfl⟩
abbrev main_v327 : Ref sig .tc := ⟨.hbm, 404, rfl⟩
abbrev main_v328 : Ref sig .tc := ⟨.hbm, 405, rfl⟩
abbrev main_v329 : Ref sig .tc := ⟨.hbm, 406, rfl⟩
abbrev main_c_73 : Ref sig .tc := ⟨.hbm, 407, rfl⟩
abbrev main_v330 : Ref sig .tc := ⟨.hbm, 408, rfl⟩
abbrev main_v331 : Ref sig .tc := ⟨.hbm, 409, rfl⟩
abbrev main_v332 : Ref sig .tc := ⟨.hbm, 410, rfl⟩
abbrev main_v333 : Ref sig .tc := ⟨.hbm, 411, rfl⟩
abbrev main_c_74 : Ref sig .tc := ⟨.hbm, 412, rfl⟩
abbrev main_v334 : Ref sig .tc := ⟨.hbm, 413, rfl⟩
abbrev main_v335 : Ref sig .tc := ⟨.hbm, 414, rfl⟩
abbrev main_v336 : Ref sig .tc := ⟨.hbm, 415, rfl⟩
abbrev main_v337 : Ref sig .tc := ⟨.hbm, 416, rfl⟩
abbrev main_v338 : Ref sig .tc := ⟨.hbm, 417, rfl⟩
abbrev main_v339 : Ref sig .tc := ⟨.hbm, 418, rfl⟩
abbrev main_v340 : Ref sig .tc := ⟨.hbm, 419, rfl⟩
abbrev main_v341 : Ref sig .tc := ⟨.hbm, 420, rfl⟩
abbrev main_cst_75 : Ref sig .tc := ⟨.hbm, 421, rfl⟩
abbrev main_v342 : Ref sig .tc := ⟨.hbm, 422, rfl⟩
abbrev main_v343 : Ref sig .tc := ⟨.hbm, 423, rfl⟩
abbrev main_v344 : Ref sig .tc := ⟨.hbm, 424, rfl⟩
abbrev main_v345 : Ref sig .tc := ⟨.hbm, 425, rfl⟩
abbrev main_cst_76 : Ref sig .tc := ⟨.hbm, 426, rfl⟩
abbrev main_v346 : Ref sig .tc := ⟨.hbm, 427, rfl⟩
abbrev main_v347 : Ref sig .tc := ⟨.hbm, 428, rfl⟩
abbrev main_v348 : Ref sig .tc := ⟨.hbm, 429, rfl⟩
abbrev main_v349 : Ref sig .tc := ⟨.hbm, 430, rfl⟩
abbrev main_v350 : Ref sig .tc := ⟨.hbm, 431, rfl⟩
abbrev main_v351 : Ref sig .tc := ⟨.hbm, 432, rfl⟩
abbrev main_v352 : Ref sig .tc := ⟨.hbm, 433, rfl⟩
abbrev main_v353 : Ref sig .tc := ⟨.hbm, 434, rfl⟩
abbrev main_v354 : Ref sig .tc := ⟨.hbm, 435, rfl⟩
abbrev main_v355 : Ref sig .tc := ⟨.hbm, 436, rfl⟩
abbrev main_v356 : Ref sig .tc := ⟨.hbm, 437, rfl⟩
abbrev main_v357 : Ref sig .tc := ⟨.hbm, 438, rfl⟩
abbrev main_v358 : Ref sig .tc := ⟨.hbm, 439, rfl⟩
abbrev main_v359 : Ref sig .tc := ⟨.hbm, 440, rfl⟩
abbrev main_c_77 : Ref sig .tc := ⟨.hbm, 441, rfl⟩
abbrev main_v360 : Ref sig .tc := ⟨.hbm, 442, rfl⟩
abbrev main_v361 : Ref sig .tc := ⟨.hbm, 443, rfl⟩
abbrev main_v362 : Ref sig .tc := ⟨.hbm, 444, rfl⟩
abbrev main_v363 : Ref sig .tc := ⟨.hbm, 445, rfl⟩
abbrev main_c_78 : Ref sig .tc := ⟨.hbm, 446, rfl⟩
abbrev main_v364 : Ref sig .tc := ⟨.hbm, 447, rfl⟩
abbrev main_v365 : Ref sig .tc := ⟨.hbm, 448, rfl⟩
abbrev main_v366 : Ref sig .tc := ⟨.hbm, 449, rfl⟩
abbrev main_v367 : Ref sig .tc := ⟨.hbm, 450, rfl⟩
abbrev main_v368 : Ref sig .tc := ⟨.hbm, 451, rfl⟩
abbrev main_v369 : Ref sig .tc := ⟨.hbm, 452, rfl⟩
abbrev main_v370 : Ref sig .tc := ⟨.hbm, 453, rfl⟩
abbrev main_v371 : Ref sig .tc := ⟨.hbm, 454, rfl⟩
abbrev main_cst_79 : Ref sig .tc := ⟨.hbm, 455, rfl⟩
abbrev main_v372 : Ref sig .tc := ⟨.hbm, 456, rfl⟩
abbrev main_v373 : Ref sig .tc := ⟨.hbm, 457, rfl⟩
abbrev main_v374 : Ref sig .tc := ⟨.hbm, 458, rfl⟩
abbrev main_v375 : Ref sig .tc := ⟨.hbm, 459, rfl⟩
abbrev main_cst_80 : Ref sig .tc := ⟨.hbm, 460, rfl⟩
abbrev main_v376 : Ref sig .tc := ⟨.hbm, 461, rfl⟩
abbrev main_v377 : Ref sig .tc := ⟨.hbm, 462, rfl⟩
abbrev main_v378 : Ref sig .tc := ⟨.hbm, 463, rfl⟩
abbrev main_v379 : Ref sig .tc := ⟨.hbm, 464, rfl⟩
abbrev main_v380 : Ref sig .tc := ⟨.hbm, 465, rfl⟩
abbrev main_v381 : Ref sig .tc := ⟨.hbm, 466, rfl⟩
abbrev main_v382 : Ref sig .tc := ⟨.hbm, 467, rfl⟩
abbrev main_v383 : Ref sig .tc := ⟨.hbm, 468, rfl⟩
abbrev main_v384 : Ref sig .tc := ⟨.hbm, 469, rfl⟩
abbrev main_v385 : Ref sig .tc := ⟨.hbm, 470, rfl⟩
abbrev main_v386 : Ref sig .tc := ⟨.hbm, 471, rfl⟩
abbrev main_v387 : Ref sig .tc := ⟨.hbm, 472, rfl⟩
abbrev main_v388 : Ref sig .tc := ⟨.hbm, 473, rfl⟩
abbrev main_v389 : Ref sig .tc := ⟨.hbm, 474, rfl⟩
abbrev main_c_81 : Ref sig .tc := ⟨.hbm, 475, rfl⟩
abbrev main_v390 : Ref sig .tc := ⟨.hbm, 476, rfl⟩
abbrev main_v391 : Ref sig .tc := ⟨.hbm, 477, rfl⟩
abbrev main_v392 : Ref sig .tc := ⟨.hbm, 478, rfl⟩
abbrev main_v393 : Ref sig .tc := ⟨.hbm, 479, rfl⟩
abbrev main_c_82 : Ref sig .tc := ⟨.hbm, 480, rfl⟩
abbrev main_v394 : Ref sig .tc := ⟨.hbm, 481, rfl⟩
abbrev main_v395 : Ref sig .tc := ⟨.hbm, 482, rfl⟩
abbrev main_v396 : Ref sig .tc := ⟨.hbm, 483, rfl⟩
abbrev main_v397 : Ref sig .tc := ⟨.hbm, 484, rfl⟩
abbrev main_v398 : Ref sig .tc := ⟨.hbm, 485, rfl⟩
abbrev main_v399 : Ref sig .tc := ⟨.hbm, 486, rfl⟩
abbrev main_v400 : Ref sig .tc := ⟨.hbm, 487, rfl⟩
abbrev main_v401 : Ref sig .tc := ⟨.hbm, 488, rfl⟩
abbrev main_cst_83 : Ref sig .tc := ⟨.hbm, 489, rfl⟩
abbrev main_v402 : Ref sig .tc := ⟨.hbm, 490, rfl⟩
abbrev main_v403 : Ref sig .tc := ⟨.hbm, 491, rfl⟩
abbrev main_v404 : Ref sig .tc := ⟨.hbm, 492, rfl⟩
abbrev main_v405 : Ref sig .tc := ⟨.hbm, 493, rfl⟩
abbrev main_cst_84 : Ref sig .tc := ⟨.hbm, 494, rfl⟩
abbrev main_v406 : Ref sig .tc := ⟨.hbm, 495, rfl⟩
abbrev main_v407 : Ref sig .tc := ⟨.hbm, 496, rfl⟩
abbrev main_v408 : Ref sig .tc := ⟨.hbm, 497, rfl⟩
abbrev main_v409 : Ref sig .tc := ⟨.hbm, 498, rfl⟩
abbrev main_v410 : Ref sig .tc := ⟨.hbm, 499, rfl⟩
abbrev main_v411 : Ref sig .tc := ⟨.hbm, 500, rfl⟩
abbrev main_v412 : Ref sig .tc := ⟨.hbm, 501, rfl⟩
abbrev main_v413 : Ref sig .tc := ⟨.hbm, 502, rfl⟩
abbrev main_v414 : Ref sig .tc := ⟨.hbm, 503, rfl⟩
abbrev main_v415 : Ref sig .tc := ⟨.hbm, 504, rfl⟩
abbrev main_v416 : Ref sig .tc := ⟨.hbm, 505, rfl⟩
abbrev main_v417 : Ref sig .tc := ⟨.hbm, 506, rfl⟩
abbrev main_v418 : Ref sig .tc := ⟨.hbm, 507, rfl⟩
abbrev main_v419 : Ref sig .tc := ⟨.hbm, 508, rfl⟩
abbrev main_c_85 : Ref sig .tc := ⟨.hbm, 509, rfl⟩
abbrev main_v420 : Ref sig .tc := ⟨.hbm, 510, rfl⟩
abbrev main_v421 : Ref sig .tc := ⟨.hbm, 511, rfl⟩
abbrev main_v422 : Ref sig .tc := ⟨.hbm, 512, rfl⟩
abbrev main_v423 : Ref sig .tc := ⟨.hbm, 513, rfl⟩
abbrev main_c_86 : Ref sig .tc := ⟨.hbm, 514, rfl⟩
abbrev main_v424 : Ref sig .tc := ⟨.hbm, 515, rfl⟩
abbrev main_v425 : Ref sig .tc := ⟨.hbm, 516, rfl⟩
abbrev main_v426 : Ref sig .tc := ⟨.hbm, 517, rfl⟩
abbrev main_v427 : Ref sig .tc := ⟨.hbm, 518, rfl⟩
abbrev main_v428 : Ref sig .tc := ⟨.hbm, 519, rfl⟩
abbrev main_v429 : Ref sig .tc := ⟨.hbm, 520, rfl⟩
abbrev main_v430 : Ref sig .tc := ⟨.hbm, 521, rfl⟩
abbrev main_v431 : Ref sig .tc := ⟨.hbm, 522, rfl⟩
abbrev main_cst_87 : Ref sig .tc := ⟨.hbm, 523, rfl⟩
abbrev main_v432 : Ref sig .tc := ⟨.hbm, 524, rfl⟩
abbrev main_v433 : Ref sig .tc := ⟨.hbm, 525, rfl⟩
abbrev main_v434 : Ref sig .tc := ⟨.hbm, 526, rfl⟩
abbrev main_v435 : Ref sig .tc := ⟨.hbm, 527, rfl⟩
abbrev main_cst_88 : Ref sig .tc := ⟨.hbm, 528, rfl⟩
abbrev main_v436 : Ref sig .tc := ⟨.hbm, 529, rfl⟩
abbrev main_v437 : Ref sig .tc := ⟨.hbm, 530, rfl⟩
abbrev main_v438 : Ref sig .tc := ⟨.hbm, 531, rfl⟩
abbrev main_v439 : Ref sig .tc := ⟨.hbm, 532, rfl⟩
abbrev main_v440 : Ref sig .tc := ⟨.hbm, 533, rfl⟩
abbrev main_v441 : Ref sig .tc := ⟨.hbm, 534, rfl⟩
abbrev main_v442 : Ref sig .tc := ⟨.hbm, 535, rfl⟩
abbrev main_v443 : Ref sig .tc := ⟨.hbm, 536, rfl⟩
abbrev main_v444 : Ref sig .tc := ⟨.hbm, 537, rfl⟩
abbrev main_v445 : Ref sig .tc := ⟨.hbm, 538, rfl⟩
abbrev main_v446 : Ref sig .tc := ⟨.hbm, 539, rfl⟩
abbrev main_v447 : Ref sig .tc := ⟨.hbm, 540, rfl⟩
abbrev main_v448 : Ref sig .tc := ⟨.hbm, 541, rfl⟩
abbrev main_v449 : Ref sig .tc := ⟨.hbm, 542, rfl⟩
abbrev main_c_89 : Ref sig .tc := ⟨.hbm, 543, rfl⟩
abbrev main_v450 : Ref sig .tc := ⟨.hbm, 544, rfl⟩
abbrev main_v451 : Ref sig .tc := ⟨.hbm, 545, rfl⟩
abbrev main_v452 : Ref sig .tc := ⟨.hbm, 546, rfl⟩
abbrev main_v453 : Ref sig .tc := ⟨.hbm, 547, rfl⟩
abbrev main_c_90 : Ref sig .tc := ⟨.hbm, 548, rfl⟩
abbrev main_v454 : Ref sig .tc := ⟨.hbm, 549, rfl⟩
abbrev main_v455 : Ref sig .tc := ⟨.hbm, 550, rfl⟩
abbrev main_v456 : Ref sig .tc := ⟨.hbm, 551, rfl⟩
abbrev main_v457 : Ref sig .tc := ⟨.hbm, 552, rfl⟩
abbrev main_v458 : Ref sig .tc := ⟨.hbm, 553, rfl⟩
abbrev main_v459 : Ref sig .tc := ⟨.hbm, 554, rfl⟩
abbrev main_v460 : Ref sig .tc := ⟨.hbm, 555, rfl⟩
abbrev main_v461 : Ref sig .tc := ⟨.hbm, 556, rfl⟩
abbrev main_cst_91 : Ref sig .tc := ⟨.hbm, 557, rfl⟩
abbrev main_v462 : Ref sig .tc := ⟨.hbm, 558, rfl⟩
abbrev main_v463 : Ref sig .tc := ⟨.hbm, 559, rfl⟩
abbrev main_v464 : Ref sig .tc := ⟨.hbm, 560, rfl⟩
abbrev main_v465 : Ref sig .tc := ⟨.hbm, 561, rfl⟩
abbrev main_cst_92 : Ref sig .tc := ⟨.hbm, 562, rfl⟩
abbrev main_v466 : Ref sig .tc := ⟨.hbm, 563, rfl⟩
abbrev main_v467 : Ref sig .tc := ⟨.hbm, 564, rfl⟩
abbrev main_v468 : Ref sig .tc := ⟨.hbm, 565, rfl⟩
abbrev main_v469 : Ref sig .tc := ⟨.hbm, 566, rfl⟩
abbrev main_v470 : Ref sig .tc := ⟨.hbm, 567, rfl⟩
abbrev main_v471 : Ref sig .tc := ⟨.hbm, 568, rfl⟩
abbrev main_v472 : Ref sig .tc := ⟨.hbm, 569, rfl⟩
abbrev main_v473 : Ref sig .tc := ⟨.hbm, 570, rfl⟩
abbrev main_v474 : Ref sig .tc := ⟨.hbm, 571, rfl⟩
abbrev main_v475 : Ref sig .tc := ⟨.hbm, 572, rfl⟩
abbrev main_v476 : Ref sig .tc := ⟨.hbm, 573, rfl⟩
abbrev main_v477 : Ref sig .tc := ⟨.hbm, 574, rfl⟩
abbrev main_v478 : Ref sig .tc := ⟨.hbm, 575, rfl⟩
abbrev main_v479 : Ref sig .tc := ⟨.hbm, 576, rfl⟩
abbrev main_c_93 : Ref sig .tc := ⟨.hbm, 577, rfl⟩
abbrev main_v480 : Ref sig .tc := ⟨.hbm, 578, rfl⟩
abbrev main_v481 : Ref sig .tc := ⟨.hbm, 579, rfl⟩
abbrev main_v482 : Ref sig .tc := ⟨.hbm, 580, rfl⟩
abbrev main_v483 : Ref sig .tc := ⟨.hbm, 581, rfl⟩
abbrev main_c_94 : Ref sig .tc := ⟨.hbm, 582, rfl⟩
abbrev main_v484 : Ref sig .tc := ⟨.hbm, 583, rfl⟩
abbrev main_v485 : Ref sig .tc := ⟨.hbm, 584, rfl⟩
abbrev main_v486 : Ref sig .tc := ⟨.hbm, 585, rfl⟩
abbrev main_v487 : Ref sig .tc := ⟨.hbm, 586, rfl⟩
abbrev main_v488 : Ref sig .tc := ⟨.hbm, 587, rfl⟩
abbrev main_v489 : Ref sig .tc := ⟨.hbm, 588, rfl⟩
abbrev main_v490 : Ref sig .tc := ⟨.hbm, 589, rfl⟩
abbrev main_v491 : Ref sig .tc := ⟨.hbm, 590, rfl⟩
abbrev main_cst_95 : Ref sig .tc := ⟨.hbm, 591, rfl⟩
abbrev main_v492 : Ref sig .tc := ⟨.hbm, 592, rfl⟩
abbrev main_v493 : Ref sig .tc := ⟨.hbm, 593, rfl⟩
abbrev main_v494 : Ref sig .tc := ⟨.hbm, 594, rfl⟩
abbrev main_v495 : Ref sig .tc := ⟨.hbm, 595, rfl⟩
abbrev main_cst_96 : Ref sig .tc := ⟨.hbm, 596, rfl⟩
abbrev main_v496 : Ref sig .tc := ⟨.hbm, 597, rfl⟩
abbrev main_v497 : Ref sig .tc := ⟨.hbm, 598, rfl⟩
abbrev main_v498 : Ref sig .tc := ⟨.hbm, 599, rfl⟩
abbrev main_v499 : Ref sig .tc := ⟨.hbm, 600, rfl⟩
abbrev main_v500 : Ref sig .tc := ⟨.hbm, 601, rfl⟩
abbrev main_v501 : Ref sig .tc := ⟨.hbm, 602, rfl⟩
abbrev main_v502 : Ref sig .tc := ⟨.hbm, 603, rfl⟩
abbrev main_v503 : Ref sig .tc := ⟨.hbm, 604, rfl⟩
abbrev main_v504 : Ref sig .tc := ⟨.hbm, 605, rfl⟩
abbrev main_v505 : Ref sig .tc := ⟨.hbm, 606, rfl⟩
abbrev main_v506 : Ref sig .tc := ⟨.hbm, 607, rfl⟩
abbrev main_v507 : Ref sig .tc := ⟨.hbm, 608, rfl⟩
abbrev main_v508 : Ref sig .tc := ⟨.hbm, 609, rfl⟩
abbrev main_v509 : Ref sig .tc := ⟨.hbm, 610, rfl⟩
abbrev main_c_97 : Ref sig .tc := ⟨.hbm, 611, rfl⟩
abbrev main_v510 : Ref sig .tc := ⟨.hbm, 612, rfl⟩
abbrev main_v511 : Ref sig .tc := ⟨.hbm, 613, rfl⟩
abbrev main_v512 : Ref sig .tc := ⟨.hbm, 614, rfl⟩
abbrev main_v513 : Ref sig .tc := ⟨.hbm, 615, rfl⟩
abbrev main_c_98 : Ref sig .tc := ⟨.hbm, 616, rfl⟩
abbrev main_v514 : Ref sig .tc := ⟨.hbm, 617, rfl⟩
abbrev main_v515 : Ref sig .tc := ⟨.hbm, 618, rfl⟩
abbrev main_v516 : Ref sig .tc := ⟨.hbm, 619, rfl⟩
abbrev main_v517 : Ref sig .tc := ⟨.hbm, 620, rfl⟩
abbrev main_v518 : Ref sig .tc := ⟨.hbm, 621, rfl⟩
abbrev main_v519 : Ref sig .tc := ⟨.hbm, 622, rfl⟩
abbrev main_v520 : Ref sig .tc := ⟨.hbm, 623, rfl⟩
abbrev main_v521 : Ref sig .tc := ⟨.hbm, 624, rfl⟩
abbrev main_cst_99 : Ref sig .tc := ⟨.hbm, 625, rfl⟩
abbrev main_v522 : Ref sig .tc := ⟨.hbm, 626, rfl⟩
abbrev main_v523 : Ref sig .tc := ⟨.hbm, 627, rfl⟩
abbrev main_v524 : Ref sig .tc := ⟨.hbm, 628, rfl⟩
abbrev main_v525 : Ref sig .tc := ⟨.hbm, 629, rfl⟩
abbrev main_cst_100 : Ref sig .tc := ⟨.hbm, 630, rfl⟩
abbrev main_v526 : Ref sig .tc := ⟨.hbm, 631, rfl⟩
abbrev main_v527 : Ref sig .tc := ⟨.hbm, 632, rfl⟩
abbrev main_v528 : Ref sig .tc := ⟨.hbm, 633, rfl⟩
abbrev main_v529 : Ref sig .tc := ⟨.hbm, 634, rfl⟩
abbrev main_v530 : Ref sig .tc := ⟨.hbm, 635, rfl⟩
abbrev main_v531 : Ref sig .tc := ⟨.hbm, 636, rfl⟩
abbrev main_v532 : Ref sig .tc := ⟨.hbm, 637, rfl⟩
abbrev main_v533 : Ref sig .tc := ⟨.hbm, 638, rfl⟩
abbrev main_v534 : Ref sig .tc := ⟨.hbm, 639, rfl⟩
abbrev main_v535 : Ref sig .tc := ⟨.hbm, 640, rfl⟩
abbrev main_v536 : Ref sig .tc := ⟨.hbm, 641, rfl⟩
abbrev main_v537 : Ref sig .tc := ⟨.hbm, 642, rfl⟩
abbrev main_v538 : Ref sig .tc := ⟨.hbm, 643, rfl⟩
abbrev main_v539 : Ref sig .tc := ⟨.hbm, 644, rfl⟩
abbrev main_c_101 : Ref sig .tc := ⟨.hbm, 645, rfl⟩
abbrev main_v540 : Ref sig .tc := ⟨.hbm, 646, rfl⟩
abbrev main_v541 : Ref sig .tc := ⟨.hbm, 647, rfl⟩
abbrev main_v542 : Ref sig .tc := ⟨.hbm, 648, rfl⟩
abbrev main_v543 : Ref sig .tc := ⟨.hbm, 649, rfl⟩
abbrev main_c_102 : Ref sig .tc := ⟨.hbm, 650, rfl⟩
abbrev main_v544 : Ref sig .tc := ⟨.hbm, 651, rfl⟩
abbrev main_v545 : Ref sig .tc := ⟨.hbm, 652, rfl⟩
abbrev main_v546 : Ref sig .tc := ⟨.hbm, 653, rfl⟩
abbrev main_v547 : Ref sig .tc := ⟨.hbm, 654, rfl⟩
abbrev main_v548 : Ref sig .tc := ⟨.hbm, 655, rfl⟩
abbrev main_v549 : Ref sig .tc := ⟨.hbm, 656, rfl⟩
abbrev main_v550 : Ref sig .tc := ⟨.hbm, 657, rfl⟩
abbrev main_v551 : Ref sig .tc := ⟨.hbm, 658, rfl⟩
abbrev main_cst_103 : Ref sig .tc := ⟨.hbm, 659, rfl⟩
abbrev main_v552 : Ref sig .tc := ⟨.hbm, 660, rfl⟩
abbrev main_v553 : Ref sig .tc := ⟨.hbm, 661, rfl⟩
abbrev main_v554 : Ref sig .tc := ⟨.hbm, 662, rfl⟩
abbrev main_v555 : Ref sig .tc := ⟨.hbm, 663, rfl⟩
abbrev main_cst_104 : Ref sig .tc := ⟨.hbm, 664, rfl⟩
abbrev main_v556 : Ref sig .tc := ⟨.hbm, 665, rfl⟩
abbrev main_v557 : Ref sig .tc := ⟨.hbm, 666, rfl⟩
abbrev main_v558 : Ref sig .tc := ⟨.hbm, 667, rfl⟩
abbrev main_v559 : Ref sig .tc := ⟨.hbm, 668, rfl⟩
abbrev main_v560 : Ref sig .tc := ⟨.hbm, 669, rfl⟩
abbrev main_v561 : Ref sig .tc := ⟨.hbm, 670, rfl⟩
abbrev main_v562 : Ref sig .tc := ⟨.hbm, 671, rfl⟩
abbrev main_v563 : Ref sig .tc := ⟨.hbm, 672, rfl⟩
abbrev main_v564 : Ref sig .tc := ⟨.hbm, 673, rfl⟩
abbrev main_v565 : Ref sig .tc := ⟨.hbm, 674, rfl⟩
abbrev main_v566 : Ref sig .tc := ⟨.hbm, 675, rfl⟩
abbrev main_v567 : Ref sig .tc := ⟨.hbm, 676, rfl⟩
abbrev main_v568 : Ref sig .tc := ⟨.hbm, 677, rfl⟩
abbrev main_v569 : Ref sig .tc := ⟨.hbm, 678, rfl⟩
abbrev main_c_105 : Ref sig .tc := ⟨.hbm, 679, rfl⟩
abbrev main_v570 : Ref sig .tc := ⟨.hbm, 680, rfl⟩
abbrev main_v571 : Ref sig .tc := ⟨.hbm, 681, rfl⟩
abbrev main_v572 : Ref sig .tc := ⟨.hbm, 682, rfl⟩
abbrev main_v573 : Ref sig .tc := ⟨.hbm, 683, rfl⟩
abbrev main_c_106 : Ref sig .tc := ⟨.hbm, 684, rfl⟩
abbrev main_v574 : Ref sig .tc := ⟨.hbm, 685, rfl⟩
abbrev main_v575 : Ref sig .tc := ⟨.hbm, 686, rfl⟩
abbrev main_v576 : Ref sig .tc := ⟨.hbm, 687, rfl⟩
abbrev main_v577 : Ref sig .tc := ⟨.hbm, 688, rfl⟩
abbrev main_v578 : Ref sig .tc := ⟨.hbm, 689, rfl⟩
abbrev main_v579 : Ref sig .tc := ⟨.hbm, 690, rfl⟩
abbrev main_v580 : Ref sig .tc := ⟨.hbm, 691, rfl⟩
abbrev main_v581 : Ref sig .tc := ⟨.hbm, 692, rfl⟩
abbrev main_cst_107 : Ref sig .tc := ⟨.hbm, 693, rfl⟩
abbrev main_v582 : Ref sig .tc := ⟨.hbm, 694, rfl⟩
abbrev main_v583 : Ref sig .tc := ⟨.hbm, 695, rfl⟩
abbrev main_v584 : Ref sig .tc := ⟨.hbm, 696, rfl⟩
abbrev main_v585 : Ref sig .tc := ⟨.hbm, 697, rfl⟩
abbrev main_cst_108 : Ref sig .tc := ⟨.hbm, 698, rfl⟩
abbrev main_v586 : Ref sig .tc := ⟨.hbm, 699, rfl⟩
abbrev main_v587 : Ref sig .tc := ⟨.hbm, 700, rfl⟩
abbrev main_v588 : Ref sig .tc := ⟨.hbm, 701, rfl⟩
abbrev main_v589 : Ref sig .tc := ⟨.hbm, 702, rfl⟩
abbrev main_v590 : Ref sig .tc := ⟨.hbm, 703, rfl⟩
abbrev main_v591 : Ref sig .tc := ⟨.hbm, 704, rfl⟩
abbrev main_v592 : Ref sig .tc := ⟨.hbm, 705, rfl⟩
abbrev main_v593 : Ref sig .tc := ⟨.hbm, 706, rfl⟩
abbrev main_v594 : Ref sig .tc := ⟨.hbm, 707, rfl⟩
abbrev main_v595 : Ref sig .tc := ⟨.hbm, 708, rfl⟩
abbrev main_v596 : Ref sig .tc := ⟨.hbm, 709, rfl⟩
abbrev main_v597 : Ref sig .tc := ⟨.hbm, 710, rfl⟩
abbrev main_v598 : Ref sig .tc := ⟨.hbm, 711, rfl⟩
abbrev main_v599 : Ref sig .tc := ⟨.hbm, 712, rfl⟩
abbrev main_c_109 : Ref sig .tc := ⟨.hbm, 713, rfl⟩
abbrev main_v600 : Ref sig .tc := ⟨.hbm, 714, rfl⟩
abbrev main_v601 : Ref sig .tc := ⟨.hbm, 715, rfl⟩
abbrev main_v602 : Ref sig .tc := ⟨.hbm, 716, rfl⟩
abbrev main_v603 : Ref sig .tc := ⟨.hbm, 717, rfl⟩
abbrev main_c_110 : Ref sig .tc := ⟨.hbm, 718, rfl⟩
abbrev main_v604 : Ref sig .tc := ⟨.hbm, 719, rfl⟩
abbrev main_v605 : Ref sig .tc := ⟨.hbm, 720, rfl⟩
abbrev main_v606 : Ref sig .tc := ⟨.hbm, 721, rfl⟩
abbrev main_v607 : Ref sig .tc := ⟨.hbm, 722, rfl⟩
abbrev main_v608 : Ref sig .tc := ⟨.hbm, 723, rfl⟩
abbrev main_v609 : Ref sig .tc := ⟨.hbm, 724, rfl⟩
abbrev main_v610 : Ref sig .tc := ⟨.hbm, 725, rfl⟩
abbrev main_v611 : Ref sig .tc := ⟨.hbm, 726, rfl⟩
abbrev main_cst_111 : Ref sig .tc := ⟨.hbm, 727, rfl⟩
abbrev main_v612 : Ref sig .tc := ⟨.hbm, 728, rfl⟩
abbrev main_v613 : Ref sig .tc := ⟨.hbm, 729, rfl⟩
abbrev main_v614 : Ref sig .tc := ⟨.hbm, 730, rfl⟩
abbrev main_v615 : Ref sig .tc := ⟨.hbm, 731, rfl⟩
abbrev main_cst_112 : Ref sig .tc := ⟨.hbm, 732, rfl⟩
abbrev main_v616 : Ref sig .tc := ⟨.hbm, 733, rfl⟩
abbrev main_v617 : Ref sig .tc := ⟨.hbm, 734, rfl⟩
abbrev main_v618 : Ref sig .tc := ⟨.hbm, 735, rfl⟩
abbrev main_v619 : Ref sig .tc := ⟨.hbm, 736, rfl⟩
abbrev main_v620 : Ref sig .tc := ⟨.hbm, 737, rfl⟩
abbrev main_v621 : Ref sig .tc := ⟨.hbm, 738, rfl⟩
abbrev main_v622 : Ref sig .tc := ⟨.hbm, 739, rfl⟩
abbrev main_v623 : Ref sig .tc := ⟨.hbm, 740, rfl⟩
abbrev main_v624 : Ref sig .tc := ⟨.hbm, 741, rfl⟩
abbrev main_v625 : Ref sig .tc := ⟨.hbm, 742, rfl⟩
abbrev main_v626 : Ref sig .tc := ⟨.hbm, 743, rfl⟩
abbrev main_v627 : Ref sig .tc := ⟨.hbm, 744, rfl⟩
abbrev main_v628 : Ref sig .tc := ⟨.hbm, 745, rfl⟩
abbrev main_v629 : Ref sig .tc := ⟨.hbm, 746, rfl⟩
abbrev main_c_113 : Ref sig .tc := ⟨.hbm, 747, rfl⟩
abbrev main_v630 : Ref sig .tc := ⟨.hbm, 748, rfl⟩
abbrev main_v631 : Ref sig .tc := ⟨.hbm, 749, rfl⟩
abbrev main_v632 : Ref sig .tc := ⟨.hbm, 750, rfl⟩
abbrev main_v633 : Ref sig .tc := ⟨.hbm, 751, rfl⟩
abbrev main_c_114 : Ref sig .tc := ⟨.hbm, 752, rfl⟩
abbrev main_v634 : Ref sig .tc := ⟨.hbm, 753, rfl⟩
abbrev main_v635 : Ref sig .tc := ⟨.hbm, 754, rfl⟩
abbrev main_v636 : Ref sig .tc := ⟨.hbm, 755, rfl⟩
abbrev main_v637 : Ref sig .tc := ⟨.hbm, 756, rfl⟩
abbrev main_v638 : Ref sig .tc := ⟨.hbm, 757, rfl⟩
abbrev main_v639 : Ref sig .tc := ⟨.hbm, 758, rfl⟩
abbrev main_v640 : Ref sig .tc := ⟨.hbm, 759, rfl⟩
abbrev main_v641 : Ref sig .tc := ⟨.hbm, 760, rfl⟩
abbrev main_cst_115 : Ref sig .tc := ⟨.hbm, 761, rfl⟩
abbrev main_v642 : Ref sig .tc := ⟨.hbm, 762, rfl⟩
abbrev main_v643 : Ref sig .tc := ⟨.hbm, 763, rfl⟩
abbrev main_v644 : Ref sig .tc := ⟨.hbm, 764, rfl⟩
abbrev main_v645 : Ref sig .tc := ⟨.hbm, 765, rfl⟩
abbrev main_cst_116 : Ref sig .tc := ⟨.hbm, 766, rfl⟩
abbrev main_v646 : Ref sig .tc := ⟨.hbm, 767, rfl⟩
abbrev main_v647 : Ref sig .tc := ⟨.hbm, 768, rfl⟩
abbrev main_v648 : Ref sig .tc := ⟨.hbm, 769, rfl⟩
abbrev main_v649 : Ref sig .tc := ⟨.hbm, 770, rfl⟩
abbrev main_v650 : Ref sig .tc := ⟨.hbm, 771, rfl⟩
abbrev main_v651 : Ref sig .tc := ⟨.hbm, 772, rfl⟩
abbrev main_v652 : Ref sig .tc := ⟨.hbm, 773, rfl⟩
abbrev main_v653 : Ref sig .tc := ⟨.hbm, 774, rfl⟩
abbrev main_v654 : Ref sig .tc := ⟨.hbm, 775, rfl⟩
abbrev main_v655 : Ref sig .tc := ⟨.hbm, 776, rfl⟩
abbrev main_v656 : Ref sig .tc := ⟨.hbm, 777, rfl⟩
abbrev main_v657 : Ref sig .tc := ⟨.hbm, 778, rfl⟩
abbrev main_v658 : Ref sig .tc := ⟨.hbm, 779, rfl⟩
abbrev main_v659 : Ref sig .tc := ⟨.hbm, 780, rfl⟩
abbrev main_c_117 : Ref sig .tc := ⟨.hbm, 781, rfl⟩
abbrev main_v660 : Ref sig .tc := ⟨.hbm, 782, rfl⟩
abbrev main_v661 : Ref sig .tc := ⟨.hbm, 783, rfl⟩
abbrev main_v662 : Ref sig .tc := ⟨.hbm, 784, rfl⟩
abbrev main_v663 : Ref sig .tc := ⟨.hbm, 785, rfl⟩
abbrev main_c_118 : Ref sig .tc := ⟨.hbm, 786, rfl⟩
abbrev main_v664 : Ref sig .tc := ⟨.hbm, 787, rfl⟩
abbrev main_v665 : Ref sig .tc := ⟨.hbm, 788, rfl⟩
abbrev main_v666 : Ref sig .tc := ⟨.hbm, 789, rfl⟩
abbrev main_v667 : Ref sig .tc := ⟨.hbm, 790, rfl⟩
abbrev main_v668 : Ref sig .tc := ⟨.hbm, 791, rfl⟩
abbrev main_v669 : Ref sig .tc := ⟨.hbm, 792, rfl⟩
abbrev main_v670 : Ref sig .tc := ⟨.hbm, 793, rfl⟩
abbrev main_v671 : Ref sig .tc := ⟨.hbm, 794, rfl⟩
abbrev main_cst_119 : Ref sig .tc := ⟨.hbm, 795, rfl⟩
abbrev main_v672 : Ref sig .tc := ⟨.hbm, 796, rfl⟩
abbrev main_v673 : Ref sig .tc := ⟨.hbm, 797, rfl⟩
abbrev main_v674 : Ref sig .tc := ⟨.hbm, 798, rfl⟩
abbrev main_v675 : Ref sig .tc := ⟨.hbm, 799, rfl⟩
abbrev main_cst_120 : Ref sig .tc := ⟨.hbm, 800, rfl⟩
abbrev main_v676 : Ref sig .tc := ⟨.hbm, 801, rfl⟩
abbrev main_v677 : Ref sig .tc := ⟨.hbm, 802, rfl⟩
abbrev main_v678 : Ref sig .tc := ⟨.hbm, 803, rfl⟩
abbrev main_v679 : Ref sig .tc := ⟨.hbm, 804, rfl⟩
abbrev main_v680 : Ref sig .tc := ⟨.hbm, 805, rfl⟩
abbrev main_v681 : Ref sig .tc := ⟨.hbm, 806, rfl⟩
abbrev main_v682 : Ref sig .tc := ⟨.hbm, 807, rfl⟩
abbrev main_v683 : Ref sig .tc := ⟨.hbm, 808, rfl⟩
abbrev main_v684 : Ref sig .tc := ⟨.hbm, 809, rfl⟩
abbrev main_v685 : Ref sig .tc := ⟨.hbm, 810, rfl⟩
abbrev main_v686 : Ref sig .tc := ⟨.hbm, 811, rfl⟩
abbrev main_v687 : Ref sig .tc := ⟨.hbm, 812, rfl⟩
abbrev main_v688 : Ref sig .tc := ⟨.hbm, 813, rfl⟩
abbrev main_v689 : Ref sig .tc := ⟨.hbm, 814, rfl⟩
abbrev main_c_121 : Ref sig .tc := ⟨.hbm, 815, rfl⟩
abbrev main_v690 : Ref sig .tc := ⟨.hbm, 816, rfl⟩
abbrev main_v691 : Ref sig .tc := ⟨.hbm, 817, rfl⟩
abbrev main_v692 : Ref sig .tc := ⟨.hbm, 818, rfl⟩
abbrev main_v693 : Ref sig .tc := ⟨.hbm, 819, rfl⟩
abbrev main_c_122 : Ref sig .tc := ⟨.hbm, 820, rfl⟩
abbrev main_v694 : Ref sig .tc := ⟨.hbm, 821, rfl⟩
abbrev main_v695 : Ref sig .tc := ⟨.hbm, 822, rfl⟩
abbrev main_v696 : Ref sig .tc := ⟨.hbm, 823, rfl⟩
abbrev main_v697 : Ref sig .tc := ⟨.hbm, 824, rfl⟩
abbrev main_v698 : Ref sig .tc := ⟨.hbm, 825, rfl⟩
abbrev main_v699 : Ref sig .tc := ⟨.hbm, 826, rfl⟩
abbrev main_v700 : Ref sig .tc := ⟨.hbm, 827, rfl⟩
abbrev main_v701 : Ref sig .tc := ⟨.hbm, 828, rfl⟩
abbrev main_cst_123 : Ref sig .tc := ⟨.hbm, 829, rfl⟩
abbrev main_v702 : Ref sig .tc := ⟨.hbm, 830, rfl⟩
abbrev main_v703 : Ref sig .tc := ⟨.hbm, 831, rfl⟩
abbrev main_v704 : Ref sig .tc := ⟨.hbm, 832, rfl⟩
abbrev main_v705 : Ref sig .tc := ⟨.hbm, 833, rfl⟩
abbrev main_cst_124 : Ref sig .tc := ⟨.hbm, 834, rfl⟩
abbrev main_v706 : Ref sig .tc := ⟨.hbm, 835, rfl⟩
abbrev main_v707 : Ref sig .tc := ⟨.hbm, 836, rfl⟩
abbrev main_v708 : Ref sig .tc := ⟨.hbm, 837, rfl⟩
abbrev main_v709 : Ref sig .tc := ⟨.hbm, 838, rfl⟩
abbrev main_v710 : Ref sig .tc := ⟨.hbm, 839, rfl⟩
abbrev main_v711 : Ref sig .tc := ⟨.hbm, 840, rfl⟩
abbrev main_v712 : Ref sig .tc := ⟨.hbm, 841, rfl⟩
abbrev main_v713 : Ref sig .tc := ⟨.hbm, 842, rfl⟩
abbrev main_v714 : Ref sig .tc := ⟨.hbm, 843, rfl⟩
abbrev main_v715 : Ref sig .tc := ⟨.hbm, 844, rfl⟩
abbrev main_v716 : Ref sig .tc := ⟨.hbm, 845, rfl⟩
abbrev main_v717 : Ref sig .tc := ⟨.hbm, 846, rfl⟩
abbrev main_v718 : Ref sig .tc := ⟨.hbm, 847, rfl⟩
abbrev main_v719 : Ref sig .tc := ⟨.hbm, 848, rfl⟩
abbrev main_c_125 : Ref sig .tc := ⟨.hbm, 849, rfl⟩
abbrev main_v720 : Ref sig .tc := ⟨.hbm, 850, rfl⟩
abbrev main_v721 : Ref sig .tc := ⟨.hbm, 851, rfl⟩
abbrev main_v722 : Ref sig .tc := ⟨.hbm, 852, rfl⟩
abbrev main_v723 : Ref sig .tc := ⟨.hbm, 853, rfl⟩
abbrev main_c_126 : Ref sig .tc := ⟨.hbm, 854, rfl⟩
abbrev main_v724 : Ref sig .tc := ⟨.hbm, 855, rfl⟩
abbrev main_v725 : Ref sig .tc := ⟨.hbm, 856, rfl⟩
abbrev main_v726 : Ref sig .tc := ⟨.hbm, 857, rfl⟩
abbrev main_v727 : Ref sig .tc := ⟨.hbm, 858, rfl⟩
abbrev main_v728 : Ref sig .tc := ⟨.hbm, 859, rfl⟩
abbrev main_v729 : Ref sig .tc := ⟨.hbm, 860, rfl⟩
abbrev main_v730 : Ref sig .tc := ⟨.hbm, 861, rfl⟩
abbrev main_v731 : Ref sig .tc := ⟨.hbm, 862, rfl⟩
abbrev main_cst_127 : Ref sig .tc := ⟨.hbm, 863, rfl⟩
abbrev main_v732 : Ref sig .tc := ⟨.hbm, 864, rfl⟩
abbrev main_v733 : Ref sig .tc := ⟨.hbm, 865, rfl⟩
abbrev main_v734 : Ref sig .tc := ⟨.hbm, 866, rfl⟩
abbrev main_v735 : Ref sig .tc := ⟨.hbm, 867, rfl⟩
abbrev main_cst_128 : Ref sig .tc := ⟨.hbm, 868, rfl⟩
abbrev main_v736 : Ref sig .tc := ⟨.hbm, 869, rfl⟩
abbrev main_v737 : Ref sig .tc := ⟨.hbm, 870, rfl⟩
abbrev main_v738 : Ref sig .tc := ⟨.hbm, 871, rfl⟩
abbrev main_v739 : Ref sig .tc := ⟨.hbm, 872, rfl⟩
abbrev main_v740 : Ref sig .tc := ⟨.hbm, 873, rfl⟩
abbrev main_v741 : Ref sig .tc := ⟨.hbm, 874, rfl⟩
abbrev main_v742 : Ref sig .tc := ⟨.hbm, 875, rfl⟩
abbrev main_v743 : Ref sig .tc := ⟨.hbm, 876, rfl⟩
abbrev main_v744 : Ref sig .tc := ⟨.hbm, 877, rfl⟩
abbrev main_v745 : Ref sig .tc := ⟨.hbm, 878, rfl⟩
abbrev main_v746 : Ref sig .tc := ⟨.hbm, 879, rfl⟩
abbrev main_v747 : Ref sig .tc := ⟨.hbm, 880, rfl⟩
abbrev main_v748 : Ref sig .tc := ⟨.hbm, 881, rfl⟩
abbrev main_v749 : Ref sig .tc := ⟨.hbm, 882, rfl⟩
abbrev main_c_129 : Ref sig .tc := ⟨.hbm, 883, rfl⟩
abbrev main_v750 : Ref sig .tc := ⟨.hbm, 884, rfl⟩
abbrev main_v751 : Ref sig .tc := ⟨.hbm, 885, rfl⟩
abbrev main_v752 : Ref sig .tc := ⟨.hbm, 886, rfl⟩
abbrev main_v753 : Ref sig .tc := ⟨.hbm, 887, rfl⟩
abbrev main_c_130 : Ref sig .tc := ⟨.hbm, 888, rfl⟩
abbrev main_v754 : Ref sig .tc := ⟨.hbm, 889, rfl⟩
abbrev main_v755 : Ref sig .tc := ⟨.hbm, 890, rfl⟩
abbrev main_v756 : Ref sig .tc := ⟨.hbm, 891, rfl⟩
abbrev main_v757 : Ref sig .tc := ⟨.hbm, 892, rfl⟩
abbrev main_v758 : Ref sig .tc := ⟨.hbm, 893, rfl⟩
abbrev main_v759 : Ref sig .tc := ⟨.hbm, 894, rfl⟩
abbrev main_v760 : Ref sig .tc := ⟨.hbm, 895, rfl⟩
abbrev main_v761 : Ref sig .tc := ⟨.hbm, 896, rfl⟩
abbrev main_cst_131 : Ref sig .tc := ⟨.hbm, 897, rfl⟩
abbrev main_v762 : Ref sig .tc := ⟨.hbm, 898, rfl⟩
abbrev main_v763 : Ref sig .tc := ⟨.hbm, 899, rfl⟩
abbrev main_v764 : Ref sig .tc := ⟨.hbm, 900, rfl⟩
abbrev main_v765 : Ref sig .tc := ⟨.hbm, 901, rfl⟩
abbrev main_cst_132 : Ref sig .tc := ⟨.hbm, 902, rfl⟩
abbrev main_v766 : Ref sig .tc := ⟨.hbm, 903, rfl⟩
abbrev main_v767 : Ref sig .tc := ⟨.hbm, 904, rfl⟩
abbrev main_v768 : Ref sig .tc := ⟨.hbm, 905, rfl⟩
abbrev main_v769 : Ref sig .tc := ⟨.hbm, 906, rfl⟩
abbrev main_v770 : Ref sig .tc := ⟨.hbm, 907, rfl⟩
abbrev main_v771 : Ref sig .tc := ⟨.hbm, 908, rfl⟩
abbrev main_v772 : Ref sig .tc := ⟨.hbm, 909, rfl⟩
abbrev main_v773 : Ref sig .tc := ⟨.hbm, 910, rfl⟩
abbrev main_v774 : Ref sig .tc := ⟨.hbm, 911, rfl⟩
abbrev main_v775 : Ref sig .tc := ⟨.hbm, 912, rfl⟩
abbrev main_v776 : Ref sig .tc := ⟨.hbm, 913, rfl⟩
abbrev main_v777 : Ref sig .tc := ⟨.hbm, 914, rfl⟩
abbrev main_v778 : Ref sig .tc := ⟨.hbm, 915, rfl⟩
abbrev main_v779 : Ref sig .tc := ⟨.hbm, 916, rfl⟩
abbrev main_c_133 : Ref sig .tc := ⟨.hbm, 917, rfl⟩
abbrev main_v780 : Ref sig .tc := ⟨.hbm, 918, rfl⟩
abbrev main_v781 : Ref sig .tc := ⟨.hbm, 919, rfl⟩
abbrev main_v782 : Ref sig .tc := ⟨.hbm, 920, rfl⟩
abbrev main_v783 : Ref sig .tc := ⟨.hbm, 921, rfl⟩
abbrev main_c_134 : Ref sig .tc := ⟨.hbm, 922, rfl⟩
abbrev main_v784 : Ref sig .tc := ⟨.hbm, 923, rfl⟩
abbrev main_v785 : Ref sig .tc := ⟨.hbm, 924, rfl⟩
abbrev main_v786 : Ref sig .tc := ⟨.hbm, 925, rfl⟩
abbrev main_v787 : Ref sig .tc := ⟨.hbm, 926, rfl⟩
abbrev main_v788 : Ref sig .tc := ⟨.hbm, 927, rfl⟩
abbrev main_v789 : Ref sig .tc := ⟨.hbm, 928, rfl⟩
abbrev main_v790 : Ref sig .tc := ⟨.hbm, 929, rfl⟩
abbrev main_v791 : Ref sig .tc := ⟨.hbm, 930, rfl⟩
abbrev main_cst_135 : Ref sig .tc := ⟨.hbm, 931, rfl⟩
abbrev main_v792 : Ref sig .tc := ⟨.hbm, 932, rfl⟩
abbrev main_v793 : Ref sig .tc := ⟨.hbm, 933, rfl⟩
abbrev main_v794 : Ref sig .tc := ⟨.hbm, 934, rfl⟩
abbrev main_v795 : Ref sig .tc := ⟨.hbm, 935, rfl⟩
abbrev main_cst_136 : Ref sig .tc := ⟨.hbm, 936, rfl⟩
abbrev main_v796 : Ref sig .tc := ⟨.hbm, 937, rfl⟩
abbrev main_v797 : Ref sig .tc := ⟨.hbm, 938, rfl⟩
abbrev main_v798 : Ref sig .tc := ⟨.hbm, 939, rfl⟩
abbrev main_v799 : Ref sig .tc := ⟨.hbm, 940, rfl⟩
abbrev main_v800 : Ref sig .tc := ⟨.hbm, 941, rfl⟩
abbrev main_v801 : Ref sig .tc := ⟨.hbm, 942, rfl⟩
abbrev main_v802 : Ref sig .tc := ⟨.hbm, 943, rfl⟩
abbrev main_v803 : Ref sig .tc := ⟨.hbm, 944, rfl⟩
abbrev main_v804 : Ref sig .tc := ⟨.hbm, 945, rfl⟩
abbrev main_v805 : Ref sig .tc := ⟨.hbm, 946, rfl⟩
abbrev main_v806 : Ref sig .tc := ⟨.hbm, 947, rfl⟩
abbrev main_v807 : Ref sig .tc := ⟨.hbm, 948, rfl⟩
abbrev main_v808 : Ref sig .tc := ⟨.hbm, 949, rfl⟩
abbrev main_v809 : Ref sig .tc := ⟨.hbm, 950, rfl⟩
abbrev main_c_137 : Ref sig .tc := ⟨.hbm, 951, rfl⟩
abbrev main_v810 : Ref sig .tc := ⟨.hbm, 952, rfl⟩
abbrev main_v811 : Ref sig .tc := ⟨.hbm, 953, rfl⟩
abbrev main_v812 : Ref sig .tc := ⟨.hbm, 954, rfl⟩
abbrev main_v813 : Ref sig .tc := ⟨.hbm, 955, rfl⟩
abbrev main_c_138 : Ref sig .tc := ⟨.hbm, 956, rfl⟩
abbrev main_v814 : Ref sig .tc := ⟨.hbm, 957, rfl⟩
abbrev main_v815 : Ref sig .tc := ⟨.hbm, 958, rfl⟩
abbrev main_v816 : Ref sig .tc := ⟨.hbm, 959, rfl⟩
abbrev main_v817 : Ref sig .tc := ⟨.hbm, 960, rfl⟩
abbrev main_v818 : Ref sig .tc := ⟨.hbm, 961, rfl⟩
abbrev main_v819 : Ref sig .tc := ⟨.hbm, 962, rfl⟩
abbrev main_v820 : Ref sig .tc := ⟨.hbm, 963, rfl⟩
abbrev main_v821 : Ref sig .tc := ⟨.hbm, 964, rfl⟩
abbrev main_cst_139 : Ref sig .tc := ⟨.hbm, 965, rfl⟩
abbrev main_v822 : Ref sig .tc := ⟨.hbm, 966, rfl⟩
abbrev main_v823 : Ref sig .tc := ⟨.hbm, 967, rfl⟩
abbrev main_v824 : Ref sig .tc := ⟨.hbm, 968, rfl⟩
abbrev main_v825 : Ref sig .tc := ⟨.hbm, 969, rfl⟩
abbrev main_cst_140 : Ref sig .tc := ⟨.hbm, 970, rfl⟩
abbrev main_v826 : Ref sig .tc := ⟨.hbm, 971, rfl⟩
abbrev main_v827 : Ref sig .tc := ⟨.hbm, 972, rfl⟩
abbrev main_v828 : Ref sig .tc := ⟨.hbm, 973, rfl⟩
abbrev main_v829 : Ref sig .tc := ⟨.hbm, 974, rfl⟩
abbrev main_v830 : Ref sig .tc := ⟨.hbm, 975, rfl⟩
abbrev main_v831 : Ref sig .tc := ⟨.hbm, 976, rfl⟩
abbrev main_v832 : Ref sig .tc := ⟨.hbm, 977, rfl⟩
abbrev main_v833 : Ref sig .tc := ⟨.hbm, 978, rfl⟩
abbrev main_v834 : Ref sig .tc := ⟨.hbm, 979, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![13], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1300x390 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1300x390 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1300x390 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S1000000x3 : Shape := ⟨2, ![1000000, 3]⟩
abbrev S3 : Shape := ⟨1, ![3]⟩
abbrev S_ : Shape := ⟨0, ![]⟩
abbrev S130x130x130x3 : Shape := ⟨4, ![130, 130, 130, 3]⟩
abbrev S130x130x130x1 : Shape := ⟨4, ![130, 130, 130, 1]⟩
abbrev S1x3 : Shape := ⟨2, ![1, 3]⟩
abbrev S1000000x1 : Shape := ⟨2, ![1000000, 1]⟩
abbrev S1000000 : Shape := ⟨1, ![1000000]⟩
abbrev S2197000x3 : Shape := ⟨2, ![2197000, 3]⟩
abbrev S2197000x1 : Shape := ⟨2, ![2197000, 1]⟩

abbrev nBuf : Space → Nat
  | .hbm => 1206
  | .vmem => 0
  | .smem => 0
  | _ => 0

abbrev hbmTy0_0 (i : Nat) : BufTy := match i % 128 with
  | 0 => ⟨S1000000x3, .f32⟩
  | 1 => ⟨S1000000x3, .f32⟩
  | 2 => ⟨S3, .f32⟩
  | 3 => ⟨S3, .i32⟩
  | 4 => ⟨S3, .i32⟩
  | 5 => ⟨S3, .i32⟩
  | 6 => ⟨S3, .i32⟩
  | 7 => ⟨S3, .i32⟩
  | 8 => ⟨S3, .i32⟩
  | 9 => ⟨S3, .i32⟩
  | 10 => ⟨S3, .i32⟩
  | 11 => ⟨S3, .i32⟩
  | 12 => ⟨S3, .i32⟩
  | 13 => ⟨S3, .i32⟩
  | 14 => ⟨S3, .i32⟩
  | 15 => ⟨S3, .i32⟩
  | 16 => ⟨S3, .i32⟩
  | 17 => ⟨S3, .i32⟩
  | 18 => ⟨S3, .i32⟩
  | 19 => ⟨S3, .i32⟩
  | 20 => ⟨S3, .i32⟩
  | 21 => ⟨S3, .i32⟩
  | 22 => ⟨S3, .i32⟩
  | 23 => ⟨S3, .i32⟩
  | 24 => ⟨S3, .i32⟩
  | 25 => ⟨S3, .i32⟩
  | 26 => ⟨S3, .i32⟩
  | 27 => ⟨S3, .i32⟩
  | 28 => ⟨S3, .i32⟩
  | 29 => ⟨S3, .i32⟩
  | 30 => ⟨S_, .f32⟩
  | 31 => ⟨S130x130x130x3, .f32⟩
  | 32 => ⟨S_, .f32⟩
  | 33 => ⟨S130x130x130x1, .f32⟩
  | 34 => ⟨S1x3, .f32⟩
  | 35 => ⟨S1000000x3, .f32⟩
  | 36 => ⟨S1000000x3, .f32⟩
  | 37 => ⟨S_, .f32⟩
  | 38 => ⟨S1000000x3, .f32⟩
  | 39 => ⟨S1000000x3, .f32⟩
  | 40 => ⟨S1000000x3, .i32⟩
  | 41 => ⟨S1000000x3, .f32⟩
  | 42 => ⟨S1000000x3, .f32⟩
  | 43 => ⟨S_, .f32⟩
  | 44 => ⟨S1000000x3, .f32⟩
  | 45 => ⟨S1000000x3, .f32⟩
  | 46 => ⟨S1000000x3, .f32⟩
  | 47 => ⟨S_, .f32⟩
  | 48 => ⟨S1000000x3, .f32⟩
  | 49 => ⟨S1000000x3, .f32⟩
  | 50 => ⟨S_, .f32⟩
  | 51 => ⟨S1000000x3, .f32⟩
  | 52 => ⟨S1000000x3, .f32⟩
  | 53 => ⟨S1000000x3, .f32⟩
  | 54 => ⟨S_, .f32⟩
  | 55 => ⟨S1000000x3, .f32⟩
  | 56 => ⟨S1000000x3, .f32⟩
  | 57 => ⟨S1000000x3, .f32⟩
  | 58 => ⟨S_, .f32⟩
  | 59 => ⟨S1000000x3, .f32⟩
  | 60 => ⟨S1000000x3, .f32⟩
  | 61 => ⟨S_, .i32⟩
  | 62 => ⟨S1000000x3, .i32⟩
  | 63 => ⟨S1000000x3, .i32⟩
  | 64 => ⟨S1000000x1, .f32⟩
  | 65 => ⟨S1000000x1, .f32⟩
  | 66 => ⟨S1000000x1, .f32⟩
  | 67 => ⟨S1000000x1, .f32⟩
  | 68 => ⟨S1000000x1, .f32⟩
  | 69 => ⟨S1x3, .i32⟩
  | 70 => ⟨S1000000x3, .i32⟩
  | 71 => ⟨S1000000x3, .i32⟩
  | 72 => ⟨S_, .i32⟩
  | 73 => ⟨S1000000x3, .i32⟩
  | 74 => ⟨S1000000x3, .i32⟩
  | 75 => ⟨S1000000x3, .f32⟩
  | 76 => ⟨S1000000x3, .f32⟩
  | 77 => ⟨S1000000x1, .i32⟩
  | 78 => ⟨S1000000, .i32⟩
  | 79 => ⟨S_, .i32⟩
  | 80 => ⟨S1000000, .i32⟩
  | 81 => ⟨S1000000, .i32⟩
  | 82 => ⟨S_, .i32⟩
  | 83 => ⟨S1000000, .i32⟩
  | 84 => ⟨S1000000, .i32⟩
  | 85 => ⟨S1000000x1, .i32⟩
  | 86 => ⟨S1000000, .i32⟩
  | 87 => ⟨S_, .i32⟩
  | 88 => ⟨S1000000, .i32⟩
  | 89 => ⟨S1000000, .i32⟩
  | 90 => ⟨S1000000, .i32⟩
  | 91 => ⟨S1000000x1, .i32⟩
  | 92 => ⟨S1000000, .i32⟩
  | 93 => ⟨S1000000, .i32⟩
  | 94 => ⟨S_, .f32⟩
  | 95 => ⟨S2197000x3, .f32⟩
  | 96 => ⟨S1000000x1, .i32⟩
  | 97 => ⟨S2197000x3, .f32⟩
  | 98 => ⟨S130x130x130x3, .f32⟩
  | 99 => ⟨S130x130x130x3, .f32⟩
  | 100 => ⟨S_, .f32⟩
  | 101 => ⟨S2197000x1, .f32⟩
  | 102 => ⟨S1000000x1, .i32⟩
  | 103 => ⟨S2197000x1, .f32⟩
  | 104 => ⟨S130x130x130x1, .f32⟩
  | 105 => ⟨S130x130x130x1, .f32⟩
  | 106 => ⟨S1000000x1, .f32⟩
  | 107 => ⟨S1000000x1, .f32⟩
  | 108 => ⟨S1000000x1, .f32⟩
  | 109 => ⟨S1000000x1, .f32⟩
  | 110 => ⟨S1000000x1, .f32⟩
  | 111 => ⟨S1x3, .i32⟩
  | 112 => ⟨S1000000x3, .i32⟩
  | 113 => ⟨S1000000x3, .i32⟩
  | 114 => ⟨S_, .i32⟩
  | 115 => ⟨S1000000x3, .i32⟩
  | 116 => ⟨S1000000x3, .i32⟩
  | 117 => ⟨S1000000x3, .f32⟩
  | 118 => ⟨S1000000x3, .f32⟩
  | 119 => ⟨S1000000x1, .i32⟩
  | 120 => ⟨S1000000, .i32⟩
  | 121 => ⟨S_, .i32⟩
  | 122 => ⟨S1000000, .i32⟩
  | 123 => ⟨S1000000, .i32⟩
  | 124 => ⟨S_, .i32⟩
  | 125 => ⟨S1000000, .i32⟩
  | 126 => ⟨S1000000, .i32⟩
  | 127 => ⟨S1000000x1, .i32⟩
  | _ => ⟨S1000000x3, .f32⟩

abbrev hbmTy0_1 (i : Nat) : BufTy := match i % 128 with
  | 0 => ⟨S1000000, .i32⟩
  | 1 => ⟨S_, .i32⟩
  | 2 => ⟨S1000000, .i32⟩
  | 3 => ⟨S1000000, .i32⟩
  | 4 => ⟨S1000000, .i32⟩
  | 5 => ⟨S1000000x1, .i32⟩
  | 6 => ⟨S1000000, .i32⟩
  | 7 => ⟨S1000000, .i32⟩
  | 8 => ⟨S_, .f32⟩
  | 9 => ⟨S2197000x3, .f32⟩
  | 10 => ⟨S1000000x1, .i32⟩
  | 11 => ⟨S2197000x3, .f32⟩
  | 12 => ⟨S130x130x130x3, .f32⟩
  | 13 => ⟨S130x130x130x3, .f32⟩
  | 14 => ⟨S_, .f32⟩
  | 15 => ⟨S2197000x1, .f32⟩
  | 16 => ⟨S1000000x1, .i32⟩
  | 17 => ⟨S2197000x1, .f32⟩
  | 18 => ⟨S130x130x130x1, .f32⟩
  | 19 => ⟨S130x130x130x1, .f32⟩
  | 20 => ⟨S1000000x1, .f32⟩
  | 21 => ⟨S1000000x1, .f32⟩
  | 22 => ⟨S1000000x1, .f32⟩
  | 23 => ⟨S1000000x1, .f32⟩
  | 24 => ⟨S1000000x1, .f32⟩
  | 25 => ⟨S1x3, .i32⟩
  | 26 => ⟨S1000000x3, .i32⟩
  | 27 => ⟨S1000000x3, .i32⟩
  | 28 => ⟨S_, .i32⟩
  | 29 => ⟨S1000000x3, .i32⟩
  | 30 => ⟨S1000000x3, .i32⟩
  | 31 => ⟨S1000000x3, .f32⟩
  | 32 => ⟨S1000000x3, .f32⟩
  | 33 => ⟨S1000000x1, .i32⟩
  | 34 => ⟨S1000000, .i32⟩
  | 35 => ⟨S_, .i32⟩
  | 36 => ⟨S1000000, .i32⟩
  | 37 => ⟨S1000000, .i32⟩
  | 38 => ⟨S_, .i32⟩
  | 39 => ⟨S1000000, .i32⟩
  | 40 => ⟨S1000000, .i32⟩
  | 41 => ⟨S1000000x1, .i32⟩
  | 42 => ⟨S1000000, .i32⟩
  | 43 => ⟨S_, .i32⟩
  | 44 => ⟨S1000000, .i32⟩
  | 45 => ⟨S1000000, .i32⟩
  | 46 => ⟨S1000000, .i32⟩
  | 47 => ⟨S1000000x1, .i32⟩
  | 48 => ⟨S1000000, .i32⟩
  | 49 => ⟨S1000000, .i32⟩
  | 50 => ⟨S_, .f32⟩
  | 51 => ⟨S2197000x3, .f32⟩
  | 52 => ⟨S1000000x1, .i32⟩
  | 53 => ⟨S2197000x3, .f32⟩
  | 54 => ⟨S130x130x130x3, .f32⟩
  | 55 => ⟨S130x130x130x3, .f32⟩
  | 56 => ⟨S_, .f32⟩
  | 57 => ⟨S2197000x1, .f32⟩
  | 58 => ⟨S1000000x1, .i32⟩
  | 59 => ⟨S2197000x1, .f32⟩
  | 60 => ⟨S130x130x130x1, .f32⟩
  | 61 => ⟨S130x130x130x1, .f32⟩
  | 62 => ⟨S1000000x1, .f32⟩
  | 63 => ⟨S1000000x1, .f32⟩
  | 64 => ⟨S1000000x1, .f32⟩
  | 65 => ⟨S1000000x1, .f32⟩
  | 66 => ⟨S1000000x1, .f32⟩
  | 67 => ⟨S1x3, .i32⟩
  | 68 => ⟨S1000000x3, .i32⟩
  | 69 => ⟨S1000000x3, .i32⟩
  | 70 => ⟨S_, .i32⟩
  | 71 => ⟨S1000000x3, .i32⟩
  | 72 => ⟨S1000000x3, .i32⟩
  | 73 => ⟨S1000000x3, .f32⟩
  | 74 => ⟨S1000000x3, .f32⟩
  | 75 => ⟨S1000000x1, .i32⟩
  | 76 => ⟨S1000000, .i32⟩
  | 77 => ⟨S_, .i32⟩
  | 78 => ⟨S1000000, .i32⟩
  | 79 => ⟨S1000000, .i32⟩
  | 80 => ⟨S_, .i32⟩
  | 81 => ⟨S1000000, .i32⟩
  | 82 => ⟨S1000000, .i32⟩
  | 83 => ⟨S1000000x1, .i32⟩
  | 84 => ⟨S1000000, .i32⟩
  | 85 => ⟨S_, .i32⟩
  | 86 => ⟨S1000000, .i32⟩
  | 87 => ⟨S1000000, .i32⟩
  | 88 => ⟨S1000000, .i32⟩
  | 89 => ⟨S1000000x1, .i32⟩
  | 90 => ⟨S1000000, .i32⟩
  | 91 => ⟨S1000000, .i32⟩
  | 92 => ⟨S_, .f32⟩
  | 93 => ⟨S2197000x3, .f32⟩
  | 94 => ⟨S1000000x1, .i32⟩
  | 95 => ⟨S2197000x3, .f32⟩
  | 96 => ⟨S130x130x130x3, .f32⟩
  | 97 => ⟨S130x130x130x3, .f32⟩
  | 98 => ⟨S_, .f32⟩
  | 99 => ⟨S2197000x1, .f32⟩
  | 100 => ⟨S1000000x1, .i32⟩
  | 101 => ⟨S2197000x1, .f32⟩
  | 102 => ⟨S130x130x130x1, .f32⟩
  | 103 => ⟨S130x130x130x1, .f32⟩
  | 104 => ⟨S1000000x1, .f32⟩
  | 105 => ⟨S1000000x1, .f32⟩
  | 106 => ⟨S1000000x1, .f32⟩
  | 107 => ⟨S1000000x1, .f32⟩
  | 108 => ⟨S1000000x1, .f32⟩
  | 109 => ⟨S1x3, .i32⟩
  | 110 => ⟨S1000000x3, .i32⟩
  | 111 => ⟨S1000000x3, .i32⟩
  | 112 => ⟨S_, .i32⟩
  | 113 => ⟨S1000000x3, .i32⟩
  | 114 => ⟨S1000000x3, .i32⟩
  | 115 => ⟨S1000000x3, .f32⟩
  | 116 => ⟨S1000000x3, .f32⟩
  | 117 => ⟨S1000000x1, .i32⟩
  | 118 => ⟨S1000000, .i32⟩
  | 119 => ⟨S_, .i32⟩
  | 120 => ⟨S1000000, .i32⟩
  | 121 => ⟨S1000000, .i32⟩
  | 122 => ⟨S_, .i32⟩
  | 123 => ⟨S1000000, .i32⟩
  | 124 => ⟨S1000000, .i32⟩
  | 125 => ⟨S1000000x1, .i32⟩
  | 126 => ⟨S1000000, .i32⟩
  | 127 => ⟨S_, .i32⟩
  | _ => ⟨S1000000x3, .f32⟩

abbrev hbmTy0_2 (i : Nat) : BufTy := match i % 128 with
  | 0 => ⟨S1000000, .i32⟩
  | 1 => ⟨S1000000, .i32⟩
  | 2 => ⟨S1000000, .i32⟩
  | 3 => ⟨S1000000x1, .i32⟩
  | 4 => ⟨S1000000, .i32⟩
  | 5 => ⟨S1000000, .i32⟩
  | 6 => ⟨S_, .f32⟩
  | 7 => ⟨S2197000x3, .f32⟩
  | 8 => ⟨S1000000x1, .i32⟩
  | 9 => ⟨S2197000x3, .f32⟩
  | 10 => ⟨S130x130x130x3, .f32⟩
  | 11 => ⟨S130x130x130x3, .f32⟩
  | 12 => ⟨S_, .f32⟩
  | 13 => ⟨S2197000x1, .f32⟩
  | 14 => ⟨S1000000x1, .i32⟩
  | 15 => ⟨S2197000x1, .f32⟩
  | 16 => ⟨S130x130x130x1, .f32⟩
  | 17 => ⟨S130x130x130x1, .f32⟩
  | 18 => ⟨S1000000x1, .f32⟩
  | 19 => ⟨S1000000x1, .f32⟩
  | 20 => ⟨S1000000x1, .f32⟩
  | 21 => ⟨S1000000x1, .f32⟩
  | 22 => ⟨S1000000x1, .f32⟩
  | 23 => ⟨S1x3, .i32⟩
  | 24 => ⟨S1000000x3, .i32⟩
  | 25 => ⟨S1000000x3, .i32⟩
  | 26 => ⟨S_, .i32⟩
  | 27 => ⟨S1000000x3, .i32⟩
  | 28 => ⟨S1000000x3, .i32⟩
  | 29 => ⟨S1000000x3, .f32⟩
  | 30 => ⟨S1000000x3, .f32⟩
  | 31 => ⟨S1000000x1, .i32⟩
  | 32 => ⟨S1000000, .i32⟩
  | 33 => ⟨S_, .i32⟩
  | 34 => ⟨S1000000, .i32⟩
  | 35 => ⟨S1000000, .i32⟩
  | 36 => ⟨S_, .i32⟩
  | 37 => ⟨S1000000, .i32⟩
  | 38 => ⟨S1000000, .i32⟩
  | 39 => ⟨S1000000x1, .i32⟩
  | 40 => ⟨S1000000, .i32⟩
  | 41 => ⟨S_, .i32⟩
  | 42 => ⟨S1000000, .i32⟩
  | 43 => ⟨S1000000, .i32⟩
  | 44 => ⟨S1000000, .i32⟩
  | 45 => ⟨S1000000x1, .i32⟩
  | 46 => ⟨S1000000, .i32⟩
  | 47 => ⟨S1000000, .i32⟩
  | 48 => ⟨S_, .f32⟩
  | 49 => ⟨S2197000x3, .f32⟩
  | 50 => ⟨S1000000x1, .i32⟩
  | 51 => ⟨S2197000x3, .f32⟩
  | 52 => ⟨S130x130x130x3, .f32⟩
  | 53 => ⟨S130x130x130x3, .f32⟩
  | 54 => ⟨S_, .f32⟩
  | 55 => ⟨S2197000x1, .f32⟩
  | 56 => ⟨S1000000x1, .i32⟩
  | 57 => ⟨S2197000x1, .f32⟩
  | 58 => ⟨S130x130x130x1, .f32⟩
  | 59 => ⟨S130x130x130x1, .f32⟩
  | 60 => ⟨S1000000x1, .f32⟩
  | 61 => ⟨S1000000x1, .f32⟩
  | 62 => ⟨S1000000x1, .f32⟩
  | 63 => ⟨S1000000x1, .f32⟩
  | 64 => ⟨S1000000x1, .f32⟩
  | 65 => ⟨S1x3, .i32⟩
  | 66 => ⟨S1000000x3, .i32⟩
  | 67 => ⟨S1000000x3, .i32⟩
  | 68 => ⟨S_, .i32⟩
  | 69 => ⟨S1000000x3, .i32⟩
  | 70 => ⟨S1000000x3, .i32⟩
  | 71 => ⟨S1000000x3, .f32⟩
  | 72 => ⟨S1000000x3, .f32⟩
  | 73 => ⟨S1000000x1, .i32⟩
  | 74 => ⟨S1000000, .i32⟩
  | 75 => ⟨S_, .i32⟩
  | 76 => ⟨S1000000, .i32⟩
  | 77 => ⟨S1000000, .i32⟩
  | 78 => ⟨S_, .i32⟩
  | 79 => ⟨S1000000, .i32⟩
  | 80 => ⟨S1000000, .i32⟩
  | 81 => ⟨S1000000x1, .i32⟩
  | 82 => ⟨S1000000, .i32⟩
  | 83 => ⟨S_, .i32⟩
  | 84 => ⟨S1000000, .i32⟩
  | 85 => ⟨S1000000, .i32⟩
  | 86 => ⟨S1000000, .i32⟩
  | 87 => ⟨S1000000x1, .i32⟩
  | 88 => ⟨S1000000, .i32⟩
  | 89 => ⟨S1000000, .i32⟩
  | 90 => ⟨S_, .f32⟩
  | 91 => ⟨S2197000x3, .f32⟩
  | 92 => ⟨S1000000x1, .i32⟩
  | 93 => ⟨S2197000x3, .f32⟩
  | 94 => ⟨S130x130x130x3, .f32⟩
  | 95 => ⟨S130x130x130x3, .f32⟩
  | 96 => ⟨S_, .f32⟩
  | 97 => ⟨S2197000x1, .f32⟩
  | 98 => ⟨S1000000x1, .i32⟩
  | 99 => ⟨S2197000x1, .f32⟩
  | 100 => ⟨S130x130x130x1, .f32⟩
  | 101 => ⟨S130x130x130x1, .f32⟩
  | 102 => ⟨S1000000x1, .f32⟩
  | 103 => ⟨S1000000x1, .f32⟩
  | 104 => ⟨S1000000x1, .f32⟩
  | 105 => ⟨S1000000x1, .f32⟩
  | 106 => ⟨S1000000x1, .f32⟩
  | 107 => ⟨S1x3, .i32⟩
  | 108 => ⟨S1000000x3, .i32⟩
  | 109 => ⟨S1000000x3, .i32⟩
  | 110 => ⟨S_, .i32⟩
  | 111 => ⟨S1000000x3, .i32⟩
  | 112 => ⟨S1000000x3, .i32⟩
  | 113 => ⟨S1000000x3, .f32⟩
  | 114 => ⟨S1000000x3, .f32⟩
  | 115 => ⟨S1000000x1, .i32⟩
  | 116 => ⟨S1000000, .i32⟩
  | 117 => ⟨S_, .i32⟩
  | 118 => ⟨S1000000, .i32⟩
  | 119 => ⟨S1000000, .i32⟩
  | 120 => ⟨S_, .i32⟩
  | 121 => ⟨S1000000, .i32⟩
  | 122 => ⟨S1000000, .i32⟩
  | 123 => ⟨S1000000x1, .i32⟩
  | 124 => ⟨S1000000, .i32⟩
  | 125 => ⟨S_, .i32⟩
  | 126 => ⟨S1000000, .i32⟩
  | 127 => ⟨S1000000, .i32⟩
  | _ => ⟨S1000000x3, .f32⟩

abbrev hbmTy0_3 (i : Nat) : BufTy := match i % 128 with
  | 0 => ⟨S1000000, .i32⟩
  | 1 => ⟨S1000000x1, .i32⟩
  | 2 => ⟨S1000000, .i32⟩
  | 3 => ⟨S1000000, .i32⟩
  | 4 => ⟨S_, .f32⟩
  | 5 => ⟨S2197000x3, .f32⟩
  | 6 => ⟨S1000000x1, .i32⟩
  | 7 => ⟨S2197000x3, .f32⟩
  | 8 => ⟨S130x130x130x3, .f32⟩
  | 9 => ⟨S130x130x130x3, .f32⟩
  | 10 => ⟨S_, .f32⟩
  | 11 => ⟨S2197000x1, .f32⟩
  | 12 => ⟨S1000000x1, .i32⟩
  | 13 => ⟨S2197000x1, .f32⟩
  | 14 => ⟨S130x130x130x1, .f32⟩
  | 15 => ⟨S130x130x130x1, .f32⟩
  | 16 => ⟨S1000000x1, .f32⟩
  | 17 => ⟨S1000000x1, .f32⟩
  | 18 => ⟨S1000000x1, .f32⟩
  | 19 => ⟨S1000000x1, .f32⟩
  | 20 => ⟨S1000000x1, .f32⟩
  | 21 => ⟨S1x3, .i32⟩
  | 22 => ⟨S1000000x3, .i32⟩
  | 23 => ⟨S1000000x3, .i32⟩
  | 24 => ⟨S_, .i32⟩
  | 25 => ⟨S1000000x3, .i32⟩
  | 26 => ⟨S1000000x3, .i32⟩
  | 27 => ⟨S1000000x3, .f32⟩
  | 28 => ⟨S1000000x3, .f32⟩
  | 29 => ⟨S1000000x1, .i32⟩
  | 30 => ⟨S1000000, .i32⟩
  | 31 => ⟨S_, .i32⟩
  | 32 => ⟨S1000000, .i32⟩
  | 33 => ⟨S1000000, .i32⟩
  | 34 => ⟨S_, .i32⟩
  | 35 => ⟨S1000000, .i32⟩
  | 36 => ⟨S1000000, .i32⟩
  | 37 => ⟨S1000000x1, .i32⟩
  | 38 => ⟨S1000000, .i32⟩
  | 39 => ⟨S_, .i32⟩
  | 40 => ⟨S1000000, .i32⟩
  | 41 => ⟨S1000000, .i32⟩
  | 42 => ⟨S1000000, .i32⟩
  | 43 => ⟨S1000000x1, .i32⟩
  | 44 => ⟨S1000000, .i32⟩
  | 45 => ⟨S1000000, .i32⟩
  | 46 => ⟨S_, .f32⟩
  | 47 => ⟨S2197000x3, .f32⟩
  | 48 => ⟨S1000000x1, .i32⟩
  | 49 => ⟨S2197000x3, .f32⟩
  | 50 => ⟨S130x130x130x3, .f32⟩
  | 51 => ⟨S130x130x130x3, .f32⟩
  | 52 => ⟨S_, .f32⟩
  | 53 => ⟨S2197000x1, .f32⟩
  | 54 => ⟨S1000000x1, .i32⟩
  | 55 => ⟨S2197000x1, .f32⟩
  | 56 => ⟨S130x130x130x1, .f32⟩
  | 57 => ⟨S130x130x130x1, .f32⟩
  | 58 => ⟨S1000000x1, .f32⟩
  | 59 => ⟨S1000000x1, .f32⟩
  | 60 => ⟨S1000000x1, .f32⟩
  | 61 => ⟨S1000000x1, .f32⟩
  | 62 => ⟨S1000000x1, .f32⟩
  | 63 => ⟨S1x3, .i32⟩
  | 64 => ⟨S1000000x3, .i32⟩
  | 65 => ⟨S1000000x3, .i32⟩
  | 66 => ⟨S_, .i32⟩
  | 67 => ⟨S1000000x3, .i32⟩
  | 68 => ⟨S1000000x3, .i32⟩
  | 69 => ⟨S1000000x3, .f32⟩
  | 70 => ⟨S1000000x3, .f32⟩
  | 71 => ⟨S1000000x1, .i32⟩
  | 72 => ⟨S1000000, .i32⟩
  | 73 => ⟨S_, .i32⟩
  | 74 => ⟨S1000000, .i32⟩
  | 75 => ⟨S1000000, .i32⟩
  | 76 => ⟨S_, .i32⟩
  | 77 => ⟨S1000000, .i32⟩
  | 78 => ⟨S1000000, .i32⟩
  | 79 => ⟨S1000000x1, .i32⟩
  | 80 => ⟨S1000000, .i32⟩
  | 81 => ⟨S_, .i32⟩
  | 82 => ⟨S1000000, .i32⟩
  | 83 => ⟨S1000000, .i32⟩
  | 84 => ⟨S1000000, .i32⟩
  | 85 => ⟨S1000000x1, .i32⟩
  | 86 => ⟨S1000000, .i32⟩
  | 87 => ⟨S1000000, .i32⟩
  | 88 => ⟨S_, .f32⟩
  | 89 => ⟨S2197000x3, .f32⟩
  | 90 => ⟨S1000000x1, .i32⟩
  | 91 => ⟨S2197000x3, .f32⟩
  | 92 => ⟨S130x130x130x3, .f32⟩
  | 93 => ⟨S130x130x130x3, .f32⟩
  | 94 => ⟨S_, .f32⟩
  | 95 => ⟨S2197000x1, .f32⟩
  | 96 => ⟨S1000000x1, .i32⟩
  | 97 => ⟨S2197000x1, .f32⟩
  | 98 => ⟨S130x130x130x1, .f32⟩
  | 99 => ⟨S130x130x130x1, .f32⟩
  | 100 => ⟨S1000000x1, .f32⟩
  | 101 => ⟨S1000000x1, .f32⟩
  | 102 => ⟨S1000000x1, .f32⟩
  | 103 => ⟨S1000000x1, .f32⟩
  | 104 => ⟨S1000000x1, .f32⟩
  | 105 => ⟨S1x3, .i32⟩
  | 106 => ⟨S1000000x3, .i32⟩
  | 107 => ⟨S1000000x3, .i32⟩
  | 108 => ⟨S_, .i32⟩
  | 109 => ⟨S1000000x3, .i32⟩
  | 110 => ⟨S1000000x3, .i32⟩
  | 111 => ⟨S1000000x3, .f32⟩
  | 112 => ⟨S1000000x3, .f32⟩
  | 113 => ⟨S1000000x1, .i32⟩
  | 114 => ⟨S1000000, .i32⟩
  | 115 => ⟨S_, .i32⟩
  | 116 => ⟨S1000000, .i32⟩
  | 117 => ⟨S1000000, .i32⟩
  | 118 => ⟨S_, .i32⟩
  | 119 => ⟨S1000000, .i32⟩
  | 120 => ⟨S1000000, .i32⟩
  | 121 => ⟨S1000000x1, .i32⟩
  | 122 => ⟨S1000000, .i32⟩
  | 123 => ⟨S_, .i32⟩
  | 124 => ⟨S1000000, .i32⟩
  | 125 => ⟨S1000000, .i32⟩
  | 126 => ⟨S1000000, .i32⟩
  | 127 => ⟨S1000000x1, .i32⟩
  | _ => ⟨S1000000x3, .f32⟩

abbrev hbmTy0_4 (i : Nat) : BufTy := match i % 128 with
  | 0 => ⟨S1000000, .i32⟩
  | 1 => ⟨S1000000, .i32⟩
  | 2 => ⟨S_, .f32⟩
  | 3 => ⟨S2197000x3, .f32⟩
  | 4 => ⟨S1000000x1, .i32⟩
  | 5 => ⟨S2197000x3, .f32⟩
  | 6 => ⟨S130x130x130x3, .f32⟩
  | 7 => ⟨S130x130x130x3, .f32⟩
  | 8 => ⟨S_, .f32⟩
  | 9 => ⟨S2197000x1, .f32⟩
  | 10 => ⟨S1000000x1, .i32⟩
  | 11 => ⟨S2197000x1, .f32⟩
  | 12 => ⟨S130x130x130x1, .f32⟩
  | 13 => ⟨S130x130x130x1, .f32⟩
  | 14 => ⟨S1000000x1, .f32⟩
  | 15 => ⟨S1000000x1, .f32⟩
  | 16 => ⟨S1000000x1, .f32⟩
  | 17 => ⟨S1000000x1, .f32⟩
  | 18 => ⟨S1000000x1, .f32⟩
  | 19 => ⟨S1x3, .i32⟩
  | 20 => ⟨S1000000x3, .i32⟩
  | 21 => ⟨S1000000x3, .i32⟩
  | 22 => ⟨S_, .i32⟩
  | 23 => ⟨S1000000x3, .i32⟩
  | 24 => ⟨S1000000x3, .i32⟩
  | 25 => ⟨S1000000x3, .f32⟩
  | 26 => ⟨S1000000x3, .f32⟩
  | 27 => ⟨S1000000x1, .i32⟩
  | 28 => ⟨S1000000, .i32⟩
  | 29 => ⟨S_, .i32⟩
  | 30 => ⟨S1000000, .i32⟩
  | 31 => ⟨S1000000, .i32⟩
  | 32 => ⟨S_, .i32⟩
  | 33 => ⟨S1000000, .i32⟩
  | 34 => ⟨S1000000, .i32⟩
  | 35 => ⟨S1000000x1, .i32⟩
  | 36 => ⟨S1000000, .i32⟩
  | 37 => ⟨S_, .i32⟩
  | 38 => ⟨S1000000, .i32⟩
  | 39 => ⟨S1000000, .i32⟩
  | 40 => ⟨S1000000, .i32⟩
  | 41 => ⟨S1000000x1, .i32⟩
  | 42 => ⟨S1000000, .i32⟩
  | 43 => ⟨S1000000, .i32⟩
  | 44 => ⟨S_, .f32⟩
  | 45 => ⟨S2197000x3, .f32⟩
  | 46 => ⟨S1000000x1, .i32⟩
  | 47 => ⟨S2197000x3, .f32⟩
  | 48 => ⟨S130x130x130x3, .f32⟩
  | 49 => ⟨S130x130x130x3, .f32⟩
  | 50 => ⟨S_, .f32⟩
  | 51 => ⟨S2197000x1, .f32⟩
  | 52 => ⟨S1000000x1, .i32⟩
  | 53 => ⟨S2197000x1, .f32⟩
  | 54 => ⟨S130x130x130x1, .f32⟩
  | 55 => ⟨S130x130x130x1, .f32⟩
  | 56 => ⟨S1000000x1, .f32⟩
  | 57 => ⟨S1000000x1, .f32⟩
  | 58 => ⟨S1000000x1, .f32⟩
  | 59 => ⟨S1000000x1, .f32⟩
  | 60 => ⟨S1000000x1, .f32⟩
  | 61 => ⟨S1x3, .i32⟩
  | 62 => ⟨S1000000x3, .i32⟩
  | 63 => ⟨S1000000x3, .i32⟩
  | 64 => ⟨S_, .i32⟩
  | 65 => ⟨S1000000x3, .i32⟩
  | 66 => ⟨S1000000x3, .i32⟩
  | 67 => ⟨S1000000x3, .f32⟩
  | 68 => ⟨S1000000x3, .f32⟩
  | 69 => ⟨S1000000x1, .i32⟩
  | 70 => ⟨S1000000, .i32⟩
  | 71 => ⟨S_, .i32⟩
  | 72 => ⟨S1000000, .i32⟩
  | 73 => ⟨S1000000, .i32⟩
  | 74 => ⟨S_, .i32⟩
  | 75 => ⟨S1000000, .i32⟩
  | 76 => ⟨S1000000, .i32⟩
  | 77 => ⟨S1000000x1, .i32⟩
  | 78 => ⟨S1000000, .i32⟩
  | 79 => ⟨S_, .i32⟩
  | 80 => ⟨S1000000, .i32⟩
  | 81 => ⟨S1000000, .i32⟩
  | 82 => ⟨S1000000, .i32⟩
  | 83 => ⟨S1000000x1, .i32⟩
  | 84 => ⟨S1000000, .i32⟩
  | 85 => ⟨S1000000, .i32⟩
  | 86 => ⟨S_, .f32⟩
  | 87 => ⟨S2197000x3, .f32⟩
  | 88 => ⟨S1000000x1, .i32⟩
  | 89 => ⟨S2197000x3, .f32⟩
  | 90 => ⟨S130x130x130x3, .f32⟩
  | 91 => ⟨S130x130x130x3, .f32⟩
  | 92 => ⟨S_, .f32⟩
  | 93 => ⟨S2197000x1, .f32⟩
  | 94 => ⟨S1000000x1, .i32⟩
  | 95 => ⟨S2197000x1, .f32⟩
  | 96 => ⟨S130x130x130x1, .f32⟩
  | 97 => ⟨S130x130x130x1, .f32⟩
  | 98 => ⟨S1000000x1, .f32⟩
  | 99 => ⟨S1000000x1, .f32⟩
  | 100 => ⟨S1000000x1, .f32⟩
  | 101 => ⟨S1000000x1, .f32⟩
  | 102 => ⟨S1000000x1, .f32⟩
  | 103 => ⟨S1x3, .i32⟩
  | 104 => ⟨S1000000x3, .i32⟩
  | 105 => ⟨S1000000x3, .i32⟩
  | 106 => ⟨S_, .i32⟩
  | 107 => ⟨S1000000x3, .i32⟩
  | 108 => ⟨S1000000x3, .i32⟩
  | 109 => ⟨S1000000x3, .f32⟩
  | 110 => ⟨S1000000x3, .f32⟩
  | 111 => ⟨S1000000x1, .i32⟩
  | 112 => ⟨S1000000, .i32⟩
  | 113 => ⟨S_, .i32⟩
  | 114 => ⟨S1000000, .i32⟩
  | 115 => ⟨S1000000, .i32⟩
  | 116 => ⟨S_, .i32⟩
  | 117 => ⟨S1000000, .i32⟩
  | 118 => ⟨S1000000, .i32⟩
  | 119 => ⟨S1000000x1, .i32⟩
  | 120 => ⟨S1000000, .i32⟩
  | 121 => ⟨S_, .i32⟩
  | 122 => ⟨S1000000, .i32⟩
  | 123 => ⟨S1000000, .i32⟩
  | 124 => ⟨S1000000, .i32⟩
  | 125 => ⟨S1000000x1, .i32⟩
  | 126 => ⟨S1000000, .i32⟩
  | 127 => ⟨S1000000, .i32⟩
  | _ => ⟨S1000000x3, .f32⟩

abbrev hbmTy0_5 (i : Nat) : BufTy := match i % 128 with
  | 0 => ⟨S_, .f32⟩
  | 1 => ⟨S2197000x3, .f32⟩
  | 2 => ⟨S1000000x1, .i32⟩
  | 3 => ⟨S2197000x3, .f32⟩
  | 4 => ⟨S130x130x130x3, .f32⟩
  | 5 => ⟨S130x130x130x3, .f32⟩
  | 6 => ⟨S_, .f32⟩
  | 7 => ⟨S2197000x1, .f32⟩
  | 8 => ⟨S1000000x1, .i32⟩
  | 9 => ⟨S2197000x1, .f32⟩
  | 10 => ⟨S130x130x130x1, .f32⟩
  | 11 => ⟨S130x130x130x1, .f32⟩
  | 12 => ⟨S1000000x1, .f32⟩
  | 13 => ⟨S1000000x1, .f32⟩
  | 14 => ⟨S1000000x1, .f32⟩
  | 15 => ⟨S1000000x1, .f32⟩
  | 16 => ⟨S1000000x1, .f32⟩
  | 17 => ⟨S1x3, .i32⟩
  | 18 => ⟨S1000000x3, .i32⟩
  | 19 => ⟨S1000000x3, .i32⟩
  | 20 => ⟨S_, .i32⟩
  | 21 => ⟨S1000000x3, .i32⟩
  | 22 => ⟨S1000000x3, .i32⟩
  | 23 => ⟨S1000000x3, .f32⟩
  | 24 => ⟨S1000000x3, .f32⟩
  | 25 => ⟨S1000000x1, .i32⟩
  | 26 => ⟨S1000000, .i32⟩
  | 27 => ⟨S_, .i32⟩
  | 28 => ⟨S1000000, .i32⟩
  | 29 => ⟨S1000000, .i32⟩
  | 30 => ⟨S_, .i32⟩
  | 31 => ⟨S1000000, .i32⟩
  | 32 => ⟨S1000000, .i32⟩
  | 33 => ⟨S1000000x1, .i32⟩
  | 34 => ⟨S1000000, .i32⟩
  | 35 => ⟨S_, .i32⟩
  | 36 => ⟨S1000000, .i32⟩
  | 37 => ⟨S1000000, .i32⟩
  | 38 => ⟨S1000000, .i32⟩
  | 39 => ⟨S1000000x1, .i32⟩
  | 40 => ⟨S1000000, .i32⟩
  | 41 => ⟨S1000000, .i32⟩
  | 42 => ⟨S_, .f32⟩
  | 43 => ⟨S2197000x3, .f32⟩
  | 44 => ⟨S1000000x1, .i32⟩
  | 45 => ⟨S2197000x3, .f32⟩
  | 46 => ⟨S130x130x130x3, .f32⟩
  | 47 => ⟨S130x130x130x3, .f32⟩
  | 48 => ⟨S_, .f32⟩
  | 49 => ⟨S2197000x1, .f32⟩
  | 50 => ⟨S1000000x1, .i32⟩
  | 51 => ⟨S2197000x1, .f32⟩
  | 52 => ⟨S130x130x130x1, .f32⟩
  | 53 => ⟨S130x130x130x1, .f32⟩
  | 54 => ⟨S1000000x1, .f32⟩
  | 55 => ⟨S1000000x1, .f32⟩
  | 56 => ⟨S1000000x1, .f32⟩
  | 57 => ⟨S1000000x1, .f32⟩
  | 58 => ⟨S1000000x1, .f32⟩
  | 59 => ⟨S1x3, .i32⟩
  | 60 => ⟨S1000000x3, .i32⟩
  | 61 => ⟨S1000000x3, .i32⟩
  | 62 => ⟨S_, .i32⟩
  | 63 => ⟨S1000000x3, .i32⟩
  | 64 => ⟨S1000000x3, .i32⟩
  | 65 => ⟨S1000000x3, .f32⟩
  | 66 => ⟨S1000000x3, .f32⟩
  | 67 => ⟨S1000000x1, .i32⟩
  | 68 => ⟨S1000000, .i32⟩
  | 69 => ⟨S_, .i32⟩
  | 70 => ⟨S1000000, .i32⟩
  | 71 => ⟨S1000000, .i32⟩
  | 72 => ⟨S_, .i32⟩
  | 73 => ⟨S1000000, .i32⟩
  | 74 => ⟨S1000000, .i32⟩
  | 75 => ⟨S1000000x1, .i32⟩
  | 76 => ⟨S1000000, .i32⟩
  | 77 => ⟨S_, .i32⟩
  | 78 => ⟨S1000000, .i32⟩
  | 79 => ⟨S1000000, .i32⟩
  | 80 => ⟨S1000000, .i32⟩
  | 81 => ⟨S1000000x1, .i32⟩
  | 82 => ⟨S1000000, .i32⟩
  | 83 => ⟨S1000000, .i32⟩
  | 84 => ⟨S_, .f32⟩
  | 85 => ⟨S2197000x3, .f32⟩
  | 86 => ⟨S1000000x1, .i32⟩
  | 87 => ⟨S2197000x3, .f32⟩
  | 88 => ⟨S130x130x130x3, .f32⟩
  | 89 => ⟨S130x130x130x3, .f32⟩
  | 90 => ⟨S_, .f32⟩
  | 91 => ⟨S2197000x1, .f32⟩
  | 92 => ⟨S1000000x1, .i32⟩
  | 93 => ⟨S2197000x1, .f32⟩
  | 94 => ⟨S130x130x130x1, .f32⟩
  | 95 => ⟨S130x130x130x1, .f32⟩
  | 96 => ⟨S1000000x1, .f32⟩
  | 97 => ⟨S1000000x1, .f32⟩
  | 98 => ⟨S1000000x1, .f32⟩
  | 99 => ⟨S1000000x1, .f32⟩
  | 100 => ⟨S1000000x1, .f32⟩
  | 101 => ⟨S1x3, .i32⟩
  | 102 => ⟨S1000000x3, .i32⟩
  | 103 => ⟨S1000000x3, .i32⟩
  | 104 => ⟨S_, .i32⟩
  | 105 => ⟨S1000000x3, .i32⟩
  | 106 => ⟨S1000000x3, .i32⟩
  | 107 => ⟨S1000000x3, .f32⟩
  | 108 => ⟨S1000000x3, .f32⟩
  | 109 => ⟨S1000000x1, .i32⟩
  | 110 => ⟨S1000000, .i32⟩
  | 111 => ⟨S_, .i32⟩
  | 112 => ⟨S1000000, .i32⟩
  | 113 => ⟨S1000000, .i32⟩
  | 114 => ⟨S_, .i32⟩
  | 115 => ⟨S1000000, .i32⟩
  | 116 => ⟨S1000000, .i32⟩
  | 117 => ⟨S1000000x1, .i32⟩
  | 118 => ⟨S1000000, .i32⟩
  | 119 => ⟨S_, .i32⟩
  | 120 => ⟨S1000000, .i32⟩
  | 121 => ⟨S1000000, .i32⟩
  | 122 => ⟨S1000000, .i32⟩
  | 123 => ⟨S1000000x1, .i32⟩
  | 124 => ⟨S1000000, .i32⟩
  | 125 => ⟨S1000000, .i32⟩
  | 126 => ⟨S_, .f32⟩
  | 127 => ⟨S2197000x3, .f32⟩
  | _ => ⟨S1000000x3, .f32⟩

abbrev hbmTy0_6 (i : Nat) : BufTy := match i % 128 with
  | 0 => ⟨S1000000x1, .i32⟩
  | 1 => ⟨S2197000x3, .f32⟩
  | 2 => ⟨S130x130x130x3, .f32⟩
  | 3 => ⟨S130x130x130x3, .f32⟩
  | 4 => ⟨S_, .f32⟩
  | 5 => ⟨S2197000x1, .f32⟩
  | 6 => ⟨S1000000x1, .i32⟩
  | 7 => ⟨S2197000x1, .f32⟩
  | 8 => ⟨S130x130x130x1, .f32⟩
  | 9 => ⟨S130x130x130x1, .f32⟩
  | 10 => ⟨S1000000x1, .f32⟩
  | 11 => ⟨S1000000x1, .f32⟩
  | 12 => ⟨S1000000x1, .f32⟩
  | 13 => ⟨S1000000x1, .f32⟩
  | 14 => ⟨S1000000x1, .f32⟩
  | 15 => ⟨S1x3, .i32⟩
  | 16 => ⟨S1000000x3, .i32⟩
  | 17 => ⟨S1000000x3, .i32⟩
  | 18 => ⟨S_, .i32⟩
  | 19 => ⟨S1000000x3, .i32⟩
  | 20 => ⟨S1000000x3, .i32⟩
  | 21 => ⟨S1000000x3, .f32⟩
  | 22 => ⟨S1000000x3, .f32⟩
  | 23 => ⟨S1000000x1, .i32⟩
  | 24 => ⟨S1000000, .i32⟩
  | 25 => ⟨S_, .i32⟩
  | 26 => ⟨S1000000, .i32⟩
  | 27 => ⟨S1000000, .i32⟩
  | 28 => ⟨S_, .i32⟩
  | 29 => ⟨S1000000, .i32⟩
  | 30 => ⟨S1000000, .i32⟩
  | 31 => ⟨S1000000x1, .i32⟩
  | 32 => ⟨S1000000, .i32⟩
  | 33 => ⟨S_, .i32⟩
  | 34 => ⟨S1000000, .i32⟩
  | 35 => ⟨S1000000, .i32⟩
  | 36 => ⟨S1000000, .i32⟩
  | 37 => ⟨S1000000x1, .i32⟩
  | 38 => ⟨S1000000, .i32⟩
  | 39 => ⟨S1000000, .i32⟩
  | 40 => ⟨S_, .f32⟩
  | 41 => ⟨S2197000x3, .f32⟩
  | 42 => ⟨S1000000x1, .i32⟩
  | 43 => ⟨S2197000x3, .f32⟩
  | 44 => ⟨S130x130x130x3, .f32⟩
  | 45 => ⟨S130x130x130x3, .f32⟩
  | 46 => ⟨S_, .f32⟩
  | 47 => ⟨S2197000x1, .f32⟩
  | 48 => ⟨S1000000x1, .i32⟩
  | 49 => ⟨S2197000x1, .f32⟩
  | 50 => ⟨S130x130x130x1, .f32⟩
  | 51 => ⟨S130x130x130x1, .f32⟩
  | 52 => ⟨S1000000x1, .f32⟩
  | 53 => ⟨S1000000x1, .f32⟩
  | 54 => ⟨S1000000x1, .f32⟩
  | 55 => ⟨S1000000x1, .f32⟩
  | 56 => ⟨S1000000x1, .f32⟩
  | 57 => ⟨S1x3, .i32⟩
  | 58 => ⟨S1000000x3, .i32⟩
  | 59 => ⟨S1000000x3, .i32⟩
  | 60 => ⟨S_, .i32⟩
  | 61 => ⟨S1000000x3, .i32⟩
  | 62 => ⟨S1000000x3, .i32⟩
  | 63 => ⟨S1000000x3, .f32⟩
  | 64 => ⟨S1000000x3, .f32⟩
  | 65 => ⟨S1000000x1, .i32⟩
  | 66 => ⟨S1000000, .i32⟩
  | 67 => ⟨S_, .i32⟩
  | 68 => ⟨S1000000, .i32⟩
  | 69 => ⟨S1000000, .i32⟩
  | 70 => ⟨S_, .i32⟩
  | 71 => ⟨S1000000, .i32⟩
  | 72 => ⟨S1000000, .i32⟩
  | 73 => ⟨S1000000x1, .i32⟩
  | 74 => ⟨S1000000, .i32⟩
  | 75 => ⟨S_, .i32⟩
  | 76 => ⟨S1000000, .i32⟩
  | 77 => ⟨S1000000, .i32⟩
  | 78 => ⟨S1000000, .i32⟩
  | 79 => ⟨S1000000x1, .i32⟩
  | 80 => ⟨S1000000, .i32⟩
  | 81 => ⟨S1000000, .i32⟩
  | 82 => ⟨S_, .f32⟩
  | 83 => ⟨S2197000x3, .f32⟩
  | 84 => ⟨S1000000x1, .i32⟩
  | 85 => ⟨S2197000x3, .f32⟩
  | 86 => ⟨S130x130x130x3, .f32⟩
  | 87 => ⟨S130x130x130x3, .f32⟩
  | 88 => ⟨S_, .f32⟩
  | 89 => ⟨S2197000x1, .f32⟩
  | 90 => ⟨S1000000x1, .i32⟩
  | 91 => ⟨S2197000x1, .f32⟩
  | 92 => ⟨S130x130x130x1, .f32⟩
  | 93 => ⟨S130x130x130x1, .f32⟩
  | 94 => ⟨S1000000x1, .f32⟩
  | 95 => ⟨S1000000x1, .f32⟩
  | 96 => ⟨S1000000x1, .f32⟩
  | 97 => ⟨S1000000x1, .f32⟩
  | 98 => ⟨S1000000x1, .f32⟩
  | 99 => ⟨S1x3, .i32⟩
  | 100 => ⟨S1000000x3, .i32⟩
  | 101 => ⟨S1000000x3, .i32⟩
  | 102 => ⟨S_, .i32⟩
  | 103 => ⟨S1000000x3, .i32⟩
  | 104 => ⟨S1000000x3, .i32⟩
  | 105 => ⟨S1000000x3, .f32⟩
  | 106 => ⟨S1000000x3, .f32⟩
  | 107 => ⟨S1000000x1, .i32⟩
  | 108 => ⟨S1000000, .i32⟩
  | 109 => ⟨S_, .i32⟩
  | 110 => ⟨S1000000, .i32⟩
  | 111 => ⟨S1000000, .i32⟩
  | 112 => ⟨S_, .i32⟩
  | 113 => ⟨S1000000, .i32⟩
  | 114 => ⟨S1000000, .i32⟩
  | 115 => ⟨S1000000x1, .i32⟩
  | 116 => ⟨S1000000, .i32⟩
  | 117 => ⟨S_, .i32⟩
  | 118 => ⟨S1000000, .i32⟩
  | 119 => ⟨S1000000, .i32⟩
  | 120 => ⟨S1000000, .i32⟩
  | 121 => ⟨S1000000x1, .i32⟩
  | 122 => ⟨S1000000, .i32⟩
  | 123 => ⟨S1000000, .i32⟩
  | 124 => ⟨S_, .f32⟩
  | 125 => ⟨S2197000x3, .f32⟩
  | 126 => ⟨S1000000x1, .i32⟩
  | 127 => ⟨S2197000x3, .f32⟩
  | _ => ⟨S1000000x3, .f32⟩

abbrev hbmTy0_7 (i : Nat) : BufTy := match i % 128 with
  | 0 => ⟨S130x130x130x3, .f32⟩
  | 1 => ⟨S130x130x130x3, .f32⟩
  | 2 => ⟨S_, .f32⟩
  | 3 => ⟨S2197000x1, .f32⟩
  | 4 => ⟨S1000000x1, .i32⟩
  | 5 => ⟨S2197000x1, .f32⟩
  | 6 => ⟨S130x130x130x1, .f32⟩
  | 7 => ⟨S130x130x130x1, .f32⟩
  | 8 => ⟨S1000000x1, .f32⟩
  | 9 => ⟨S1000000x1, .f32⟩
  | 10 => ⟨S1000000x1, .f32⟩
  | 11 => ⟨S1000000x1, .f32⟩
  | 12 => ⟨S1000000x1, .f32⟩
  | 13 => ⟨S1x3, .i32⟩
  | 14 => ⟨S1000000x3, .i32⟩
  | 15 => ⟨S1000000x3, .i32⟩
  | 16 => ⟨S_, .i32⟩
  | 17 => ⟨S1000000x3, .i32⟩
  | 18 => ⟨S1000000x3, .i32⟩
  | 19 => ⟨S1000000x3, .f32⟩
  | 20 => ⟨S1000000x3, .f32⟩
  | 21 => ⟨S1000000x1, .i32⟩
  | 22 => ⟨S1000000, .i32⟩
  | 23 => ⟨S_, .i32⟩
  | 24 => ⟨S1000000, .i32⟩
  | 25 => ⟨S1000000, .i32⟩
  | 26 => ⟨S_, .i32⟩
  | 27 => ⟨S1000000, .i32⟩
  | 28 => ⟨S1000000, .i32⟩
  | 29 => ⟨S1000000x1, .i32⟩
  | 30 => ⟨S1000000, .i32⟩
  | 31 => ⟨S_, .i32⟩
  | 32 => ⟨S1000000, .i32⟩
  | 33 => ⟨S1000000, .i32⟩
  | 34 => ⟨S1000000, .i32⟩
  | 35 => ⟨S1000000x1, .i32⟩
  | 36 => ⟨S1000000, .i32⟩
  | 37 => ⟨S1000000, .i32⟩
  | 38 => ⟨S_, .f32⟩
  | 39 => ⟨S2197000x3, .f32⟩
  | 40 => ⟨S1000000x1, .i32⟩
  | 41 => ⟨S2197000x3, .f32⟩
  | 42 => ⟨S130x130x130x3, .f32⟩
  | 43 => ⟨S130x130x130x3, .f32⟩
  | 44 => ⟨S_, .f32⟩
  | 45 => ⟨S2197000x1, .f32⟩
  | 46 => ⟨S1000000x1, .i32⟩
  | 47 => ⟨S2197000x1, .f32⟩
  | 48 => ⟨S130x130x130x1, .f32⟩
  | 49 => ⟨S130x130x130x1, .f32⟩
  | 50 => ⟨S1000000x1, .f32⟩
  | 51 => ⟨S1000000x1, .f32⟩
  | 52 => ⟨S1000000x1, .f32⟩
  | 53 => ⟨S1000000x1, .f32⟩
  | 54 => ⟨S1000000x1, .f32⟩
  | 55 => ⟨S1x3, .i32⟩
  | 56 => ⟨S1000000x3, .i32⟩
  | 57 => ⟨S1000000x3, .i32⟩
  | 58 => ⟨S_, .i32⟩
  | 59 => ⟨S1000000x3, .i32⟩
  | 60 => ⟨S1000000x3, .i32⟩
  | 61 => ⟨S1000000x3, .f32⟩
  | 62 => ⟨S1000000x3, .f32⟩
  | 63 => ⟨S1000000x1, .i32⟩
  | 64 => ⟨S1000000, .i32⟩
  | 65 => ⟨S_, .i32⟩
  | 66 => ⟨S1000000, .i32⟩
  | 67 => ⟨S1000000, .i32⟩
  | 68 => ⟨S_, .i32⟩
  | 69 => ⟨S1000000, .i32⟩
  | 70 => ⟨S1000000, .i32⟩
  | 71 => ⟨S1000000x1, .i32⟩
  | 72 => ⟨S1000000, .i32⟩
  | 73 => ⟨S_, .i32⟩
  | 74 => ⟨S1000000, .i32⟩
  | 75 => ⟨S1000000, .i32⟩
  | 76 => ⟨S1000000, .i32⟩
  | 77 => ⟨S1000000x1, .i32⟩
  | 78 => ⟨S1000000, .i32⟩
  | 79 => ⟨S1000000, .i32⟩
  | 80 => ⟨S_, .f32⟩
  | 81 => ⟨S2197000x3, .f32⟩
  | 82 => ⟨S1000000x1, .i32⟩
  | 83 => ⟨S2197000x3, .f32⟩
  | 84 => ⟨S130x130x130x3, .f32⟩
  | 85 => ⟨S130x130x130x3, .f32⟩
  | 86 => ⟨S_, .f32⟩
  | 87 => ⟨S2197000x1, .f32⟩
  | 88 => ⟨S1000000x1, .i32⟩
  | 89 => ⟨S2197000x1, .f32⟩
  | 90 => ⟨S130x130x130x1, .f32⟩
  | 91 => ⟨S130x130x130x1, .f32⟩
  | 92 => ⟨S1000000x1, .f32⟩
  | 93 => ⟨S1000000x1, .f32⟩
  | 94 => ⟨S1000000x1, .f32⟩
  | 95 => ⟨S1000000x1, .f32⟩
  | 96 => ⟨S1000000x1, .f32⟩
  | 97 => ⟨S1x3, .i32⟩
  | 98 => ⟨S1000000x3, .i32⟩
  | 99 => ⟨S1000000x3, .i32⟩
  | 100 => ⟨S_, .i32⟩
  | 101 => ⟨S1000000x3, .i32⟩
  | 102 => ⟨S1000000x3, .i32⟩
  | 103 => ⟨S1000000x3, .f32⟩
  | 104 => ⟨S1000000x3, .f32⟩
  | 105 => ⟨S1000000x1, .i32⟩
  | 106 => ⟨S1000000, .i32⟩
  | 107 => ⟨S_, .i32⟩
  | 108 => ⟨S1000000, .i32⟩
  | 109 => ⟨S1000000, .i32⟩
  | 110 => ⟨S_, .i32⟩
  | 111 => ⟨S1000000, .i32⟩
  | 112 => ⟨S1000000, .i32⟩
  | 113 => ⟨S1000000x1, .i32⟩
  | 114 => ⟨S1000000, .i32⟩
  | 115 => ⟨S_, .i32⟩
  | 116 => ⟨S1000000, .i32⟩
  | 117 => ⟨S1000000, .i32⟩
  | 118 => ⟨S1000000, .i32⟩
  | 119 => ⟨S1000000x1, .i32⟩
  | 120 => ⟨S1000000, .i32⟩
  | 121 => ⟨S1000000, .i32⟩
  | 122 => ⟨S_, .f32⟩
  | 123 => ⟨S2197000x3, .f32⟩
  | 124 => ⟨S1000000x1, .i32⟩
  | 125 => ⟨S2197000x3, .f32⟩
  | 126 => ⟨S130x130x130x3, .f32⟩
  | 127 => ⟨S130x130x130x3, .f32⟩
  | _ => ⟨S1000000x3, .f32⟩

abbrev hbmTy0_8 (i : Nat) : BufTy := match i % 128 with
  | 0 => ⟨S_, .f32⟩
  | 1 => ⟨S2197000x1, .f32⟩
  | 2 => ⟨S1000000x1, .i32⟩
  | 3 => ⟨S2197000x1, .f32⟩
  | 4 => ⟨S130x130x130x1, .f32⟩
  | 5 => ⟨S130x130x130x1, .f32⟩
  | 6 => ⟨S1000000x1, .f32⟩
  | 7 => ⟨S1000000x1, .f32⟩
  | 8 => ⟨S1000000x1, .f32⟩
  | 9 => ⟨S1000000x1, .f32⟩
  | 10 => ⟨S1000000x1, .f32⟩
  | 11 => ⟨S1x3, .i32⟩
  | 12 => ⟨S1000000x3, .i32⟩
  | 13 => ⟨S1000000x3, .i32⟩
  | 14 => ⟨S_, .i32⟩
  | 15 => ⟨S1000000x3, .i32⟩
  | 16 => ⟨S1000000x3, .i32⟩
  | 17 => ⟨S1000000x3, .f32⟩
  | 18 => ⟨S1000000x3, .f32⟩
  | 19 => ⟨S1000000x1, .i32⟩
  | 20 => ⟨S1000000, .i32⟩
  | 21 => ⟨S_, .i32⟩
  | 22 => ⟨S1000000, .i32⟩
  | 23 => ⟨S1000000, .i32⟩
  | 24 => ⟨S_, .i32⟩
  | 25 => ⟨S1000000, .i32⟩
  | 26 => ⟨S1000000, .i32⟩
  | 27 => ⟨S1000000x1, .i32⟩
  | 28 => ⟨S1000000, .i32⟩
  | 29 => ⟨S_, .i32⟩
  | 30 => ⟨S1000000, .i32⟩
  | 31 => ⟨S1000000, .i32⟩
  | 32 => ⟨S1000000, .i32⟩
  | 33 => ⟨S1000000x1, .i32⟩
  | 34 => ⟨S1000000, .i32⟩
  | 35 => ⟨S1000000, .i32⟩
  | 36 => ⟨S_, .f32⟩
  | 37 => ⟨S2197000x3, .f32⟩
  | 38 => ⟨S1000000x1, .i32⟩
  | 39 => ⟨S2197000x3, .f32⟩
  | 40 => ⟨S130x130x130x3, .f32⟩
  | 41 => ⟨S130x130x130x3, .f32⟩
  | 42 => ⟨S_, .f32⟩
  | 43 => ⟨S2197000x1, .f32⟩
  | 44 => ⟨S1000000x1, .i32⟩
  | 45 => ⟨S2197000x1, .f32⟩
  | 46 => ⟨S130x130x130x1, .f32⟩
  | 47 => ⟨S130x130x130x1, .f32⟩
  | 48 => ⟨S1000000x1, .f32⟩
  | 49 => ⟨S1000000x1, .f32⟩
  | 50 => ⟨S1000000x1, .f32⟩
  | 51 => ⟨S1000000x1, .f32⟩
  | 52 => ⟨S1000000x1, .f32⟩
  | 53 => ⟨S1x3, .i32⟩
  | 54 => ⟨S1000000x3, .i32⟩
  | 55 => ⟨S1000000x3, .i32⟩
  | 56 => ⟨S_, .i32⟩
  | 57 => ⟨S1000000x3, .i32⟩
  | 58 => ⟨S1000000x3, .i32⟩
  | 59 => ⟨S1000000x3, .f32⟩
  | 60 => ⟨S1000000x3, .f32⟩
  | 61 => ⟨S1000000x1, .i32⟩
  | 62 => ⟨S1000000, .i32⟩
  | 63 => ⟨S_, .i32⟩
  | 64 => ⟨S1000000, .i32⟩
  | 65 => ⟨S1000000, .i32⟩
  | 66 => ⟨S_, .i32⟩
  | 67 => ⟨S1000000, .i32⟩
  | 68 => ⟨S1000000, .i32⟩
  | 69 => ⟨S1000000x1, .i32⟩
  | 70 => ⟨S1000000, .i32⟩
  | 71 => ⟨S_, .i32⟩
  | 72 => ⟨S1000000, .i32⟩
  | 73 => ⟨S1000000, .i32⟩
  | 74 => ⟨S1000000, .i32⟩
  | 75 => ⟨S1000000x1, .i32⟩
  | 76 => ⟨S1000000, .i32⟩
  | 77 => ⟨S1000000, .i32⟩
  | 78 => ⟨S_, .f32⟩
  | 79 => ⟨S2197000x3, .f32⟩
  | 80 => ⟨S1000000x1, .i32⟩
  | 81 => ⟨S2197000x3, .f32⟩
  | 82 => ⟨S130x130x130x3, .f32⟩
  | 83 => ⟨S130x130x130x3, .f32⟩
  | 84 => ⟨S_, .f32⟩
  | 85 => ⟨S2197000x1, .f32⟩
  | 86 => ⟨S1000000x1, .i32⟩
  | 87 => ⟨S2197000x1, .f32⟩
  | 88 => ⟨S130x130x130x1, .f32⟩
  | 89 => ⟨S130x130x130x1, .f32⟩
  | 90 => ⟨S1000000x1, .f32⟩
  | 91 => ⟨S1000000x1, .f32⟩
  | 92 => ⟨S1000000x1, .f32⟩
  | 93 => ⟨S1000000x1, .f32⟩
  | 94 => ⟨S1000000x1, .f32⟩
  | 95 => ⟨S1x3, .i32⟩
  | 96 => ⟨S1000000x3, .i32⟩
  | 97 => ⟨S1000000x3, .i32⟩
  | 98 => ⟨S_, .i32⟩
  | 99 => ⟨S1000000x3, .i32⟩
  | 100 => ⟨S1000000x3, .i32⟩
  | 101 => ⟨S1000000x3, .f32⟩
  | 102 => ⟨S1000000x3, .f32⟩
  | 103 => ⟨S1000000x1, .i32⟩
  | 104 => ⟨S1000000, .i32⟩
  | 105 => ⟨S_, .i32⟩
  | 106 => ⟨S1000000, .i32⟩
  | 107 => ⟨S1000000, .i32⟩
  | 108 => ⟨S_, .i32⟩
  | 109 => ⟨S1000000, .i32⟩
  | 110 => ⟨S1000000, .i32⟩
  | 111 => ⟨S1000000x1, .i32⟩
  | 112 => ⟨S1000000, .i32⟩
  | 113 => ⟨S_, .i32⟩
  | 114 => ⟨S1000000, .i32⟩
  | 115 => ⟨S1000000, .i32⟩
  | 116 => ⟨S1000000, .i32⟩
  | 117 => ⟨S1000000x1, .i32⟩
  | 118 => ⟨S1000000, .i32⟩
  | 119 => ⟨S1000000, .i32⟩
  | 120 => ⟨S_, .f32⟩
  | 121 => ⟨S2197000x3, .f32⟩
  | 122 => ⟨S1000000x1, .i32⟩
  | 123 => ⟨S2197000x3, .f32⟩
  | 124 => ⟨S130x130x130x3, .f32⟩
  | 125 => ⟨S130x130x130x3, .f32⟩
  | 126 => ⟨S_, .f32⟩
  | 127 => ⟨S2197000x1, .f32⟩
  | _ => ⟨S1000000x3, .f32⟩

abbrev hbmTy0_9 (i : Nat) : BufTy := match i % 128 with
  | 0 => ⟨S1000000x1, .i32⟩
  | 1 => ⟨S2197000x1, .f32⟩
  | 2 => ⟨S130x130x130x1, .f32⟩
  | 3 => ⟨S130x130x130x1, .f32⟩
  | 4 => ⟨S1000000x1, .f32⟩
  | 5 => ⟨S1000000x1, .f32⟩
  | 6 => ⟨S1000000x1, .f32⟩
  | 7 => ⟨S1000000x1, .f32⟩
  | 8 => ⟨S1000000x1, .f32⟩
  | 9 => ⟨S1x3, .i32⟩
  | 10 => ⟨S1000000x3, .i32⟩
  | 11 => ⟨S1000000x3, .i32⟩
  | 12 => ⟨S_, .i32⟩
  | 13 => ⟨S1000000x3, .i32⟩
  | 14 => ⟨S1000000x3, .i32⟩
  | 15 => ⟨S1000000x3, .f32⟩
  | 16 => ⟨S1000000x3, .f32⟩
  | 17 => ⟨S1000000x1, .i32⟩
  | 18 => ⟨S1000000, .i32⟩
  | 19 => ⟨S_, .i32⟩
  | 20 => ⟨S1000000, .i32⟩
  | 21 => ⟨S1000000, .i32⟩
  | 22 => ⟨S_, .i32⟩
  | 23 => ⟨S1000000, .i32⟩
  | 24 => ⟨S1000000, .i32⟩
  | 25 => ⟨S1000000x1, .i32⟩
  | 26 => ⟨S1000000, .i32⟩
  | 27 => ⟨S_, .i32⟩
  | 28 => ⟨S1000000, .i32⟩
  | 29 => ⟨S1000000, .i32⟩
  | 30 => ⟨S1000000, .i32⟩
  | 31 => ⟨S1000000x1, .i32⟩
  | 32 => ⟨S1000000, .i32⟩
  | 33 => ⟨S1000000, .i32⟩
  | 34 => ⟨S_, .f32⟩
  | 35 => ⟨S2197000x3, .f32⟩
  | 36 => ⟨S1000000x1, .i32⟩
  | 37 => ⟨S2197000x3, .f32⟩
  | 38 => ⟨S130x130x130x3, .f32⟩
  | 39 => ⟨S130x130x130x3, .f32⟩
  | 40 => ⟨S_, .f32⟩
  | 41 => ⟨S2197000x1, .f32⟩
  | 42 => ⟨S1000000x1, .i32⟩
  | 43 => ⟨S2197000x1, .f32⟩
  | 44 => ⟨S130x130x130x1, .f32⟩
  | 45 => ⟨S130x130x130x1, .f32⟩
  | 46 => ⟨S_, .f32⟩
  | 47 => ⟨S130x130x130x1, .f32⟩
  | 48 => ⟨S130x130x130x1, .i1⟩
  | 49 => ⟨S_, .f32⟩
  | 50 => ⟨S130x130x130x1, .f32⟩
  | 51 => ⟨S130x130x130x1, .f32⟩
  | 52 => ⟨S130x130x130x3, .f32⟩
  | 53 => ⟨S130x130x130x3, .f32⟩
  | _ => ⟨S1000000x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | _ => ⟨S1000000x3, .f32⟩

abbrev bufTy : (tb : Table) → Fin (tcTables nBuf tb) → BufTy
  | .hbm, ⟨i, _⟩ => hbmTy i
  | _, _ => ⟨S1000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_c_4 : Ref sig .tc := ⟨.hbm, 8, rfl⟩
abbrev main_c_5 : Ref sig .tc := ⟨.hbm, 9, rfl⟩
abbrev main_c_6 : Ref sig .tc := ⟨.hbm, 10, rfl⟩
abbrev main_c_7 : Ref sig .tc := ⟨.hbm, 11, rfl⟩
abbrev main_c_8 : Ref sig .tc := ⟨.hbm, 12, rfl⟩
abbrev main_c_9 : Ref sig .tc := ⟨.hbm, 13, rfl⟩
abbrev main_c_10 : Ref sig .tc := ⟨.hbm, 14, rfl⟩
abbrev main_c_11 : Ref sig .tc := ⟨.hbm, 15, rfl⟩
abbrev main_c_12 : Ref sig .tc := ⟨.hbm, 16, rfl⟩
abbrev main_c_13 : Ref sig .tc := ⟨.hbm, 17, rfl⟩
abbrev main_c_14 : Ref sig .tc := ⟨.hbm, 18, rfl⟩
abbrev main_c_15 : Ref sig .tc := ⟨.hbm, 19, rfl⟩
abbrev main_c_16 : Ref sig .tc := ⟨.hbm, 20, rfl⟩
abbrev main_c_17 : Ref sig .tc := ⟨.hbm, 21, rfl⟩
abbrev main_c_18 : Ref sig .tc := ⟨.hbm, 22, rfl⟩
abbrev main_c_19 : Ref sig .tc := ⟨.hbm, 23, rfl⟩
abbrev main_c_20 : Ref sig .tc := ⟨.hbm, 24, rfl⟩
abbrev main_c_21 : Ref sig .tc := ⟨.hbm, 25, rfl⟩
abbrev main_c_22 : Ref sig .tc := ⟨.hbm, 26, rfl⟩
abbrev main_c_23 : Ref sig .tc := ⟨.hbm, 27, rfl⟩
abbrev main_c_24 : Ref sig .tc := ⟨.hbm, 28, rfl⟩
abbrev main_c_25 : Ref sig .tc := ⟨.hbm, 29, rfl⟩
abbrev main_cst_26 : Ref sig .tc := ⟨.hbm, 30, rfl⟩
abbrev main_v0 : Ref sig .tc := ⟨.hbm, 31, rfl⟩
abbrev main_cst_27 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_cst_28 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_cst_29 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_cst_30 : Ref sig .tc := ⟨.hbm, 47, rfl⟩
abbrev main_v13 : Ref sig .tc := ⟨.hbm, 48, rfl⟩
abbrev main_v14 : Ref sig .tc := ⟨.hbm, 49, rfl⟩
abbrev main_cst_31 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_cst_32 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_cst_33 : Ref sig .tc := ⟨.hbm, 58, rfl⟩
abbrev main_v21 : Ref sig .tc := ⟨.hbm, 59, rfl⟩
abbrev main_v22 : Ref sig .tc := ⟨.hbm, 60, rfl⟩
abbrev main_c_34 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_c_35 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_c_36 : Ref sig .tc := ⟨.hbm, 79, rfl⟩
abbrev main_v39 : Ref sig .tc := ⟨.hbm, 80, rfl⟩
abbrev main_v40 : Ref sig .tc := ⟨.hbm, 81, rfl⟩
abbrev main_c_37 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_c_38 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_cst_39 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_cst_40 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_c_41 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_c_42 : Ref sig .tc := ⟨.hbm, 121, rfl⟩
abbrev main_v75 : Ref sig .tc := ⟨.hbm, 122, rfl⟩
abbrev main_v76 : Ref sig .tc := ⟨.hbm, 123, rfl⟩
abbrev main_c_43 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_c_44 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_cst_45 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_cst_46 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_c_47 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_c_48 : Ref sig .tc := ⟨.hbm, 163, rfl⟩
abbrev main_v111 : Ref sig .tc := ⟨.hbm, 164, rfl⟩
abbrev main_v112 : Ref sig .tc := ⟨.hbm, 165, rfl⟩
abbrev main_c_49 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_c_50 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_cst_51 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_cst_52 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_c_53 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_c_54 : Ref sig .tc := ⟨.hbm, 205, rfl⟩
abbrev main_v147 : Ref sig .tc := ⟨.hbm, 206, rfl⟩
abbrev main_v148 : Ref sig .tc := ⟨.hbm, 207, rfl⟩
abbrev main_c_55 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_c_56 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_cst_57 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩
abbrev main_v162 : Ref sig .tc := ⟨.hbm, 224, rfl⟩
abbrev main_v163 : Ref sig .tc := ⟨.hbm, 225, rfl⟩
abbrev main_cst_58 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_c_59 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_c_60 : Ref sig .tc := ⟨.hbm, 247, rfl⟩
abbrev main_v183 : Ref sig .tc := ⟨.hbm, 248, rfl⟩
abbrev main_v184 : Ref sig .tc := ⟨.hbm, 249, rfl⟩
abbrev main_c_61 : Ref sig .tc := ⟨.hbm, 250, rfl⟩
abbrev main_v185 : Ref sig .tc := ⟨.hbm, 251, rfl⟩
abbrev main_v186 : Ref sig .tc := ⟨.hbm, 252, rfl⟩
abbrev main_v187 : Ref sig .tc := ⟨.hbm, 253, rfl⟩
abbrev main_v188 : Ref sig .tc := ⟨.hbm, 254, rfl⟩
abbrev main_c_62 : Ref sig .tc := ⟨.hbm, 255, rfl⟩
abbrev main_v189 : Ref sig .tc := ⟨.hbm, 256, rfl⟩
abbrev main_v190 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_v194 : Ref sig .tc := ⟨.hbm, 261, rfl⟩
abbrev main_cst_63 : Ref sig .tc := ⟨.hbm, 262, rfl⟩
abbrev main_v195 : Ref sig .tc := ⟨.hbm, 263, rfl⟩
abbrev main_v196 : Ref sig .tc := ⟨.hbm, 264, rfl⟩
abbrev main_v197 : Ref sig .tc := ⟨.hbm, 265, rfl⟩
abbrev main_v198 : Ref sig .tc := ⟨.hbm, 266, rfl⟩
abbrev main_v199 : Ref sig .tc := ⟨.hbm, 267, rfl⟩
abbrev main_cst_64 : Ref sig .tc := ⟨.hbm, 268, rfl⟩
abbrev main_v200 : Ref sig .tc := ⟨.hbm, 269, rfl⟩
abbrev main_v201 : Ref sig .tc := ⟨.hbm, 270, rfl⟩
abbrev main_v202 : Ref sig .tc := ⟨.hbm, 271, rfl⟩
abbrev main_v203 : Ref sig .tc := ⟨.hbm, 272, rfl⟩
abbrev main_v204 : Ref sig .tc := ⟨.hbm, 273, rfl⟩
abbrev main_v205 : Ref sig .tc := ⟨.hbm, 274, rfl⟩
abbrev main_v206 : Ref sig .tc := ⟨.hbm, 275, rfl⟩
abbrev main_v207 : Ref sig .tc := ⟨.hbm, 276, rfl⟩
abbrev main_v208 : Ref sig .tc := ⟨.hbm, 277, rfl⟩
abbrev main_v209 : Ref sig .tc := ⟨.hbm, 278, rfl⟩
abbrev main_v210 : Ref sig .tc := ⟨.hbm, 279, rfl⟩
abbrev main_v211 : Ref sig .tc := ⟨.hbm, 280, rfl⟩
abbrev main_v212 : Ref sig .tc := ⟨.hbm, 281, rfl⟩
abbrev main_c_65 : Ref sig .tc := ⟨.hbm, 282, rfl⟩
abbrev main_v213 : Ref sig .tc := ⟨.hbm, 283, rfl⟩
abbrev main_v214 : Ref sig .tc := ⟨.hbm, 284, rfl⟩
abbrev main_v215 : Ref sig .tc := ⟨.hbm, 285, rfl⟩
abbrev main_v216 : Ref sig .tc := ⟨.hbm, 286, rfl⟩
abbrev main_v217 : Ref sig .tc := ⟨.hbm, 287, rfl⟩
abbrev main_v218 : Ref sig .tc := ⟨.hbm, 288, rfl⟩
abbrev main_c_66 : Ref sig .tc := ⟨.hbm, 289, rfl⟩
abbrev main_v219 : Ref sig .tc := ⟨.hbm, 290, rfl⟩
abbrev main_v220 : Ref sig .tc := ⟨.hbm, 291, rfl⟩
abbrev main_c_67 : Ref sig .tc := ⟨.hbm, 292, rfl⟩
abbrev main_v221 : Ref sig .tc := ⟨.hbm, 293, rfl⟩
abbrev main_v222 : Ref sig .tc := ⟨.hbm, 294, rfl⟩
abbrev main_v223 : Ref sig .tc := ⟨.hbm, 295, rfl⟩
abbrev main_v224 : Ref sig .tc := ⟨.hbm, 296, rfl⟩
abbrev main_c_68 : Ref sig .tc := ⟨.hbm, 297, rfl⟩
abbrev main_v225 : Ref sig .tc := ⟨.hbm, 298, rfl⟩
abbrev main_v226 : Ref sig .tc := ⟨.hbm, 299, rfl⟩
abbrev main_v227 : Ref sig .tc := ⟨.hbm, 300, rfl⟩
abbrev main_v228 : Ref sig .tc := ⟨.hbm, 301, rfl⟩
abbrev main_v229 : Ref sig .tc := ⟨.hbm, 302, rfl⟩
abbrev main_v230 : Ref sig .tc := ⟨.hbm, 303, rfl⟩
abbrev main_cst_69 : Ref sig .tc := ⟨.hbm, 304, rfl⟩
abbrev main_v231 : Ref sig .tc := ⟨.hbm, 305, rfl⟩
abbrev main_v232 : Ref sig .tc := ⟨.hbm, 306, rfl⟩
abbrev main_v233 : Ref sig .tc := ⟨.hbm, 307, rfl⟩
abbrev main_v234 : Ref sig .tc := ⟨.hbm, 308, rfl⟩
abbrev main_v235 : Ref sig .tc := ⟨.hbm, 309, rfl⟩
abbrev main_cst_70 : Ref sig .tc := ⟨.hbm, 310, rfl⟩
abbrev main_v236 : Ref sig .tc := ⟨.hbm, 311, rfl⟩
abbrev main_v237 : Ref sig .tc := ⟨.hbm, 312, rfl⟩
abbrev main_v238 : Ref sig .tc := ⟨.hbm, 313, rfl⟩
abbrev main_v239 : Ref sig .tc := ⟨.hbm, 314, rfl⟩
abbrev main_v240 : Ref sig .tc := ⟨.hbm, 315, rfl⟩
abbrev main_v241 : Ref sig .tc := ⟨.hbm, 316, rfl⟩
abbrev main_v242 : Ref sig .tc := ⟨.hbm, 317, rfl⟩
abbrev main_v243 : Ref sig .tc := ⟨.hbm, 318, rfl⟩
abbrev main_v244 : Ref sig .tc := ⟨.hbm, 319, rfl⟩
abbrev main_v245 : Ref sig .tc := ⟨.hbm, 320, rfl⟩
abbrev main_v246 : Ref sig .tc := ⟨.hbm, 321, rfl⟩
abbrev main_v247 : Ref sig .tc := ⟨.hbm, 322, rfl⟩
abbrev main_v248 : Ref sig .tc := ⟨.hbm, 323, rfl⟩
abbrev main_c_71 : Ref sig .tc := ⟨.hbm, 324, rfl⟩
abbrev main_v249 : Ref sig .tc := ⟨.hbm, 325, rfl⟩
abbrev main_v250 : Ref sig .tc := ⟨.hbm, 326, rfl⟩
abbrev main_v251 : Ref sig .tc := ⟨.hbm, 327, rfl⟩
abbrev main_v252 : Ref sig .tc := ⟨.hbm, 328, rfl⟩
abbrev main_v253 : Ref sig .tc := ⟨.hbm, 329, rfl⟩
abbrev main_v254 : Ref sig .tc := ⟨.hbm, 330, rfl⟩
abbrev main_c_72 : Ref sig .tc := ⟨.hbm, 331, rfl⟩
abbrev main_v255 : Ref sig .tc := ⟨.hbm, 332, rfl⟩
abbrev main_v256 : Ref sig .tc := ⟨.hbm, 333, rfl⟩
abbrev main_c_73 : Ref sig .tc := ⟨.hbm, 334, rfl⟩
abbrev main_v257 : Ref sig .tc := ⟨.hbm, 335, rfl⟩
abbrev main_v258 : Ref sig .tc := ⟨.hbm, 336, rfl⟩
abbrev main_v259 : Ref sig .tc := ⟨.hbm, 337, rfl⟩
abbrev main_v260 : Ref sig .tc := ⟨.hbm, 338, rfl⟩
abbrev main_c_74 : Ref sig .tc := ⟨.hbm, 339, rfl⟩
abbrev main_v261 : Ref sig .tc := ⟨.hbm, 340, rfl⟩
abbrev main_v262 : Ref sig .tc := ⟨.hbm, 341, rfl⟩
abbrev main_v263 : Ref sig .tc := ⟨.hbm, 342, rfl⟩
abbrev main_v264 : Ref sig .tc := ⟨.hbm, 343, rfl⟩
abbrev main_v265 : Ref sig .tc := ⟨.hbm, 344, rfl⟩
abbrev main_v266 : Ref sig .tc := ⟨.hbm, 345, rfl⟩
abbrev main_cst_75 : Ref sig .tc := ⟨.hbm, 346, rfl⟩
abbrev main_v267 : Ref sig .tc := ⟨.hbm, 347, rfl⟩
abbrev main_v268 : Ref sig .tc := ⟨.hbm, 348, rfl⟩
abbrev main_v269 : Ref sig .tc := ⟨.hbm, 349, rfl⟩
abbrev main_v270 : Ref sig .tc := ⟨.hbm, 350, rfl⟩
abbrev main_v271 : Ref sig .tc := ⟨.hbm, 351, rfl⟩
abbrev main_cst_76 : Ref sig .tc := ⟨.hbm, 352, rfl⟩
abbrev main_v272 : Ref sig .tc := ⟨.hbm, 353, rfl⟩
abbrev main_v273 : Ref sig .tc := ⟨.hbm, 354, rfl⟩
abbrev main_v274 : Ref sig .tc := ⟨.hbm, 355, rfl⟩
abbrev main_v275 : Ref sig .tc := ⟨.hbm, 356, rfl⟩
abbrev main_v276 : Ref sig .tc := ⟨.hbm, 357, rfl⟩
abbrev main_v277 : Ref sig .tc := ⟨.hbm, 358, rfl⟩
abbrev main_v278 : Ref sig .tc := ⟨.hbm, 359, rfl⟩
abbrev main_v279 : Ref sig .tc := ⟨.hbm, 360, rfl⟩
abbrev main_v280 : Ref sig .tc := ⟨.hbm, 361, rfl⟩
abbrev main_v281 : Ref sig .tc := ⟨.hbm, 362, rfl⟩
abbrev main_v282 : Ref sig .tc := ⟨.hbm, 363, rfl⟩
abbrev main_v283 : Ref sig .tc := ⟨.hbm, 364, rfl⟩
abbrev main_v284 : Ref sig .tc := ⟨.hbm, 365, rfl⟩
abbrev main_c_77 : Ref sig .tc := ⟨.hbm, 366, rfl⟩
abbrev main_v285 : Ref sig .tc := ⟨.hbm, 367, rfl⟩
abbrev main_v286 : Ref sig .tc := ⟨.hbm, 368, rfl⟩
abbrev main_v287 : Ref sig .tc := ⟨.hbm, 369, rfl⟩
abbrev main_v288 : Ref sig .tc := ⟨.hbm, 370, rfl⟩
abbrev main_v289 : Ref sig .tc := ⟨.hbm, 371, rfl⟩
abbrev main_v290 : Ref sig .tc := ⟨.hbm, 372, rfl⟩
abbrev main_c_78 : Ref sig .tc := ⟨.hbm, 373, rfl⟩
abbrev main_v291 : Ref sig .tc := ⟨.hbm, 374, rfl⟩
abbrev main_v292 : Ref sig .tc := ⟨.hbm, 375, rfl⟩
abbrev main_c_79 : Ref sig .tc := ⟨.hbm, 376, rfl⟩
abbrev main_v293 : Ref sig .tc := ⟨.hbm, 377, rfl⟩
abbrev main_v294 : Ref sig .tc := ⟨.hbm, 378, rfl⟩
abbrev main_v295 : Ref sig .tc := ⟨.hbm, 379, rfl⟩
abbrev main_v296 : Ref sig .tc := ⟨.hbm, 380, rfl⟩
abbrev main_c_80 : Ref sig .tc := ⟨.hbm, 381, rfl⟩
abbrev main_v297 : Ref sig .tc := ⟨.hbm, 382, rfl⟩
abbrev main_v298 : Ref sig .tc := ⟨.hbm, 383, rfl⟩
abbrev main_v299 : Ref sig .tc := ⟨.hbm, 384, rfl⟩
abbrev main_v300 : Ref sig .tc := ⟨.hbm, 385, rfl⟩
abbrev main_v301 : Ref sig .tc := ⟨.hbm, 386, rfl⟩
abbrev main_v302 : Ref sig .tc := ⟨.hbm, 387, rfl⟩
abbrev main_cst_81 : Ref sig .tc := ⟨.hbm, 388, rfl⟩
abbrev main_v303 : Ref sig .tc := ⟨.hbm, 389, rfl⟩
abbrev main_v304 : Ref sig .tc := ⟨.hbm, 390, rfl⟩
abbrev main_v305 : Ref sig .tc := ⟨.hbm, 391, rfl⟩
abbrev main_v306 : Ref sig .tc := ⟨.hbm, 392, rfl⟩
abbrev main_v307 : Ref sig .tc := ⟨.hbm, 393, rfl⟩
abbrev main_cst_82 : Ref sig .tc := ⟨.hbm, 394, rfl⟩
abbrev main_v308 : Ref sig .tc := ⟨.hbm, 395, rfl⟩
abbrev main_v309 : Ref sig .tc := ⟨.hbm, 396, rfl⟩
abbrev main_v310 : Ref sig .tc := ⟨.hbm, 397, rfl⟩
abbrev main_v311 : Ref sig .tc := ⟨.hbm, 398, rfl⟩
abbrev main_v312 : Ref sig .tc := ⟨.hbm, 399, rfl⟩
abbrev main_v313 : Ref sig .tc := ⟨.hbm, 400, rfl⟩
abbrev main_v314 : Ref sig .tc := ⟨.hbm, 401, rfl⟩
abbrev main_v315 : Ref sig .tc := ⟨.hbm, 402, rfl⟩
abbrev main_v316 : Ref sig .tc := ⟨.hbm, 403, rfl⟩
abbrev main_v317 : Ref sig .tc := ⟨.hbm, 404, rfl⟩
abbrev main_v318 : Ref sig .tc := ⟨.hbm, 405, rfl⟩
abbrev main_v319 : Ref sig .tc := ⟨.hbm, 406, rfl⟩
abbrev main_v320 : Ref sig .tc := ⟨.hbm, 407, rfl⟩
abbrev main_c_83 : Ref sig .tc := ⟨.hbm, 408, rfl⟩
abbrev main_v321 : Ref sig .tc := ⟨.hbm, 409, rfl⟩
abbrev main_v322 : Ref sig .tc := ⟨.hbm, 410, rfl⟩
abbrev main_v323 : Ref sig .tc := ⟨.hbm, 411, rfl⟩
abbrev main_v324 : Ref sig .tc := ⟨.hbm, 412, rfl⟩
abbrev main_v325 : Ref sig .tc := ⟨.hbm, 413, rfl⟩
abbrev main_v326 : Ref sig .tc := ⟨.hbm, 414, rfl⟩
abbrev main_c_84 : Ref sig .tc := ⟨.hbm, 415, rfl⟩
abbrev main_v327 : Ref sig .tc := ⟨.hbm, 416, rfl⟩
abbrev main_v328 : Ref sig .tc := ⟨.hbm, 417, rfl⟩
abbrev main_c_85 : Ref sig .tc := ⟨.hbm, 418, rfl⟩
abbrev main_v329 : Ref sig .tc := ⟨.hbm, 419, rfl⟩
abbrev main_v330 : Ref sig .tc := ⟨.hbm, 420, rfl⟩
abbrev main_v331 : Ref sig .tc := ⟨.hbm, 421, rfl⟩
abbrev main_v332 : Ref sig .tc := ⟨.hbm, 422, rfl⟩
abbrev main_c_86 : Ref sig .tc := ⟨.hbm, 423, rfl⟩
abbrev main_v333 : Ref sig .tc := ⟨.hbm, 424, rfl⟩
abbrev main_v334 : Ref sig .tc := ⟨.hbm, 425, rfl⟩
abbrev main_v335 : Ref sig .tc := ⟨.hbm, 426, rfl⟩
abbrev main_v336 : Ref sig .tc := ⟨.hbm, 427, rfl⟩
abbrev main_v337 : Ref sig .tc := ⟨.hbm, 428, rfl⟩
abbrev main_v338 : Ref sig .tc := ⟨.hbm, 429, rfl⟩
abbrev main_cst_87 : Ref sig .tc := ⟨.hbm, 430, rfl⟩
abbrev main_v339 : Ref sig .tc := ⟨.hbm, 431, rfl⟩
abbrev main_v340 : Ref sig .tc := ⟨.hbm, 432, rfl⟩
abbrev main_v341 : Ref sig .tc := ⟨.hbm, 433, rfl⟩
abbrev main_v342 : Ref sig .tc := ⟨.hbm, 434, rfl⟩
abbrev main_v343 : Ref sig .tc := ⟨.hbm, 435, rfl⟩
abbrev main_cst_88 : Ref sig .tc := ⟨.hbm, 436, rfl⟩
abbrev main_v344 : Ref sig .tc := ⟨.hbm, 437, rfl⟩
abbrev main_v345 : Ref sig .tc := ⟨.hbm, 438, rfl⟩
abbrev main_v346 : Ref sig .tc := ⟨.hbm, 439, rfl⟩
abbrev main_v347 : Ref sig .tc := ⟨.hbm, 440, rfl⟩
abbrev main_v348 : Ref sig .tc := ⟨.hbm, 441, rfl⟩
abbrev main_v349 : Ref sig .tc := ⟨.hbm, 442, rfl⟩
abbrev main_v350 : Ref sig .tc := ⟨.hbm, 443, rfl⟩
abbrev main_v351 : Ref sig .tc := ⟨.hbm, 444, rfl⟩
abbrev main_v352 : Ref sig .tc := ⟨.hbm, 445, rfl⟩
abbrev main_v353 : Ref sig .tc := ⟨.hbm, 446, rfl⟩
abbrev main_v354 : Ref sig .tc := ⟨.hbm, 447, rfl⟩
abbrev main_v355 : Ref sig .tc := ⟨.hbm, 448, rfl⟩
abbrev main_v356 : Ref sig .tc := ⟨.hbm, 449, rfl⟩
abbrev main_c_89 : Ref sig .tc := ⟨.hbm, 450, rfl⟩
abbrev main_v357 : Ref sig .tc := ⟨.hbm, 451, rfl⟩
abbrev main_v358 : Ref sig .tc := ⟨.hbm, 452, rfl⟩
abbrev main_v359 : Ref sig .tc := ⟨.hbm, 453, rfl⟩
abbrev main_v360 : Ref sig .tc := ⟨.hbm, 454, rfl⟩
abbrev main_v361 : Ref sig .tc := ⟨.hbm, 455, rfl⟩
abbrev main_v362 : Ref sig .tc := ⟨.hbm, 456, rfl⟩
abbrev main_c_90 : Ref sig .tc := ⟨.hbm, 457, rfl⟩
abbrev main_v363 : Ref sig .tc := ⟨.hbm, 458, rfl⟩
abbrev main_v364 : Ref sig .tc := ⟨.hbm, 459, rfl⟩
abbrev main_c_91 : Ref sig .tc := ⟨.hbm, 460, rfl⟩
abbrev main_v365 : Ref sig .tc := ⟨.hbm, 461, rfl⟩
abbrev main_v366 : Ref sig .tc := ⟨.hbm, 462, rfl⟩
abbrev main_v367 : Ref sig .tc := ⟨.hbm, 463, rfl⟩
abbrev main_v368 : Ref sig .tc := ⟨.hbm, 464, rfl⟩
abbrev main_c_92 : Ref sig .tc := ⟨.hbm, 465, rfl⟩
abbrev main_v369 : Ref sig .tc := ⟨.hbm, 466, rfl⟩
abbrev main_v370 : Ref sig .tc := ⟨.hbm, 467, rfl⟩
abbrev main_v371 : Ref sig .tc := ⟨.hbm, 468, rfl⟩
abbrev main_v372 : Ref sig .tc := ⟨.hbm, 469, rfl⟩
abbrev main_v373 : Ref sig .tc := ⟨.hbm, 470, rfl⟩
abbrev main_v374 : Ref sig .tc := ⟨.hbm, 471, rfl⟩
abbrev main_cst_93 : Ref sig .tc := ⟨.hbm, 472, rfl⟩
abbrev main_v375 : Ref sig .tc := ⟨.hbm, 473, rfl⟩
abbrev main_v376 : Ref sig .tc := ⟨.hbm, 474, rfl⟩
abbrev main_v377 : Ref sig .tc := ⟨.hbm, 475, rfl⟩
abbrev main_v378 : Ref sig .tc := ⟨.hbm, 476, rfl⟩
abbrev main_v379 : Ref sig .tc := ⟨.hbm, 477, rfl⟩
abbrev main_cst_94 : Ref sig .tc := ⟨.hbm, 478, rfl⟩
abbrev main_v380 : Ref sig .tc := ⟨.hbm, 479, rfl⟩
abbrev main_v381 : Ref sig .tc := ⟨.hbm, 480, rfl⟩
abbrev main_v382 : Ref sig .tc := ⟨.hbm, 481, rfl⟩
abbrev main_v383 : Ref sig .tc := ⟨.hbm, 482, rfl⟩
abbrev main_v384 : Ref sig .tc := ⟨.hbm, 483, rfl⟩
abbrev main_v385 : Ref sig .tc := ⟨.hbm, 484, rfl⟩
abbrev main_v386 : Ref sig .tc := ⟨.hbm, 485, rfl⟩
abbrev main_v387 : Ref sig .tc := ⟨.hbm, 486, rfl⟩
abbrev main_v388 : Ref sig .tc := ⟨.hbm, 487, rfl⟩
abbrev main_v389 : Ref sig .tc := ⟨.hbm, 488, rfl⟩
abbrev main_v390 : Ref sig .tc := ⟨.hbm, 489, rfl⟩
abbrev main_v391 : Ref sig .tc := ⟨.hbm, 490, rfl⟩
abbrev main_v392 : Ref sig .tc := ⟨.hbm, 491, rfl⟩
abbrev main_c_95 : Ref sig .tc := ⟨.hbm, 492, rfl⟩
abbrev main_v393 : Ref sig .tc := ⟨.hbm, 493, rfl⟩
abbrev main_v394 : Ref sig .tc := ⟨.hbm, 494, rfl⟩
abbrev main_v395 : Ref sig .tc := ⟨.hbm, 495, rfl⟩
abbrev main_v396 : Ref sig .tc := ⟨.hbm, 496, rfl⟩
abbrev main_v397 : Ref sig .tc := ⟨.hbm, 497, rfl⟩
abbrev main_v398 : Ref sig .tc := ⟨.hbm, 498, rfl⟩
abbrev main_c_96 : Ref sig .tc := ⟨.hbm, 499, rfl⟩
abbrev main_v399 : Ref sig .tc := ⟨.hbm, 500, rfl⟩
abbrev main_v400 : Ref sig .tc := ⟨.hbm, 501, rfl⟩
abbrev main_c_97 : Ref sig .tc := ⟨.hbm, 502, rfl⟩
abbrev main_v401 : Ref sig .tc := ⟨.hbm, 503, rfl⟩
abbrev main_v402 : Ref sig .tc := ⟨.hbm, 504, rfl⟩
abbrev main_v403 : Ref sig .tc := ⟨.hbm, 505, rfl⟩
abbrev main_v404 : Ref sig .tc := ⟨.hbm, 506, rfl⟩
abbrev main_c_98 : Ref sig .tc := ⟨.hbm, 507, rfl⟩
abbrev main_v405 : Ref sig .tc := ⟨.hbm, 508, rfl⟩
abbrev main_v406 : Ref sig .tc := ⟨.hbm, 509, rfl⟩
abbrev main_v407 : Ref sig .tc := ⟨.hbm, 510, rfl⟩
abbrev main_v408 : Ref sig .tc := ⟨.hbm, 511, rfl⟩
abbrev main_v409 : Ref sig .tc := ⟨.hbm, 512, rfl⟩
abbrev main_v410 : Ref sig .tc := ⟨.hbm, 513, rfl⟩
abbrev main_cst_99 : Ref sig .tc := ⟨.hbm, 514, rfl⟩
abbrev main_v411 : Ref sig .tc := ⟨.hbm, 515, rfl⟩
abbrev main_v412 : Ref sig .tc := ⟨.hbm, 516, rfl⟩
abbrev main_v413 : Ref sig .tc := ⟨.hbm, 517, rfl⟩
abbrev main_v414 : Ref sig .tc := ⟨.hbm, 518, rfl⟩
abbrev main_v415 : Ref sig .tc := ⟨.hbm, 519, rfl⟩
abbrev main_cst_100 : Ref sig .tc := ⟨.hbm, 520, rfl⟩
abbrev main_v416 : Ref sig .tc := ⟨.hbm, 521, rfl⟩
abbrev main_v417 : Ref sig .tc := ⟨.hbm, 522, rfl⟩
abbrev main_v418 : Ref sig .tc := ⟨.hbm, 523, rfl⟩
abbrev main_v419 : Ref sig .tc := ⟨.hbm, 524, rfl⟩
abbrev main_v420 : Ref sig .tc := ⟨.hbm, 525, rfl⟩
abbrev main_v421 : Ref sig .tc := ⟨.hbm, 526, rfl⟩
abbrev main_v422 : Ref sig .tc := ⟨.hbm, 527, rfl⟩
abbrev main_v423 : Ref sig .tc := ⟨.hbm, 528, rfl⟩
abbrev main_v424 : Ref sig .tc := ⟨.hbm, 529, rfl⟩
abbrev main_v425 : Ref sig .tc := ⟨.hbm, 530, rfl⟩
abbrev main_v426 : Ref sig .tc := ⟨.hbm, 531, rfl⟩
abbrev main_v427 : Ref sig .tc := ⟨.hbm, 532, rfl⟩
abbrev main_v428 : Ref sig .tc := ⟨.hbm, 533, rfl⟩
abbrev main_c_101 : Ref sig .tc := ⟨.hbm, 534, rfl⟩
abbrev main_v429 : Ref sig .tc := ⟨.hbm, 535, rfl⟩
abbrev main_v430 : Ref sig .tc := ⟨.hbm, 536, rfl⟩
abbrev main_v431 : Ref sig .tc := ⟨.hbm, 537, rfl⟩
abbrev main_v432 : Ref sig .tc := ⟨.hbm, 538, rfl⟩
abbrev main_v433 : Ref sig .tc := ⟨.hbm, 539, rfl⟩
abbrev main_v434 : Ref sig .tc := ⟨.hbm, 540, rfl⟩
abbrev main_c_102 : Ref sig .tc := ⟨.hbm, 541, rfl⟩
abbrev main_v435 : Ref sig .tc := ⟨.hbm, 542, rfl⟩
abbrev main_v436 : Ref sig .tc := ⟨.hbm, 543, rfl⟩
abbrev main_c_103 : Ref sig .tc := ⟨.hbm, 544, rfl⟩
abbrev main_v437 : Ref sig .tc := ⟨.hbm, 545, rfl⟩
abbrev main_v438 : Ref sig .tc := ⟨.hbm, 546, rfl⟩
abbrev main_v439 : Ref sig .tc := ⟨.hbm, 547, rfl⟩
abbrev main_v440 : Ref sig .tc := ⟨.hbm, 548, rfl⟩
abbrev main_c_104 : Ref sig .tc := ⟨.hbm, 549, rfl⟩
abbrev main_v441 : Ref sig .tc := ⟨.hbm, 550, rfl⟩
abbrev main_v442 : Ref sig .tc := ⟨.hbm, 551, rfl⟩
abbrev main_v443 : Ref sig .tc := ⟨.hbm, 552, rfl⟩
abbrev main_v444 : Ref sig .tc := ⟨.hbm, 553, rfl⟩
abbrev main_v445 : Ref sig .tc := ⟨.hbm, 554, rfl⟩
abbrev main_v446 : Ref sig .tc := ⟨.hbm, 555, rfl⟩
abbrev main_cst_105 : Ref sig .tc := ⟨.hbm, 556, rfl⟩
abbrev main_v447 : Ref sig .tc := ⟨.hbm, 557, rfl⟩
abbrev main_v448 : Ref sig .tc := ⟨.hbm, 558, rfl⟩
abbrev main_v449 : Ref sig .tc := ⟨.hbm, 559, rfl⟩
abbrev main_v450 : Ref sig .tc := ⟨.hbm, 560, rfl⟩
abbrev main_v451 : Ref sig .tc := ⟨.hbm, 561, rfl⟩
abbrev main_cst_106 : Ref sig .tc := ⟨.hbm, 562, rfl⟩
abbrev main_v452 : Ref sig .tc := ⟨.hbm, 563, rfl⟩
abbrev main_v453 : Ref sig .tc := ⟨.hbm, 564, rfl⟩
abbrev main_v454 : Ref sig .tc := ⟨.hbm, 565, rfl⟩
abbrev main_v455 : Ref sig .tc := ⟨.hbm, 566, rfl⟩
abbrev main_v456 : Ref sig .tc := ⟨.hbm, 567, rfl⟩
abbrev main_v457 : Ref sig .tc := ⟨.hbm, 568, rfl⟩
abbrev main_v458 : Ref sig .tc := ⟨.hbm, 569, rfl⟩
abbrev main_v459 : Ref sig .tc := ⟨.hbm, 570, rfl⟩
abbrev main_v460 : Ref sig .tc := ⟨.hbm, 571, rfl⟩
abbrev main_v461 : Ref sig .tc := ⟨.hbm, 572, rfl⟩
abbrev main_v462 : Ref sig .tc := ⟨.hbm, 573, rfl⟩
abbrev main_v463 : Ref sig .tc := ⟨.hbm, 574, rfl⟩
abbrev main_v464 : Ref sig .tc := ⟨.hbm, 575, rfl⟩
abbrev main_c_107 : Ref sig .tc := ⟨.hbm, 576, rfl⟩
abbrev main_v465 : Ref sig .tc := ⟨.hbm, 577, rfl⟩
abbrev main_v466 : Ref sig .tc := ⟨.hbm, 578, rfl⟩
abbrev main_v467 : Ref sig .tc := ⟨.hbm, 579, rfl⟩
abbrev main_v468 : Ref sig .tc := ⟨.hbm, 580, rfl⟩
abbrev main_v469 : Ref sig .tc := ⟨.hbm, 581, rfl⟩
abbrev main_v470 : Ref sig .tc := ⟨.hbm, 582, rfl⟩
abbrev main_c_108 : Ref sig .tc := ⟨.hbm, 583, rfl⟩
abbrev main_v471 : Ref sig .tc := ⟨.hbm, 584, rfl⟩
abbrev main_v472 : Ref sig .tc := ⟨.hbm, 585, rfl⟩
abbrev main_c_109 : Ref sig .tc := ⟨.hbm, 586, rfl⟩
abbrev main_v473 : Ref sig .tc := ⟨.hbm, 587, rfl⟩
abbrev main_v474 : Ref sig .tc := ⟨.hbm, 588, rfl⟩
abbrev main_v475 : Ref sig .tc := ⟨.hbm, 589, rfl⟩
abbrev main_v476 : Ref sig .tc := ⟨.hbm, 590, rfl⟩
abbrev main_c_110 : Ref sig .tc := ⟨.hbm, 591, rfl⟩
abbrev main_v477 : Ref sig .tc := ⟨.hbm, 592, rfl⟩
abbrev main_v478 : Ref sig .tc := ⟨.hbm, 593, rfl⟩
abbrev main_v479 : Ref sig .tc := ⟨.hbm, 594, rfl⟩
abbrev main_v480 : Ref sig .tc := ⟨.hbm, 595, rfl⟩
abbrev main_v481 : Ref sig .tc := ⟨.hbm, 596, rfl⟩
abbrev main_v482 : Ref sig .tc := ⟨.hbm, 597, rfl⟩
abbrev main_cst_111 : Ref sig .tc := ⟨.hbm, 598, rfl⟩
abbrev main_v483 : Ref sig .tc := ⟨.hbm, 599, rfl⟩
abbrev main_v484 : Ref sig .tc := ⟨.hbm, 600, rfl⟩
abbrev main_v485 : Ref sig .tc := ⟨.hbm, 601, rfl⟩
abbrev main_v486 : Ref sig .tc := ⟨.hbm, 602, rfl⟩
abbrev main_v487 : Ref sig .tc := ⟨.hbm, 603, rfl⟩
abbrev main_cst_112 : Ref sig .tc := ⟨.hbm, 604, rfl⟩
abbrev main_v488 : Ref sig .tc := ⟨.hbm, 605, rfl⟩
abbrev main_v489 : Ref sig .tc := ⟨.hbm, 606, rfl⟩
abbrev main_v490 : Ref sig .tc := ⟨.hbm, 607, rfl⟩
abbrev main_v491 : Ref sig .tc := ⟨.hbm, 608, rfl⟩
abbrev main_v492 : Ref sig .tc := ⟨.hbm, 609, rfl⟩
abbrev main_v493 : Ref sig .tc := ⟨.hbm, 610, rfl⟩
abbrev main_v494 : Ref sig .tc := ⟨.hbm, 611, rfl⟩
abbrev main_v495 : Ref sig .tc := ⟨.hbm, 612, rfl⟩
abbrev main_v496 : Ref sig .tc := ⟨.hbm, 613, rfl⟩
abbrev main_v497 : Ref sig .tc := ⟨.hbm, 614, rfl⟩
abbrev main_v498 : Ref sig .tc := ⟨.hbm, 615, rfl⟩
abbrev main_v499 : Ref sig .tc := ⟨.hbm, 616, rfl⟩
abbrev main_v500 : Ref sig .tc := ⟨.hbm, 617, rfl⟩
abbrev main_c_113 : Ref sig .tc := ⟨.hbm, 618, rfl⟩
abbrev main_v501 : Ref sig .tc := ⟨.hbm, 619, rfl⟩
abbrev main_v502 : Ref sig .tc := ⟨.hbm, 620, rfl⟩
abbrev main_v503 : Ref sig .tc := ⟨.hbm, 621, rfl⟩
abbrev main_v504 : Ref sig .tc := ⟨.hbm, 622, rfl⟩
abbrev main_v505 : Ref sig .tc := ⟨.hbm, 623, rfl⟩
abbrev main_v506 : Ref sig .tc := ⟨.hbm, 624, rfl⟩
abbrev main_c_114 : Ref sig .tc := ⟨.hbm, 625, rfl⟩
abbrev main_v507 : Ref sig .tc := ⟨.hbm, 626, rfl⟩
abbrev main_v508 : Ref sig .tc := ⟨.hbm, 627, rfl⟩
abbrev main_c_115 : Ref sig .tc := ⟨.hbm, 628, rfl⟩
abbrev main_v509 : Ref sig .tc := ⟨.hbm, 629, rfl⟩
abbrev main_v510 : Ref sig .tc := ⟨.hbm, 630, rfl⟩
abbrev main_v511 : Ref sig .tc := ⟨.hbm, 631, rfl⟩
abbrev main_v512 : Ref sig .tc := ⟨.hbm, 632, rfl⟩
abbrev main_c_116 : Ref sig .tc := ⟨.hbm, 633, rfl⟩
abbrev main_v513 : Ref sig .tc := ⟨.hbm, 634, rfl⟩
abbrev main_v514 : Ref sig .tc := ⟨.hbm, 635, rfl⟩
abbrev main_v515 : Ref sig .tc := ⟨.hbm, 636, rfl⟩
abbrev main_v516 : Ref sig .tc := ⟨.hbm, 637, rfl⟩
abbrev main_v517 : Ref sig .tc := ⟨.hbm, 638, rfl⟩
abbrev main_v518 : Ref sig .tc := ⟨.hbm, 639, rfl⟩
abbrev main_cst_117 : Ref sig .tc := ⟨.hbm, 640, rfl⟩
abbrev main_v519 : Ref sig .tc := ⟨.hbm, 641, rfl⟩
abbrev main_v520 : Ref sig .tc := ⟨.hbm, 642, rfl⟩
abbrev main_v521 : Ref sig .tc := ⟨.hbm, 643, rfl⟩
abbrev main_v522 : Ref sig .tc := ⟨.hbm, 644, rfl⟩
abbrev main_v523 : Ref sig .tc := ⟨.hbm, 645, rfl⟩
abbrev main_cst_118 : Ref sig .tc := ⟨.hbm, 646, rfl⟩
abbrev main_v524 : Ref sig .tc := ⟨.hbm, 647, rfl⟩
abbrev main_v525 : Ref sig .tc := ⟨.hbm, 648, rfl⟩
abbrev main_v526 : Ref sig .tc := ⟨.hbm, 649, rfl⟩
abbrev main_v527 : Ref sig .tc := ⟨.hbm, 650, rfl⟩
abbrev main_v528 : Ref sig .tc := ⟨.hbm, 651, rfl⟩
abbrev main_v529 : Ref sig .tc := ⟨.hbm, 652, rfl⟩
abbrev main_v530 : Ref sig .tc := ⟨.hbm, 653, rfl⟩
abbrev main_v531 : Ref sig .tc := ⟨.hbm, 654, rfl⟩
abbrev main_v532 : Ref sig .tc := ⟨.hbm, 655, rfl⟩
abbrev main_v533 : Ref sig .tc := ⟨.hbm, 656, rfl⟩
abbrev main_v534 : Ref sig .tc := ⟨.hbm, 657, rfl⟩
abbrev main_v535 : Ref sig .tc := ⟨.hbm, 658, rfl⟩
abbrev main_v536 : Ref sig .tc := ⟨.hbm, 659, rfl⟩
abbrev main_c_119 : Ref sig .tc := ⟨.hbm, 660, rfl⟩
abbrev main_v537 : Ref sig .tc := ⟨.hbm, 661, rfl⟩
abbrev main_v538 : Ref sig .tc := ⟨.hbm, 662, rfl⟩
abbrev main_v539 : Ref sig .tc := ⟨.hbm, 663, rfl⟩
abbrev main_v540 : Ref sig .tc := ⟨.hbm, 664, rfl⟩
abbrev main_v541 : Ref sig .tc := ⟨.hbm, 665, rfl⟩
abbrev main_v542 : Ref sig .tc := ⟨.hbm, 666, rfl⟩
abbrev main_c_120 : Ref sig .tc := ⟨.hbm, 667, rfl⟩
abbrev main_v543 : Ref sig .tc := ⟨.hbm, 668, rfl⟩
abbrev main_v544 : Ref sig .tc := ⟨.hbm, 669, rfl⟩
abbrev main_c_121 : Ref sig .tc := ⟨.hbm, 670, rfl⟩
abbrev main_v545 : Ref sig .tc := ⟨.hbm, 671, rfl⟩
abbrev main_v546 : Ref sig .tc := ⟨.hbm, 672, rfl⟩
abbrev main_v547 : Ref sig .tc := ⟨.hbm, 673, rfl⟩
abbrev main_v548 : Ref sig .tc := ⟨.hbm, 674, rfl⟩
abbrev main_c_122 : Ref sig .tc := ⟨.hbm, 675, rfl⟩
abbrev main_v549 : Ref sig .tc := ⟨.hbm, 676, rfl⟩
abbrev main_v550 : Ref sig .tc := ⟨.hbm, 677, rfl⟩
abbrev main_v551 : Ref sig .tc := ⟨.hbm, 678, rfl⟩
abbrev main_v552 : Ref sig .tc := ⟨.hbm, 679, rfl⟩
abbrev main_v553 : Ref sig .tc := ⟨.hbm, 680, rfl⟩
abbrev main_v554 : Ref sig .tc := ⟨.hbm, 681, rfl⟩
abbrev main_cst_123 : Ref sig .tc := ⟨.hbm, 682, rfl⟩
abbrev main_v555 : Ref sig .tc := ⟨.hbm, 683, rfl⟩
abbrev main_v556 : Ref sig .tc := ⟨.hbm, 684, rfl⟩
abbrev main_v557 : Ref sig .tc := ⟨.hbm, 685, rfl⟩
abbrev main_v558 : Ref sig .tc := ⟨.hbm, 686, rfl⟩
abbrev main_v559 : Ref sig .tc := ⟨.hbm, 687, rfl⟩
abbrev main_cst_124 : Ref sig .tc := ⟨.hbm, 688, rfl⟩
abbrev main_v560 : Ref sig .tc := ⟨.hbm, 689, rfl⟩
abbrev main_v561 : Ref sig .tc := ⟨.hbm, 690, rfl⟩
abbrev main_v562 : Ref sig .tc := ⟨.hbm, 691, rfl⟩
abbrev main_v563 : Ref sig .tc := ⟨.hbm, 692, rfl⟩
abbrev main_v564 : Ref sig .tc := ⟨.hbm, 693, rfl⟩
abbrev main_v565 : Ref sig .tc := ⟨.hbm, 694, rfl⟩
abbrev main_v566 : Ref sig .tc := ⟨.hbm, 695, rfl⟩
abbrev main_v567 : Ref sig .tc := ⟨.hbm, 696, rfl⟩
abbrev main_v568 : Ref sig .tc := ⟨.hbm, 697, rfl⟩
abbrev main_v569 : Ref sig .tc := ⟨.hbm, 698, rfl⟩
abbrev main_v570 : Ref sig .tc := ⟨.hbm, 699, rfl⟩
abbrev main_v571 : Ref sig .tc := ⟨.hbm, 700, rfl⟩
abbrev main_v572 : Ref sig .tc := ⟨.hbm, 701, rfl⟩
abbrev main_c_125 : Ref sig .tc := ⟨.hbm, 702, rfl⟩
abbrev main_v573 : Ref sig .tc := ⟨.hbm, 703, rfl⟩
abbrev main_v574 : Ref sig .tc := ⟨.hbm, 704, rfl⟩
abbrev main_v575 : Ref sig .tc := ⟨.hbm, 705, rfl⟩
abbrev main_v576 : Ref sig .tc := ⟨.hbm, 706, rfl⟩
abbrev main_v577 : Ref sig .tc := ⟨.hbm, 707, rfl⟩
abbrev main_v578 : Ref sig .tc := ⟨.hbm, 708, rfl⟩
abbrev main_c_126 : Ref sig .tc := ⟨.hbm, 709, rfl⟩
abbrev main_v579 : Ref sig .tc := ⟨.hbm, 710, rfl⟩
abbrev main_v580 : Ref sig .tc := ⟨.hbm, 711, rfl⟩
abbrev main_c_127 : Ref sig .tc := ⟨.hbm, 712, rfl⟩
abbrev main_v581 : Ref sig .tc := ⟨.hbm, 713, rfl⟩
abbrev main_v582 : Ref sig .tc := ⟨.hbm, 714, rfl⟩
abbrev main_v583 : Ref sig .tc := ⟨.hbm, 715, rfl⟩
abbrev main_v584 : Ref sig .tc := ⟨.hbm, 716, rfl⟩
abbrev main_c_128 : Ref sig .tc := ⟨.hbm, 717, rfl⟩
abbrev main_v585 : Ref sig .tc := ⟨.hbm, 718, rfl⟩
abbrev main_v586 : Ref sig .tc := ⟨.hbm, 719, rfl⟩
abbrev main_v587 : Ref sig .tc := ⟨.hbm, 720, rfl⟩
abbrev main_v588 : Ref sig .tc := ⟨.hbm, 721, rfl⟩
abbrev main_v589 : Ref sig .tc := ⟨.hbm, 722, rfl⟩
abbrev main_v590 : Ref sig .tc := ⟨.hbm, 723, rfl⟩
abbrev main_cst_129 : Ref sig .tc := ⟨.hbm, 724, rfl⟩
abbrev main_v591 : Ref sig .tc := ⟨.hbm, 725, rfl⟩
abbrev main_v592 : Ref sig .tc := ⟨.hbm, 726, rfl⟩
abbrev main_v593 : Ref sig .tc := ⟨.hbm, 727, rfl⟩
abbrev main_v594 : Ref sig .tc := ⟨.hbm, 728, rfl⟩
abbrev main_v595 : Ref sig .tc := ⟨.hbm, 729, rfl⟩
abbrev main_cst_130 : Ref sig .tc := ⟨.hbm, 730, rfl⟩
abbrev main_v596 : Ref sig .tc := ⟨.hbm, 731, rfl⟩
abbrev main_v597 : Ref sig .tc := ⟨.hbm, 732, rfl⟩
abbrev main_v598 : Ref sig .tc := ⟨.hbm, 733, rfl⟩
abbrev main_v599 : Ref sig .tc := ⟨.hbm, 734, rfl⟩
abbrev main_v600 : Ref sig .tc := ⟨.hbm, 735, rfl⟩
abbrev main_v601 : Ref sig .tc := ⟨.hbm, 736, rfl⟩
abbrev main_v602 : Ref sig .tc := ⟨.hbm, 737, rfl⟩
abbrev main_v603 : Ref sig .tc := ⟨.hbm, 738, rfl⟩
abbrev main_v604 : Ref sig .tc := ⟨.hbm, 739, rfl⟩
abbrev main_v605 : Ref sig .tc := ⟨.hbm, 740, rfl⟩
abbrev main_v606 : Ref sig .tc := ⟨.hbm, 741, rfl⟩
abbrev main_v607 : Ref sig .tc := ⟨.hbm, 742, rfl⟩
abbrev main_v608 : Ref sig .tc := ⟨.hbm, 743, rfl⟩
abbrev main_c_131 : Ref sig .tc := ⟨.hbm, 744, rfl⟩
abbrev main_v609 : Ref sig .tc := ⟨.hbm, 745, rfl⟩
abbrev main_v610 : Ref sig .tc := ⟨.hbm, 746, rfl⟩
abbrev main_v611 : Ref sig .tc := ⟨.hbm, 747, rfl⟩
abbrev main_v612 : Ref sig .tc := ⟨.hbm, 748, rfl⟩
abbrev main_v613 : Ref sig .tc := ⟨.hbm, 749, rfl⟩
abbrev main_v614 : Ref sig .tc := ⟨.hbm, 750, rfl⟩
abbrev main_c_132 : Ref sig .tc := ⟨.hbm, 751, rfl⟩
abbrev main_v615 : Ref sig .tc := ⟨.hbm, 752, rfl⟩
abbrev main_v616 : Ref sig .tc := ⟨.hbm, 753, rfl⟩
abbrev main_c_133 : Ref sig .tc := ⟨.hbm, 754, rfl⟩
abbrev main_v617 : Ref sig .tc := ⟨.hbm, 755, rfl⟩
abbrev main_v618 : Ref sig .tc := ⟨.hbm, 756, rfl⟩
abbrev main_v619 : Ref sig .tc := ⟨.hbm, 757, rfl⟩
abbrev main_v620 : Ref sig .tc := ⟨.hbm, 758, rfl⟩
abbrev main_c_134 : Ref sig .tc := ⟨.hbm, 759, rfl⟩
abbrev main_v621 : Ref sig .tc := ⟨.hbm, 760, rfl⟩
abbrev main_v622 : Ref sig .tc := ⟨.hbm, 761, rfl⟩
abbrev main_v623 : Ref sig .tc := ⟨.hbm, 762, rfl⟩
abbrev main_v624 : Ref sig .tc := ⟨.hbm, 763, rfl⟩
abbrev main_v625 : Ref sig .tc := ⟨.hbm, 764, rfl⟩
abbrev main_v626 : Ref sig .tc := ⟨.hbm, 765, rfl⟩
abbrev main_cst_135 : Ref sig .tc := ⟨.hbm, 766, rfl⟩
abbrev main_v627 : Ref sig .tc := ⟨.hbm, 767, rfl⟩
abbrev main_v628 : Ref sig .tc := ⟨.hbm, 768, rfl⟩
abbrev main_v629 : Ref sig .tc := ⟨.hbm, 769, rfl⟩
abbrev main_v630 : Ref sig .tc := ⟨.hbm, 770, rfl⟩
abbrev main_v631 : Ref sig .tc := ⟨.hbm, 771, rfl⟩
abbrev main_cst_136 : Ref sig .tc := ⟨.hbm, 772, rfl⟩
abbrev main_v632 : Ref sig .tc := ⟨.hbm, 773, rfl⟩
abbrev main_v633 : Ref sig .tc := ⟨.hbm, 774, rfl⟩
abbrev main_v634 : Ref sig .tc := ⟨.hbm, 775, rfl⟩
abbrev main_v635 : Ref sig .tc := ⟨.hbm, 776, rfl⟩
abbrev main_v636 : Ref sig .tc := ⟨.hbm, 777, rfl⟩
abbrev main_v637 : Ref sig .tc := ⟨.hbm, 778, rfl⟩
abbrev main_v638 : Ref sig .tc := ⟨.hbm, 779, rfl⟩
abbrev main_v639 : Ref sig .tc := ⟨.hbm, 780, rfl⟩
abbrev main_v640 : Ref sig .tc := ⟨.hbm, 781, rfl⟩
abbrev main_v641 : Ref sig .tc := ⟨.hbm, 782, rfl⟩
abbrev main_v642 : Ref sig .tc := ⟨.hbm, 783, rfl⟩
abbrev main_v643 : Ref sig .tc := ⟨.hbm, 784, rfl⟩
abbrev main_v644 : Ref sig .tc := ⟨.hbm, 785, rfl⟩
abbrev main_c_137 : Ref sig .tc := ⟨.hbm, 786, rfl⟩
abbrev main_v645 : Ref sig .tc := ⟨.hbm, 787, rfl⟩
abbrev main_v646 : Ref sig .tc := ⟨.hbm, 788, rfl⟩
abbrev main_v647 : Ref sig .tc := ⟨.hbm, 789, rfl⟩
abbrev main_v648 : Ref sig .tc := ⟨.hbm, 790, rfl⟩
abbrev main_v649 : Ref sig .tc := ⟨.hbm, 791, rfl⟩
abbrev main_v650 : Ref sig .tc := ⟨.hbm, 792, rfl⟩
abbrev main_c_138 : Ref sig .tc := ⟨.hbm, 793, rfl⟩
abbrev main_v651 : Ref sig .tc := ⟨.hbm, 794, rfl⟩
abbrev main_v652 : Ref sig .tc := ⟨.hbm, 795, rfl⟩
abbrev main_c_139 : Ref sig .tc := ⟨.hbm, 796, rfl⟩
abbrev main_v653 : Ref sig .tc := ⟨.hbm, 797, rfl⟩
abbrev main_v654 : Ref sig .tc := ⟨.hbm, 798, rfl⟩
abbrev main_v655 : Ref sig .tc := ⟨.hbm, 799, rfl⟩
abbrev main_v656 : Ref sig .tc := ⟨.hbm, 800, rfl⟩
abbrev main_c_140 : Ref sig .tc := ⟨.hbm, 801, rfl⟩
abbrev main_v657 : Ref sig .tc := ⟨.hbm, 802, rfl⟩
abbrev main_v658 : Ref sig .tc := ⟨.hbm, 803, rfl⟩
abbrev main_v659 : Ref sig .tc := ⟨.hbm, 804, rfl⟩
abbrev main_v660 : Ref sig .tc := ⟨.hbm, 805, rfl⟩
abbrev main_v661 : Ref sig .tc := ⟨.hbm, 806, rfl⟩
abbrev main_v662 : Ref sig .tc := ⟨.hbm, 807, rfl⟩
abbrev main_cst_141 : Ref sig .tc := ⟨.hbm, 808, rfl⟩
abbrev main_v663 : Ref sig .tc := ⟨.hbm, 809, rfl⟩
abbrev main_v664 : Ref sig .tc := ⟨.hbm, 810, rfl⟩
abbrev main_v665 : Ref sig .tc := ⟨.hbm, 811, rfl⟩
abbrev main_v666 : Ref sig .tc := ⟨.hbm, 812, rfl⟩
abbrev main_v667 : Ref sig .tc := ⟨.hbm, 813, rfl⟩
abbrev main_cst_142 : Ref sig .tc := ⟨.hbm, 814, rfl⟩
abbrev main_v668 : Ref sig .tc := ⟨.hbm, 815, rfl⟩
abbrev main_v669 : Ref sig .tc := ⟨.hbm, 816, rfl⟩
abbrev main_v670 : Ref sig .tc := ⟨.hbm, 817, rfl⟩
abbrev main_v671 : Ref sig .tc := ⟨.hbm, 818, rfl⟩
abbrev main_v672 : Ref sig .tc := ⟨.hbm, 819, rfl⟩
abbrev main_v673 : Ref sig .tc := ⟨.hbm, 820, rfl⟩
abbrev main_v674 : Ref sig .tc := ⟨.hbm, 821, rfl⟩
abbrev main_v675 : Ref sig .tc := ⟨.hbm, 822, rfl⟩
abbrev main_v676 : Ref sig .tc := ⟨.hbm, 823, rfl⟩
abbrev main_v677 : Ref sig .tc := ⟨.hbm, 824, rfl⟩
abbrev main_v678 : Ref sig .tc := ⟨.hbm, 825, rfl⟩
abbrev main_v679 : Ref sig .tc := ⟨.hbm, 826, rfl⟩
abbrev main_v680 : Ref sig .tc := ⟨.hbm, 827, rfl⟩
abbrev main_c_143 : Ref sig .tc := ⟨.hbm, 828, rfl⟩
abbrev main_v681 : Ref sig .tc := ⟨.hbm, 829, rfl⟩
abbrev main_v682 : Ref sig .tc := ⟨.hbm, 830, rfl⟩
abbrev main_v683 : Ref sig .tc := ⟨.hbm, 831, rfl⟩
abbrev main_v684 : Ref sig .tc := ⟨.hbm, 832, rfl⟩
abbrev main_v685 : Ref sig .tc := ⟨.hbm, 833, rfl⟩
abbrev main_v686 : Ref sig .tc := ⟨.hbm, 834, rfl⟩
abbrev main_c_144 : Ref sig .tc := ⟨.hbm, 835, rfl⟩
abbrev main_v687 : Ref sig .tc := ⟨.hbm, 836, rfl⟩
abbrev main_v688 : Ref sig .tc := ⟨.hbm, 837, rfl⟩
abbrev main_c_145 : Ref sig .tc := ⟨.hbm, 838, rfl⟩
abbrev main_v689 : Ref sig .tc := ⟨.hbm, 839, rfl⟩
abbrev main_v690 : Ref sig .tc := ⟨.hbm, 840, rfl⟩
abbrev main_v691 : Ref sig .tc := ⟨.hbm, 841, rfl⟩
abbrev main_v692 : Ref sig .tc := ⟨.hbm, 842, rfl⟩
abbrev main_c_146 : Ref sig .tc := ⟨.hbm, 843, rfl⟩
abbrev main_v693 : Ref sig .tc := ⟨.hbm, 844, rfl⟩
abbrev main_v694 : Ref sig .tc := ⟨.hbm, 845, rfl⟩
abbrev main_v695 : Ref sig .tc := ⟨.hbm, 846, rfl⟩
abbrev main_v696 : Ref sig .tc := ⟨.hbm, 847, rfl⟩
abbrev main_v697 : Ref sig .tc := ⟨.hbm, 848, rfl⟩
abbrev main_v698 : Ref sig .tc := ⟨.hbm, 849, rfl⟩
abbrev main_cst_147 : Ref sig .tc := ⟨.hbm, 850, rfl⟩
abbrev main_v699 : Ref sig .tc := ⟨.hbm, 851, rfl⟩
abbrev main_v700 : Ref sig .tc := ⟨.hbm, 852, rfl⟩
abbrev main_v701 : Ref sig .tc := ⟨.hbm, 853, rfl⟩
abbrev main_v702 : Ref sig .tc := ⟨.hbm, 854, rfl⟩
abbrev main_v703 : Ref sig .tc := ⟨.hbm, 855, rfl⟩
abbrev main_cst_148 : Ref sig .tc := ⟨.hbm, 856, rfl⟩
abbrev main_v704 : Ref sig .tc := ⟨.hbm, 857, rfl⟩
abbrev main_v705 : Ref sig .tc := ⟨.hbm, 858, rfl⟩
abbrev main_v706 : Ref sig .tc := ⟨.hbm, 859, rfl⟩
abbrev main_v707 : Ref sig .tc := ⟨.hbm, 860, rfl⟩
abbrev main_v708 : Ref sig .tc := ⟨.hbm, 861, rfl⟩
abbrev main_v709 : Ref sig .tc := ⟨.hbm, 862, rfl⟩
abbrev main_v710 : Ref sig .tc := ⟨.hbm, 863, rfl⟩
abbrev main_v711 : Ref sig .tc := ⟨.hbm, 864, rfl⟩
abbrev main_v712 : Ref sig .tc := ⟨.hbm, 865, rfl⟩
abbrev main_v713 : Ref sig .tc := ⟨.hbm, 866, rfl⟩
abbrev main_v714 : Ref sig .tc := ⟨.hbm, 867, rfl⟩
abbrev main_v715 : Ref sig .tc := ⟨.hbm, 868, rfl⟩
abbrev main_v716 : Ref sig .tc := ⟨.hbm, 869, rfl⟩
abbrev main_c_149 : Ref sig .tc := ⟨.hbm, 870, rfl⟩
abbrev main_v717 : Ref sig .tc := ⟨.hbm, 871, rfl⟩
abbrev main_v718 : Ref sig .tc := ⟨.hbm, 872, rfl⟩
abbrev main_v719 : Ref sig .tc := ⟨.hbm, 873, rfl⟩
abbrev main_v720 : Ref sig .tc := ⟨.hbm, 874, rfl⟩
abbrev main_v721 : Ref sig .tc := ⟨.hbm, 875, rfl⟩
abbrev main_v722 : Ref sig .tc := ⟨.hbm, 876, rfl⟩
abbrev main_c_150 : Ref sig .tc := ⟨.hbm, 877, rfl⟩
abbrev main_v723 : Ref sig .tc := ⟨.hbm, 878, rfl⟩
abbrev main_v724 : Ref sig .tc := ⟨.hbm, 879, rfl⟩
abbrev main_c_151 : Ref sig .tc := ⟨.hbm, 880, rfl⟩
abbrev main_v725 : Ref sig .tc := ⟨.hbm, 881, rfl⟩
abbrev main_v726 : Ref sig .tc := ⟨.hbm, 882, rfl⟩
abbrev main_v727 : Ref sig .tc := ⟨.hbm, 883, rfl⟩
abbrev main_v728 : Ref sig .tc := ⟨.hbm, 884, rfl⟩
abbrev main_c_152 : Ref sig .tc := ⟨.hbm, 885, rfl⟩
abbrev main_v729 : Ref sig .tc := ⟨.hbm, 886, rfl⟩
abbrev main_v730 : Ref sig .tc := ⟨.hbm, 887, rfl⟩
abbrev main_v731 : Ref sig .tc := ⟨.hbm, 888, rfl⟩
abbrev main_v732 : Ref sig .tc := ⟨.hbm, 889, rfl⟩
abbrev main_v733 : Ref sig .tc := ⟨.hbm, 890, rfl⟩
abbrev main_v734 : Ref sig .tc := ⟨.hbm, 891, rfl⟩
abbrev main_cst_153 : Ref sig .tc := ⟨.hbm, 892, rfl⟩
abbrev main_v735 : Ref sig .tc := ⟨.hbm, 893, rfl⟩
abbrev main_v736 : Ref sig .tc := ⟨.hbm, 894, rfl⟩
abbrev main_v737 : Ref sig .tc := ⟨.hbm, 895, rfl⟩
abbrev main_v738 : Ref sig .tc := ⟨.hbm, 896, rfl⟩
abbrev main_v739 : Ref sig .tc := ⟨.hbm, 897, rfl⟩
abbrev main_cst_154 : Ref sig .tc := ⟨.hbm, 898, rfl⟩
abbrev main_v740 : Ref sig .tc := ⟨.hbm, 899, rfl⟩
abbrev main_v741 : Ref sig .tc := ⟨.hbm, 900, rfl⟩
abbrev main_v742 : Ref sig .tc := ⟨.hbm, 901, rfl⟩
abbrev main_v743 : Ref sig .tc := ⟨.hbm, 902, rfl⟩
abbrev main_v744 : Ref sig .tc := ⟨.hbm, 903, rfl⟩
abbrev main_v745 : Ref sig .tc := ⟨.hbm, 904, rfl⟩
abbrev main_v746 : Ref sig .tc := ⟨.hbm, 905, rfl⟩
abbrev main_v747 : Ref sig .tc := ⟨.hbm, 906, rfl⟩
abbrev main_v748 : Ref sig .tc := ⟨.hbm, 907, rfl⟩
abbrev main_v749 : Ref sig .tc := ⟨.hbm, 908, rfl⟩
abbrev main_v750 : Ref sig .tc := ⟨.hbm, 909, rfl⟩
abbrev main_v751 : Ref sig .tc := ⟨.hbm, 910, rfl⟩
abbrev main_v752 : Ref sig .tc := ⟨.hbm, 911, rfl⟩
abbrev main_c_155 : Ref sig .tc := ⟨.hbm, 912, rfl⟩
abbrev main_v753 : Ref sig .tc := ⟨.hbm, 913, rfl⟩
abbrev main_v754 : Ref sig .tc := ⟨.hbm, 914, rfl⟩
abbrev main_v755 : Ref sig .tc := ⟨.hbm, 915, rfl⟩
abbrev main_v756 : Ref sig .tc := ⟨.hbm, 916, rfl⟩
abbrev main_v757 : Ref sig .tc := ⟨.hbm, 917, rfl⟩
abbrev main_v758 : Ref sig .tc := ⟨.hbm, 918, rfl⟩
abbrev main_c_156 : Ref sig .tc := ⟨.hbm, 919, rfl⟩
abbrev main_v759 : Ref sig .tc := ⟨.hbm, 920, rfl⟩
abbrev main_v760 : Ref sig .tc := ⟨.hbm, 921, rfl⟩
abbrev main_c_157 : Ref sig .tc := ⟨.hbm, 922, rfl⟩
abbrev main_v761 : Ref sig .tc := ⟨.hbm, 923, rfl⟩
abbrev main_v762 : Ref sig .tc := ⟨.hbm, 924, rfl⟩
abbrev main_v763 : Ref sig .tc := ⟨.hbm, 925, rfl⟩
abbrev main_v764 : Ref sig .tc := ⟨.hbm, 926, rfl⟩
abbrev main_c_158 : Ref sig .tc := ⟨.hbm, 927, rfl⟩
abbrev main_v765 : Ref sig .tc := ⟨.hbm, 928, rfl⟩
abbrev main_v766 : Ref sig .tc := ⟨.hbm, 929, rfl⟩
abbrev main_v767 : Ref sig .tc := ⟨.hbm, 930, rfl⟩
abbrev main_v768 : Ref sig .tc := ⟨.hbm, 931, rfl⟩
abbrev main_v769 : Ref sig .tc := ⟨.hbm, 932, rfl⟩
abbrev main_v770 : Ref sig .tc := ⟨.hbm, 933, rfl⟩
abbrev main_cst_159 : Ref sig .tc := ⟨.hbm, 934, rfl⟩
abbrev main_v771 : Ref sig .tc := ⟨.hbm, 935, rfl⟩
abbrev main_v772 : Ref sig .tc := ⟨.hbm, 936, rfl⟩
abbrev main_v773 : Ref sig .tc := ⟨.hbm, 937, rfl⟩
abbrev main_v774 : Ref sig .tc := ⟨.hbm, 938, rfl⟩
abbrev main_v775 : Ref sig .tc := ⟨.hbm, 939, rfl⟩
abbrev main_cst_160 : Ref sig .tc := ⟨.hbm, 940, rfl⟩
abbrev main_v776 : Ref sig .tc := ⟨.hbm, 941, rfl⟩
abbrev main_v777 : Ref sig .tc := ⟨.hbm, 942, rfl⟩
abbrev main_v778 : Ref sig .tc := ⟨.hbm, 943, rfl⟩
abbrev main_v779 : Ref sig .tc := ⟨.hbm, 944, rfl⟩
abbrev main_v780 : Ref sig .tc := ⟨.hbm, 945, rfl⟩
abbrev main_v781 : Ref sig .tc := ⟨.hbm, 946, rfl⟩
abbrev main_v782 : Ref sig .tc := ⟨.hbm, 947, rfl⟩
abbrev main_v783 : Ref sig .tc := ⟨.hbm, 948, rfl⟩
abbrev main_v784 : Ref sig .tc := ⟨.hbm, 949, rfl⟩
abbrev main_v785 : Ref sig .tc := ⟨.hbm, 950, rfl⟩
abbrev main_v786 : Ref sig .tc := ⟨.hbm, 951, rfl⟩
abbrev main_v787 : Ref sig .tc := ⟨.hbm, 952, rfl⟩
abbrev main_v788 : Ref sig .tc := ⟨.hbm, 953, rfl⟩
abbrev main_c_161 : Ref sig .tc := ⟨.hbm, 954, rfl⟩
abbrev main_v789 : Ref sig .tc := ⟨.hbm, 955, rfl⟩
abbrev main_v790 : Ref sig .tc := ⟨.hbm, 956, rfl⟩
abbrev main_v791 : Ref sig .tc := ⟨.hbm, 957, rfl⟩
abbrev main_v792 : Ref sig .tc := ⟨.hbm, 958, rfl⟩
abbrev main_v793 : Ref sig .tc := ⟨.hbm, 959, rfl⟩
abbrev main_v794 : Ref sig .tc := ⟨.hbm, 960, rfl⟩
abbrev main_c_162 : Ref sig .tc := ⟨.hbm, 961, rfl⟩
abbrev main_v795 : Ref sig .tc := ⟨.hbm, 962, rfl⟩
abbrev main_v796 : Ref sig .tc := ⟨.hbm, 963, rfl⟩
abbrev main_c_163 : Ref sig .tc := ⟨.hbm, 964, rfl⟩
abbrev main_v797 : Ref sig .tc := ⟨.hbm, 965, rfl⟩
abbrev main_v798 : Ref sig .tc := ⟨.hbm, 966, rfl⟩
abbrev main_v799 : Ref sig .tc := ⟨.hbm, 967, rfl⟩
abbrev main_v800 : Ref sig .tc := ⟨.hbm, 968, rfl⟩
abbrev main_c_164 : Ref sig .tc := ⟨.hbm, 969, rfl⟩
abbrev main_v801 : Ref sig .tc := ⟨.hbm, 970, rfl⟩
abbrev main_v802 : Ref sig .tc := ⟨.hbm, 971, rfl⟩
abbrev main_v803 : Ref sig .tc := ⟨.hbm, 972, rfl⟩
abbrev main_v804 : Ref sig .tc := ⟨.hbm, 973, rfl⟩
abbrev main_v805 : Ref sig .tc := ⟨.hbm, 974, rfl⟩
abbrev main_v806 : Ref sig .tc := ⟨.hbm, 975, rfl⟩
abbrev main_cst_165 : Ref sig .tc := ⟨.hbm, 976, rfl⟩
abbrev main_v807 : Ref sig .tc := ⟨.hbm, 977, rfl⟩
abbrev main_v808 : Ref sig .tc := ⟨.hbm, 978, rfl⟩
abbrev main_v809 : Ref sig .tc := ⟨.hbm, 979, rfl⟩
abbrev main_v810 : Ref sig .tc := ⟨.hbm, 980, rfl⟩
abbrev main_v811 : Ref sig .tc := ⟨.hbm, 981, rfl⟩
abbrev main_cst_166 : Ref sig .tc := ⟨.hbm, 982, rfl⟩
abbrev main_v812 : Ref sig .tc := ⟨.hbm, 983, rfl⟩
abbrev main_v813 : Ref sig .tc := ⟨.hbm, 984, rfl⟩
abbrev main_v814 : Ref sig .tc := ⟨.hbm, 985, rfl⟩
abbrev main_v815 : Ref sig .tc := ⟨.hbm, 986, rfl⟩
abbrev main_v816 : Ref sig .tc := ⟨.hbm, 987, rfl⟩
abbrev main_v817 : Ref sig .tc := ⟨.hbm, 988, rfl⟩
abbrev main_v818 : Ref sig .tc := ⟨.hbm, 989, rfl⟩
abbrev main_v819 : Ref sig .tc := ⟨.hbm, 990, rfl⟩
abbrev main_v820 : Ref sig .tc := ⟨.hbm, 991, rfl⟩
abbrev main_v821 : Ref sig .tc := ⟨.hbm, 992, rfl⟩
abbrev main_v822 : Ref sig .tc := ⟨.hbm, 993, rfl⟩
abbrev main_v823 : Ref sig .tc := ⟨.hbm, 994, rfl⟩
abbrev main_v824 : Ref sig .tc := ⟨.hbm, 995, rfl⟩
abbrev main_c_167 : Ref sig .tc := ⟨.hbm, 996, rfl⟩
abbrev main_v825 : Ref sig .tc := ⟨.hbm, 997, rfl⟩
abbrev main_v826 : Ref sig .tc := ⟨.hbm, 998, rfl⟩
abbrev main_v827 : Ref sig .tc := ⟨.hbm, 999, rfl⟩
abbrev main_v828 : Ref sig .tc := ⟨.hbm, 1000, rfl⟩
abbrev main_v829 : Ref sig .tc := ⟨.hbm, 1001, rfl⟩
abbrev main_v830 : Ref sig .tc := ⟨.hbm, 1002, rfl⟩
abbrev main_c_168 : Ref sig .tc := ⟨.hbm, 1003, rfl⟩
abbrev main_v831 : Ref sig .tc := ⟨.hbm, 1004, rfl⟩
abbrev main_v832 : Ref sig .tc := ⟨.hbm, 1005, rfl⟩
abbrev main_c_169 : Ref sig .tc := ⟨.hbm, 1006, rfl⟩
abbrev main_v833 : Ref sig .tc := ⟨.hbm, 1007, rfl⟩
abbrev main_v834 : Ref sig .tc := ⟨.hbm, 1008, rfl⟩
abbrev main_v835 : Ref sig .tc := ⟨.hbm, 1009, rfl⟩
abbrev main_v836 : Ref sig .tc := ⟨.hbm, 1010, rfl⟩
abbrev main_c_170 : Ref sig .tc := ⟨.hbm, 1011, rfl⟩
abbrev main_v837 : Ref sig .tc := ⟨.hbm, 1012, rfl⟩
abbrev main_v838 : Ref sig .tc := ⟨.hbm, 1013, rfl⟩
abbrev main_v839 : Ref sig .tc := ⟨.hbm, 1014, rfl⟩
abbrev main_v840 : Ref sig .tc := ⟨.hbm, 1015, rfl⟩
abbrev main_v841 : Ref sig .tc := ⟨.hbm, 1016, rfl⟩
abbrev main_v842 : Ref sig .tc := ⟨.hbm, 1017, rfl⟩
abbrev main_cst_171 : Ref sig .tc := ⟨.hbm, 1018, rfl⟩
abbrev main_v843 : Ref sig .tc := ⟨.hbm, 1019, rfl⟩
abbrev main_v844 : Ref sig .tc := ⟨.hbm, 1020, rfl⟩
abbrev main_v845 : Ref sig .tc := ⟨.hbm, 1021, rfl⟩
abbrev main_v846 : Ref sig .tc := ⟨.hbm, 1022, rfl⟩
abbrev main_v847 : Ref sig .tc := ⟨.hbm, 1023, rfl⟩
abbrev main_cst_172 : Ref sig .tc := ⟨.hbm, 1024, rfl⟩
abbrev main_v848 : Ref sig .tc := ⟨.hbm, 1025, rfl⟩
abbrev main_v849 : Ref sig .tc := ⟨.hbm, 1026, rfl⟩
abbrev main_v850 : Ref sig .tc := ⟨.hbm, 1027, rfl⟩
abbrev main_v851 : Ref sig .tc := ⟨.hbm, 1028, rfl⟩
abbrev main_v852 : Ref sig .tc := ⟨.hbm, 1029, rfl⟩
abbrev main_v853 : Ref sig .tc := ⟨.hbm, 1030, rfl⟩
abbrev main_v854 : Ref sig .tc := ⟨.hbm, 1031, rfl⟩
abbrev main_v855 : Ref sig .tc := ⟨.hbm, 1032, rfl⟩
abbrev main_v856 : Ref sig .tc := ⟨.hbm, 1033, rfl⟩
abbrev main_v857 : Ref sig .tc := ⟨.hbm, 1034, rfl⟩
abbrev main_v858 : Ref sig .tc := ⟨.hbm, 1035, rfl⟩
abbrev main_v859 : Ref sig .tc := ⟨.hbm, 1036, rfl⟩
abbrev main_v860 : Ref sig .tc := ⟨.hbm, 1037, rfl⟩
abbrev main_c_173 : Ref sig .tc := ⟨.hbm, 1038, rfl⟩
abbrev main_v861 : Ref sig .tc := ⟨.hbm, 1039, rfl⟩
abbrev main_v862 : Ref sig .tc := ⟨.hbm, 1040, rfl⟩
abbrev main_v863 : Ref sig .tc := ⟨.hbm, 1041, rfl⟩
abbrev main_v864 : Ref sig .tc := ⟨.hbm, 1042, rfl⟩
abbrev main_v865 : Ref sig .tc := ⟨.hbm, 1043, rfl⟩
abbrev main_v866 : Ref sig .tc := ⟨.hbm, 1044, rfl⟩
abbrev main_c_174 : Ref sig .tc := ⟨.hbm, 1045, rfl⟩
abbrev main_v867 : Ref sig .tc := ⟨.hbm, 1046, rfl⟩
abbrev main_v868 : Ref sig .tc := ⟨.hbm, 1047, rfl⟩
abbrev main_c_175 : Ref sig .tc := ⟨.hbm, 1048, rfl⟩
abbrev main_v869 : Ref sig .tc := ⟨.hbm, 1049, rfl⟩
abbrev main_v870 : Ref sig .tc := ⟨.hbm, 1050, rfl⟩
abbrev main_v871 : Ref sig .tc := ⟨.hbm, 1051, rfl⟩
abbrev main_v872 : Ref sig .tc := ⟨.hbm, 1052, rfl⟩
abbrev main_c_176 : Ref sig .tc := ⟨.hbm, 1053, rfl⟩
abbrev main_v873 : Ref sig .tc := ⟨.hbm, 1054, rfl⟩
abbrev main_v874 : Ref sig .tc := ⟨.hbm, 1055, rfl⟩
abbrev main_v875 : Ref sig .tc := ⟨.hbm, 1056, rfl⟩
abbrev main_v876 : Ref sig .tc := ⟨.hbm, 1057, rfl⟩
abbrev main_v877 : Ref sig .tc := ⟨.hbm, 1058, rfl⟩
abbrev main_v878 : Ref sig .tc := ⟨.hbm, 1059, rfl⟩
abbrev main_cst_177 : Ref sig .tc := ⟨.hbm, 1060, rfl⟩
abbrev main_v879 : Ref sig .tc := ⟨.hbm, 1061, rfl⟩
abbrev main_v880 : Ref sig .tc := ⟨.hbm, 1062, rfl⟩
abbrev main_v881 : Ref sig .tc := ⟨.hbm, 1063, rfl⟩
abbrev main_v882 : Ref sig .tc := ⟨.hbm, 1064, rfl⟩
abbrev main_v883 : Ref sig .tc := ⟨.hbm, 1065, rfl⟩
abbrev main_cst_178 : Ref sig .tc := ⟨.hbm, 1066, rfl⟩
abbrev main_v884 : Ref sig .tc := ⟨.hbm, 1067, rfl⟩
abbrev main_v885 : Ref sig .tc := ⟨.hbm, 1068, rfl⟩
abbrev main_v886 : Ref sig .tc := ⟨.hbm, 1069, rfl⟩
abbrev main_v887 : Ref sig .tc := ⟨.hbm, 1070, rfl⟩
abbrev main_v888 : Ref sig .tc := ⟨.hbm, 1071, rfl⟩
abbrev main_v889 : Ref sig .tc := ⟨.hbm, 1072, rfl⟩
abbrev main_v890 : Ref sig .tc := ⟨.hbm, 1073, rfl⟩
abbrev main_v891 : Ref sig .tc := ⟨.hbm, 1074, rfl⟩
abbrev main_v892 : Ref sig .tc := ⟨.hbm, 1075, rfl⟩
abbrev main_v893 : Ref sig .tc := ⟨.hbm, 1076, rfl⟩
abbrev main_v894 : Ref sig .tc := ⟨.hbm, 1077, rfl⟩
abbrev main_v895 : Ref sig .tc := ⟨.hbm, 1078, rfl⟩
abbrev main_v896 : Ref sig .tc := ⟨.hbm, 1079, rfl⟩
abbrev main_c_179 : Ref sig .tc := ⟨.hbm, 1080, rfl⟩
abbrev main_v897 : Ref sig .tc := ⟨.hbm, 1081, rfl⟩
abbrev main_v898 : Ref sig .tc := ⟨.hbm, 1082, rfl⟩
abbrev main_v899 : Ref sig .tc := ⟨.hbm, 1083, rfl⟩
abbrev main_v900 : Ref sig .tc := ⟨.hbm, 1084, rfl⟩
abbrev main_v901 : Ref sig .tc := ⟨.hbm, 1085, rfl⟩
abbrev main_v902 : Ref sig .tc := ⟨.hbm, 1086, rfl⟩
abbrev main_c_180 : Ref sig .tc := ⟨.hbm, 1087, rfl⟩
abbrev main_v903 : Ref sig .tc := ⟨.hbm, 1088, rfl⟩
abbrev main_v904 : Ref sig .tc := ⟨.hbm, 1089, rfl⟩
abbrev main_c_181 : Ref sig .tc := ⟨.hbm, 1090, rfl⟩
abbrev main_v905 : Ref sig .tc := ⟨.hbm, 1091, rfl⟩
abbrev main_v906 : Ref sig .tc := ⟨.hbm, 1092, rfl⟩
abbrev main_v907 : Ref sig .tc := ⟨.hbm, 1093, rfl⟩
abbrev main_v908 : Ref sig .tc := ⟨.hbm, 1094, rfl⟩
abbrev main_c_182 : Ref sig .tc := ⟨.hbm, 1095, rfl⟩
abbrev main_v909 : Ref sig .tc := ⟨.hbm, 1096, rfl⟩
abbrev main_v910 : Ref sig .tc := ⟨.hbm, 1097, rfl⟩
abbrev main_v911 : Ref sig .tc := ⟨.hbm, 1098, rfl⟩
abbrev main_v912 : Ref sig .tc := ⟨.hbm, 1099, rfl⟩
abbrev main_v913 : Ref sig .tc := ⟨.hbm, 1100, rfl⟩
abbrev main_v914 : Ref sig .tc := ⟨.hbm, 1101, rfl⟩
abbrev main_cst_183 : Ref sig .tc := ⟨.hbm, 1102, rfl⟩
abbrev main_v915 : Ref sig .tc := ⟨.hbm, 1103, rfl⟩
abbrev main_v916 : Ref sig .tc := ⟨.hbm, 1104, rfl⟩
abbrev main_v917 : Ref sig .tc := ⟨.hbm, 1105, rfl⟩
abbrev main_v918 : Ref sig .tc := ⟨.hbm, 1106, rfl⟩
abbrev main_v919 : Ref sig .tc := ⟨.hbm, 1107, rfl⟩
abbrev main_cst_184 : Ref sig .tc := ⟨.hbm, 1108, rfl⟩
abbrev main_v920 : Ref sig .tc := ⟨.hbm, 1109, rfl⟩
abbrev main_v921 : Ref sig .tc := ⟨.hbm, 1110, rfl⟩
abbrev main_v922 : Ref sig .tc := ⟨.hbm, 1111, rfl⟩
abbrev main_v923 : Ref sig .tc := ⟨.hbm, 1112, rfl⟩
abbrev main_v924 : Ref sig .tc := ⟨.hbm, 1113, rfl⟩
abbrev main_v925 : Ref sig .tc := ⟨.hbm, 1114, rfl⟩
abbrev main_v926 : Ref sig .tc := ⟨.hbm, 1115, rfl⟩
abbrev main_v927 : Ref sig .tc := ⟨.hbm, 1116, rfl⟩
abbrev main_v928 : Ref sig .tc := ⟨.hbm, 1117, rfl⟩
abbrev main_v929 : Ref sig .tc := ⟨.hbm, 1118, rfl⟩
abbrev main_v930 : Ref sig .tc := ⟨.hbm, 1119, rfl⟩
abbrev main_v931 : Ref sig .tc := ⟨.hbm, 1120, rfl⟩
abbrev main_v932 : Ref sig .tc := ⟨.hbm, 1121, rfl⟩
abbrev main_c_185 : Ref sig .tc := ⟨.hbm, 1122, rfl⟩
abbrev main_v933 : Ref sig .tc := ⟨.hbm, 1123, rfl⟩
abbrev main_v934 : Ref sig .tc := ⟨.hbm, 1124, rfl⟩
abbrev main_v935 : Ref sig .tc := ⟨.hbm, 1125, rfl⟩
abbrev main_v936 : Ref sig .tc := ⟨.hbm, 1126, rfl⟩
abbrev main_v937 : Ref sig .tc := ⟨.hbm, 1127, rfl⟩
abbrev main_v938 : Ref sig .tc := ⟨.hbm, 1128, rfl⟩
abbrev main_c_186 : Ref sig .tc := ⟨.hbm, 1129, rfl⟩
abbrev main_v939 : Ref sig .tc := ⟨.hbm, 1130, rfl⟩
abbrev main_v940 : Ref sig .tc := ⟨.hbm, 1131, rfl⟩
abbrev main_c_187 : Ref sig .tc := ⟨.hbm, 1132, rfl⟩
abbrev main_v941 : Ref sig .tc := ⟨.hbm, 1133, rfl⟩
abbrev main_v942 : Ref sig .tc := ⟨.hbm, 1134, rfl⟩
abbrev main_v943 : Ref sig .tc := ⟨.hbm, 1135, rfl⟩
abbrev main_v944 : Ref sig .tc := ⟨.hbm, 1136, rfl⟩
abbrev main_c_188 : Ref sig .tc := ⟨.hbm, 1137, rfl⟩
abbrev main_v945 : Ref sig .tc := ⟨.hbm, 1138, rfl⟩
abbrev main_v946 : Ref sig .tc := ⟨.hbm, 1139, rfl⟩
abbrev main_v947 : Ref sig .tc := ⟨.hbm, 1140, rfl⟩
abbrev main_v948 : Ref sig .tc := ⟨.hbm, 1141, rfl⟩
abbrev main_v949 : Ref sig .tc := ⟨.hbm, 1142, rfl⟩
abbrev main_v950 : Ref sig .tc := ⟨.hbm, 1143, rfl⟩
abbrev main_cst_189 : Ref sig .tc := ⟨.hbm, 1144, rfl⟩
abbrev main_v951 : Ref sig .tc := ⟨.hbm, 1145, rfl⟩
abbrev main_v952 : Ref sig .tc := ⟨.hbm, 1146, rfl⟩
abbrev main_v953 : Ref sig .tc := ⟨.hbm, 1147, rfl⟩
abbrev main_v954 : Ref sig .tc := ⟨.hbm, 1148, rfl⟩
abbrev main_v955 : Ref sig .tc := ⟨.hbm, 1149, rfl⟩
abbrev main_cst_190 : Ref sig .tc := ⟨.hbm, 1150, rfl⟩
abbrev main_v956 : Ref sig .tc := ⟨.hbm, 1151, rfl⟩
abbrev main_v957 : Ref sig .tc := ⟨.hbm, 1152, rfl⟩
abbrev main_v958 : Ref sig .tc := ⟨.hbm, 1153, rfl⟩
abbrev main_v959 : Ref sig .tc := ⟨.hbm, 1154, rfl⟩
abbrev main_v960 : Ref sig .tc := ⟨.hbm, 1155, rfl⟩
abbrev main_v961 : Ref sig .tc := ⟨.hbm, 1156, rfl⟩
abbrev main_v962 : Ref sig .tc := ⟨.hbm, 1157, rfl⟩
abbrev main_v963 : Ref sig .tc := ⟨.hbm, 1158, rfl⟩
abbrev main_v964 : Ref sig .tc := ⟨.hbm, 1159, rfl⟩
abbrev main_v965 : Ref sig .tc := ⟨.hbm, 1160, rfl⟩
abbrev main_v966 : Ref sig .tc := ⟨.hbm, 1161, rfl⟩
abbrev main_v967 : Ref sig .tc := ⟨.hbm, 1162, rfl⟩
abbrev main_v968 : Ref sig .tc := ⟨.hbm, 1163, rfl⟩
abbrev main_c_191 : Ref sig .tc := ⟨.hbm, 1164, rfl⟩
abbrev main_v969 : Ref sig .tc := ⟨.hbm, 1165, rfl⟩
abbrev main_v970 : Ref sig .tc := ⟨.hbm, 1166, rfl⟩
abbrev main_v971 : Ref sig .tc := ⟨.hbm, 1167, rfl⟩
abbrev main_v972 : Ref sig .tc := ⟨.hbm, 1168, rfl⟩
abbrev main_v973 : Ref sig .tc := ⟨.hbm, 1169, rfl⟩
abbrev main_v974 : Ref sig .tc := ⟨.hbm, 1170, rfl⟩
abbrev main_c_192 : Ref sig .tc := ⟨.hbm, 1171, rfl⟩
abbrev main_v975 : Ref sig .tc := ⟨.hbm, 1172, rfl⟩
abbrev main_v976 : Ref sig .tc := ⟨.hbm, 1173, rfl⟩
abbrev main_c_193 : Ref sig .tc := ⟨.hbm, 1174, rfl⟩
abbrev main_v977 : Ref sig .tc := ⟨.hbm, 1175, rfl⟩
abbrev main_v978 : Ref sig .tc := ⟨.hbm, 1176, rfl⟩
abbrev main_v979 : Ref sig .tc := ⟨.hbm, 1177, rfl⟩
abbrev main_v980 : Ref sig .tc := ⟨.hbm, 1178, rfl⟩
abbrev main_c_194 : Ref sig .tc := ⟨.hbm, 1179, rfl⟩
abbrev main_v981 : Ref sig .tc := ⟨.hbm, 1180, rfl⟩
abbrev main_v982 : Ref sig .tc := ⟨.hbm, 1181, rfl⟩
abbrev main_v983 : Ref sig .tc := ⟨.hbm, 1182, rfl⟩
abbrev main_v984 : Ref sig .tc := ⟨.hbm, 1183, rfl⟩
abbrev main_v985 : Ref sig .tc := ⟨.hbm, 1184, rfl⟩
abbrev main_v986 : Ref sig .tc := ⟨.hbm, 1185, rfl⟩
abbrev main_cst_195 : Ref sig .tc := ⟨.hbm, 1186, rfl⟩
abbrev main_v987 : Ref sig .tc := ⟨.hbm, 1187, rfl⟩
abbrev main_v988 : Ref sig .tc := ⟨.hbm, 1188, rfl⟩
abbrev main_v989 : Ref sig .tc := ⟨.hbm, 1189, rfl⟩
abbrev main_v990 : Ref sig .tc := ⟨.hbm, 1190, rfl⟩
abbrev main_v991 : Ref sig .tc := ⟨.hbm, 1191, rfl⟩
abbrev main_cst_196 : Ref sig .tc := ⟨.hbm, 1192, rfl⟩
abbrev main_v992 : Ref sig .tc := ⟨.hbm, 1193, rfl⟩
abbrev main_v993 : Ref sig .tc := ⟨.hbm, 1194, rfl⟩
abbrev main_v994 : Ref sig .tc := ⟨.hbm, 1195, rfl⟩
abbrev main_v995 : Ref sig .tc := ⟨.hbm, 1196, rfl⟩
abbrev main_v996 : Ref sig .tc := ⟨.hbm, 1197, rfl⟩
abbrev main_cst_197 : Ref sig .tc := ⟨.hbm, 1198, rfl⟩
abbrev main_v997 : Ref sig .tc := ⟨.hbm, 1199, rfl⟩
abbrev main_v998 : Ref sig .tc := ⟨.hbm, 1200, rfl⟩
abbrev main_cst_198 : Ref sig .tc := ⟨.hbm, 1201, rfl⟩
abbrev main_call0_v0 : Ref sig .tc := ⟨.hbm, 1202, rfl⟩
abbrev main_v999 : Ref sig .tc := ⟨.hbm, 1203, rfl⟩
abbrev main_v1000 : Ref sig .tc := ⟨.hbm, 1204, rfl⟩
abbrev main_v1001 : Ref sig .tc := ⟨.hbm, 1205, rfl⟩

abbrev nD : Nat := 1
abbrev τ : Topo := Topo.v7x

variable {F : FTy → Type} [FloatOps F]
-- ==== Proof.Straight.lean ====
/- Straight-line host code in single-assignment form.

   The operations of a host stretch write the buffers of consecutive indices, each once. So whatever a buffer holds
   after ITS operation it holds after the whole stretch, and the contents at the end satisfy every operation's own
   equation at once: no value has to be carried through the operations between its definition and its use. -/
module

public import Idealize.ShloMosaic.Lib.StableHlo.Run

@[expose] public section

noncomputable section

namespace Cert.Proof

open Idealize.ShloMosaic Idealize.ShloMosaic.TcCoe Idealize.ShloMosaic.StableHlo

variable {τ : Topo} {sig : RefSig} {Val : EltTy → Type}

/-- A reference's index within its memory space. -/
def stamp (r : Ref sig .tc) : Nat := r.idx.val

/-- The contents of a typed reference, at its type. -/
def read {T : BufTy} (V : Valuation τ sig Val) (x : TRef sig T) : T.Contents Val := x.ofBuf (V (Proc.devRef .tc x.ref))

/-- The contents `V` agree with what `op`, the operation writing index `n`, made of the contents before it, of which
    everything of a smaller index is still there. -/
def Holds (V : Valuation τ sig Val) (n : Nat) (op : HloOp τ sig Val) : Prop :=
  ∃ W : Valuation τ sig Val,
    (∀ x : Ref sig .tc, stamp x < n → V (Proc.devRef .tc x) = W (Proc.devRef .tc x)) ∧
    ∀ y : Ref sig .tc, stamp y = n → V (Proc.devRef .tc y) = op.result W (Proc.devRef .tc y)

/-- `Holds` for every operation of a list, the first of which writes index `n`. -/
def Settled (V : Valuation τ sig Val) : Nat → List (HloOp τ sig Val) → Prop
  | _, [] => True
  | n, op :: ops => Holds V n op ∧ Settled V (n + 1) ops

theorem Settled.drop {V : Valuation τ sig Val} : ∀ (k n : Nat) (ops : List (HloOp τ sig Val)),
    Settled V n ops → Settled V (n + k) (ops.drop k)
  | 0, _, _, h => h
  | _ + 1, _, [], _ => trivial
  | k + 1, n, _ :: ops, h => by
    have := Settled.drop k (n + 1) ops h.2
    rwa [show n + 1 + k = n + (k + 1) by omega] at this

theorem Settled.take {V : Valuation τ sig Val} : ∀ (k n : Nat) (ops : List (HloOp τ sig Val)),
    Settled V n ops → Settled V n (ops.take k)
  | 0, _, _, _ => trivial
  | _ + 1, _, [], _ => trivial
  | k + 1, n, _ :: ops, h => ⟨h.1, Settled.take k (n + 1) ops h.2⟩

theorem Settled.get {V : Valuation τ sig Val} {op : HloOp τ sig Val} : ∀ (k n : Nat) (ops : List (HloOp τ sig Val)),
    Settled V n ops → ops[k]? = some op → Holds V (n + k) op
  | _, _, [], _, h => nomatch h
  | 0, _, _ :: _, hs, h => Option.some.inj h ▸ hs.1
  | k + 1, n, _ :: ops, hs, h => by
    have := Settled.get k (n + 1) ops hs.2 h
    rwa [show n + 1 + k = n + (k + 1) by omega] at this

/-- The writes of a list, in order: the references `w n, w (n + 1), …`, one each. -/
def Writes (w : Nat → Ref sig .tc) (n : Nat) (ops : List (HloOp τ sig Val)) : Prop :=
  ops.map HloOp.writes = (List.range' n ops.length).map fun i => {Proc.devRef (τ := τ) .tc (w i)}

variable {w : Nat → Ref sig .tc} {N : Nat}

theorem Writes.head {n : Nat} {op : HloOp τ sig Val} {ops : List (HloOp τ sig Val)} (h : Writes w n (op :: ops)) :
    op.writes = {Proc.devRef (τ := τ) .tc (w n)} ∧ Writes w (n + 1) ops := by
  simp only [Writes, List.map_cons, List.length_cons, List.range'_succ, List.cons.injEq] at h
  exact h

/-- Every index below the first one written keeps its contents. -/
theorem after_below (hw : ∀ i < N, stamp (w i) = i) : ∀ (ops : List (HloOp τ sig Val)) (n : Nat) (V : Valuation τ sig Val),
    Writes w n ops → n + ops.length ≤ N → ∀ x : Ref sig .tc, stamp x < n →
      after ops V (Proc.devRef .tc x) = V (Proc.devRef .tc x)
  | [], _, _, _, _, _, _ => rfl
  | op :: ops, n, V, h, hN, x, hx => by
    rw [List.length_cons] at hN
    rw [after_cons, after_below hw ops (n + 1) _ h.head.2 (by omega) x (by omega),
      result_of_writes_ne op V (w n) x h.head.1]
    rintro rfl
    exact absurd (hw n (by omega)) (by omega)

/-- At the end of the list every operation holds. -/
theorem settled (hw : ∀ i < N, stamp (w i) = i) : ∀ (ops : List (HloOp τ sig Val)) (n : Nat) (V : Valuation τ sig Val),
    Writes w n ops → n + ops.length ≤ N → Settled (after ops V) n ops
  | [], _, _, _, _ => trivial
  | op :: ops, n, V, h, hN => by
    rw [List.length_cons] at hN
    refine ⟨⟨V, fun x hx => ?_, fun y hy => ?_⟩, settled hw ops (n + 1) _ h.head.2 (by omega)⟩
    · exact after_below hw (op :: ops) n V h (by rw [List.length_cons]; omega) x hx
    · rw [after_cons, after_below hw ops (n + 1) _ h.head.2 (by omega) y (by omega)]

/-! The operations' equations. -/

section Equations

variable {V : Valuation τ sig Val} {n : Nat} {Tx Ta Tb Tc Ty : BufTy}

theorem Holds.nullary {y : TRef sig Ty} {v : Ty.Contents Val} (h : Holds V n (TRef.nullary y v)) (hy : stamp y.ref = n) :
    read V y = v := by
  obtain ⟨W, -, hr⟩ := h
  rw [read, hr _ hy, nullary_result, TRef.ofBuf_toBuf]

theorem Holds.unary {x : TRef sig Tx} {y : TRef sig Ty} {f : Tx.Contents Val → Ty.Contents Val}
    (h : Holds V n (TRef.unary x y f)) (hx : stamp x.ref < n) (hy : stamp y.ref = n) :
    read V y = f (read V x) := by
  obtain ⟨W, hW, hr⟩ := h
  rw [read, read, hr _ hy, unary_result, TRef.ofBuf_toBuf, hW _ hx]

theorem Holds.binary {a : TRef sig Ta} {b : TRef sig Tb} {y : TRef sig Ty}
    {f : Ta.Contents Val → Tb.Contents Val → Ty.Contents Val}
    (h : Holds V n (TRef.binary a b y f)) (ha : stamp a.ref < n) (hb : stamp b.ref < n) (hy : stamp y.ref = n) :
    read V y = f (read V a) (read V b) := by
  obtain ⟨W, hW, hr⟩ := h
  rw [read, read, read, hr _ hy, binary_result, TRef.ofBuf_toBuf, hW _ ha, hW _ hb]

theorem Holds.ternary {c : TRef sig Tc} {a : TRef sig Ta} {b : TRef sig Tb} {y : TRef sig Ty}
    {f : Tc.Contents Val → Ta.Contents Val → Tb.Contents Val → Ty.Contents Val}
    (h : Holds V n (TRef.ternary c a b y f)) (hc : stamp c.ref < n) (ha : stamp a.ref < n) (hb : stamp b.ref < n)
    (hy : stamp y.ref = n) :
    read V y = f (read V c) (read V a) (read V b) := by
  obtain ⟨W, hW, hr⟩ := h
  rw [read, read, read, read, hr _ hy, ternary_result, TRef.ofBuf_toBuf, hW _ hc, hW _ ha, hW _ hb]

end Equations

end Cert.Proof

end
-- ==== Proof.KernelFrame.lean ====
/- The frame of the program `KernelIdeal`: its run around the region, and both arguments unchanged.

   The host prefix is long (976 operations); that it writes neither argument is read off the list of the indices it
   writes (`Straight.lean`), in one comparison. -/
module

public import proofs.«01_k».proof.Proof.Straight
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Proof.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The buffer of index `n`. -/
abbrev at' (n : Nat) : Ref sig .tc := ⟨.hbm, ⟨n % 980, Nat.mod_lt _ (by decide)⟩, rfl⟩

theorem stamp_at' : ∀ n < 980, stamp (at' n) = n := fun _ h => Nat.mod_eq_of_lt h

/-- The prefix writes the buffers 2, 3, …, 977, in order. -/
theorem hostOps0_writes : Writes at' 2 (hostOps0 : List (HloOp τ sig (Elt F))) := by
  show _ = (List.range' 2 976).map _
  rfl

/-- So it writes neither argument. -/
theorem V_arg (c : Dev nD) (b : Ref sig .tc) (hb : stamp b < 2) : V m c b = m ((c : Thread nD τ).loc b) := by
  show StableHlo.after (hostOps0 ++ []) _ _ = _
  rw [List.append_nil]
  exact after_below stamp_at' hostOps0 2 _ hostOps0_writes (by show 2 + 976 ≤ 980; decide) b hb

/-- Nor does the operation after the region: an argument ends as launched. -/
theorem W_arg (dats : (p : Fin _) → (c : Dev nD) → Dat τ (Elt F) Unit ℕ (UR sig nD τ) ℕ (cfgs p) c) (c : Dev nD)
    (b : Ref sig .tc) (hb : stamp b < 2) (hne : b ≠ main_v834) (ha : ∀ w, Pipeline.arrRef spec0 w ≠ b) :
    Pipeline.afterTail₀ cfgs dats 0 (V0 m) [hostOps1] c b = m ((c : Thread nD τ).loc b) := by
  unfold Pipeline.afterTail₀
  rw [StableHlo.after_of_forall_not_mem (b := Proc.devRef .tc b) _ _ (List.forall_iff_forall_mem.mp (by
      simp only [hostOps1, List.flatten_cons, List.flatten_nil, List.append_nil, List.Forall, StableHlo.reshape_writes,
        Finset.mem_singleton]
      exact StableHlo.devRef_ne_of_ne hne)),
    Pipeline.withArrays_of_ne _ c (V0 m c) _ b ha]
  exact V_arg m c b hb

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same of input window 1. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(((h c).2 main_arg0 (Pipeline.mem_restRefs_of main_arg0 (by decide) (by decide))).trans (W_arg m dats c main_arg0 (by decide) (by decide) (by decide))),
      (((h c).2 main_arg1 (Pipeline.mem_restRefs_of main_arg1 (by decide) (by decide))).trans (W_arg m dats c main_arg1 (by decide) (by decide) (by decide)))⟩) h

/-! ## The body's accesses -/

abbrev r0_0 : Rect S1x1300x390 := Rect.unit (s := S1x1300x390) ![0, 0, 0] S1x1300x390.size inb_S1x1300x390_S1x1300x390_0_0_0

/-! ## What the body leaves in each output window's buffer -/

/-- Window 2's staging buffer after the body, from the input windows' blocks: its 1 store as pieces, LAST
    FIRST (Lib/Pipeline/FrameBody.lean `View.canon`; the payloads are the skeleton's). -/
def out0_2 (x0 : Vec F S1x1300x390 .f32) (x1 : Vec F S1x1300x390 .f32) : Vec F S1x1300x390 .f32 :=
  View.canon [⟨r0_0, k0_pay1 (View.ld x1 r0_0) (View.ld x0 r0_0)⟩]

/-- Its stores tile the buffer, so they cover it. -/
theorem cover0_2 (p0 : Vec F S1x1300x390 .f32) (y : S1x1300x390.Idx) :
    ∃ pc ∈ ([⟨r0_0, p0⟩] : List (View.Piece (Elt F) S1x1300x390 .f32)), y ∈ pc.1.set :=
  View.cover_of_tiled [⟨r0_0, p0⟩] S1x1300x390.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S1x1300x390 .f32) (harg1 : arg1.IsWhole) (arg2 : Memref sig .tc .vmem S1x1300x390 .f32) (harg2 : arg2.IsWhole) (arg3 : Memref sig .tc .vmem S1x1300x390 .f32) (harg3 : arg3.IsWhole)
    (x0 : Vec F S1x1300x390 .f32) (x1 : Vec F S1x1300x390 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__div_body i arg1 harg1 arg2 harg2 arg3 harg3) K := by
  simp only [cc0__div_body_eq_skeleton]; unfold cc0__div_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- THE FRAME: `Cert.quiescent_KernelIdeal`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Proof.K

end
-- ==== Proof.KernelHost.lean ====
/- The kernel program's host operations before the region, in single-assignment form.

   After 55 operations of preparation come 27 groups of 34 operations, one group per neighbouring cell; group `k` is
   written ONCE, over its number. Its equations give the two running sums after it in terms of those before it. -/
module

public import proofs.«01_k».proof.Proof.KernelFrame

@[expose] public section

set_option maxRecDepth 16384

noncomputable section

namespace Cert.Proof.K

open Idealize.ShloMosaic Idealize.ShloMosaic.TcCoe Idealize.ShloMosaic.StableHlo
open Cert.KernelIdeal Cert.KernelIdeal.Gen

variable {F : FTy → Type} [FloatOps F]

/-! The types of the buffers. -/

abbrev P3 : BufTy := ⟨S1000000x3, .f32⟩
abbrev P1 : BufTy := ⟨S1000000x1, .f32⟩
abbrev I3 : BufTy := ⟨S1000000x3, .i32⟩
abbrev I1 : BufTy := ⟨S1000000x1, .i32⟩
abbrev I0 : BufTy := ⟨S1000000, .i32⟩
abbrev O3 : BufTy := ⟨S3, .i32⟩
abbrev O13 : BufTy := ⟨S1x3, .i32⟩
abbrev C : BufTy := ⟨S_, .i32⟩
abbrev Z : BufTy := ⟨S_, .f32⟩
abbrev G3 : BufTy := ⟨S2197000x3, .f32⟩
abbrev G1 : BufTy := ⟨S2197000x1, .f32⟩

/-- The buffer of index `n` at its type. -/
abbrev buf (T : BufTy) (n : Nat) (h : hbmTy (n % 980) = T) : TRef sig T := ⟨at' n, h, Space.noConfusion, rfl⟩

/-! The buffers of a group. -/

/-- The types of a group's 34 results. -/
def gty : Fin 34 → BufTy :=
  ![P1, P1, P1, P1, P1, O13, I3, I3, I1, I0, C, I0, I0, I1, I0, C, I0, I0, I0, I1, I0, I0, P3, P3, Z, G3, I1, G3, G3,
    Z, G1, I1, G1, G1]

theorem gty_eq : ∀ (k : Fin 27) (j : Fin 34), hbmTy ((57 + 34 * k.val + j.val) % 980) = gty j := by decide +kernel

/-- Result `j` of group `k`. -/
abbrev v (T : BufTy) (k : Fin 27) (j : Fin 34) (h : gty j = T := by rfl) : TRef sig T :=
  buf T (57 + 34 * k.val + j.val) ((gty_eq k j).trans h)

/-- The weights' index: the three weights' buffers. -/
def wix : Fin 3 → Nat := ![41, 48, 52]
theorem wix_ty : ∀ i : Fin 3, hbmTy (wix i % 980) = P3 := by decide +kernel
/-- Weight `i` (of the three along each axis). -/
abbrev wl (i : Fin 3) : TRef sig P3 := buf P3 (wix i) (wix_ty i)

/-- A group's offset along the three axes: the digits of its number. -/
abbrev d0 (k : Fin 27) : Fin 3 := ⟨k.val / 9, by omega⟩
abbrev d1 (k : Fin 27) : Fin 3 := ⟨k.val / 3 % 3, by omega⟩
abbrev d2 (k : Fin 27) : Fin 3 := ⟨k.val % 3, by omega⟩

theorem off_ty : ∀ k : Fin 27, hbmTy ((3 + k.val) % 980) = O3 := by decide +kernel
/-- The offset vector of group `k`. -/
abbrev off (k : Fin 27) : TRef sig O3 := buf O3 (3 + k.val) (off_ty k)

abbrev vel : TRef sig P3 := buf P3 0 rfl
abbrev pos : TRef sig P3 := buf P3 1 rfl
abbrev cell : TRef sig I3 := buf I3 32 rfl

/-- Where the two running sums are before group `k`. -/
def vix (k : Nat) : Nat := if k = 0 then 54 else 51 + 34 * k
def wsx (k : Nat) : Nat := 56 + 34 * k
theorem vix_ty : ∀ k : Fin 28, hbmTy (vix k.val % 980) = G3 := by decide +kernel
theorem wsx_ty : ∀ k : Fin 28, hbmTy (wsx k.val % 980) = G1 := by decide +kernel
abbrev sumV (k : Fin 28) : TRef sig G3 := buf G3 (vix k.val) (vix_ty k)
abbrev sumW (k : Fin 28) : TRef sig G1 := buf G1 (wsx k.val) (wsx_ty k)

/-- The operations of group `k`. -/
def gops (k : Fin 27) : List (HloOp τ sig (Elt F)) :=
  [ TRef.unary (wl (d0 k)) (v P1 k 0) (extractStridedSlice S1000000x1 ![0, 0] · slices_S1000000x3_S1000000x1_0_0),
    TRef.unary (wl (d1 k)) (v P1 k 1) (extractStridedSlice S1000000x1 ![0, 1] · slices_S1000000x3_S1000000x1_0_1),
    TRef.binary (v P1 k 0) (v P1 k 1) (v P1 k 2) mulf,
    TRef.unary (wl (d2 k)) (v P1 k 3) (extractStridedSlice S1000000x1 ![0, 2] · slices_S1000000x3_S1000000x1_0_2),
    TRef.binary (v P1 k 2) (v P1 k 3) (v P1 k 4) mulf,
    TRef.unary (off k) (v O13 k 5) (broadcastInDim S1x3 ![1] bcast_S3_S1x3_1),
    TRef.unary (v O13 k 5) (v I3 k 6) (broadcastInDim S1000000x3 ![0, 1] bcast_S1x3_S1000000x3_0_1),
    TRef.binary cell (v I3 k 6) (v I3 k 7) addi,
    TRef.unary (v I3 k 7) (v I1 k 8) (extractStridedSlice S1000000x1 ![0, 0] · slices_S1000000x3_S1000000x1_0_0),
    TRef.unary (v I1 k 8) (v I0 k 9) (shapeCast S1000000 · shapeCasts_S1000000x1_S1000000),
    TRef.nullary (v C k 10) (constantI S_ 32 16900#32),
    TRef.unary (v C k 10) (v I0 k 11) (broadcastInDim S1000000 ![] bcast_S_S1000000),
    TRef.binary (v I0 k 9) (v I0 k 11) (v I0 k 12) muli,
    TRef.unary (v I3 k 7) (v I1 k 13) (extractStridedSlice S1000000x1 ![0, 1] · slices_S1000000x3_S1000000x1_0_1),
    TRef.unary (v I1 k 13) (v I0 k 14) (shapeCast S1000000 · shapeCasts_S1000000x1_S1000000),
    TRef.nullary (v C k 15) (constantI S_ 32 130#32),
    TRef.unary (v C k 15) (v I0 k 16) (broadcastInDim S1000000 ![] bcast_S_S1000000),
    TRef.binary (v I0 k 14) (v I0 k 16) (v I0 k 17) muli,
    TRef.binary (v I0 k 12) (v I0 k 17) (v I0 k 18) addi,
    TRef.unary (v I3 k 7) (v I1 k 19) (extractStridedSlice S1000000x1 ![0, 2] · slices_S1000000x3_S1000000x1_0_2),
    TRef.unary (v I1 k 19) (v I0 k 20) (shapeCast S1000000 · shapeCasts_S1000000x1_S1000000),
    TRef.binary (v I0 k 18) (v I0 k 20) (v I0 k 21) addi,
    TRef.unary (v P1 k 4) (v P3 k 22) (broadcastInDim S1000000x3 ![0, 1] bcast_S1000000x1_S1000000x3_0_1),
    TRef.binary vel (v P3 k 22) (v P3 k 23) mulf,
    TRef.nullary (v Z k 24) (constant S_ .f32 0x00000000#32),
    TRef.unary (v Z k 24) (v G3 k 25) (broadcastInDim S2197000x3 ![] bcast_S_S2197000x3),
    TRef.unary (v I0 k 21) (v I1 k 26) (broadcastInDim S1000000x1 ![0] bcast_S1000000_S1000000x1_0),
    TRef.ternary (v G3 k 25) (v I1 k 26) (v P3 k 23) (v G3 k 27)
      (fun x i u => Host.scatterAdd scatter_S2197000x3_S1000000x1_S1000000x3_1_0_0_1 x i u),
    TRef.binary (sumV k.castSucc) (v G3 k 27) (v G3 k 28) addf,
    TRef.nullary (v Z k 29) (constant S_ .f32 0x00000000#32),
    TRef.unary (v Z k 29) (v G1 k 30) (broadcastInDim S2197000x1 ![] bcast_S_S2197000x1),
    TRef.unary (v I0 k 21) (v I1 k 31) (broadcastInDim S1000000x1 ![0] bcast_S1000000_S1000000x1_0),
    TRef.ternary (v G1 k 30) (v I1 k 31) (v P1 k 4) (v G1 k 32)
      (fun x i u => Host.scatterAdd scatter_S2197000x1_S1000000x1_S1000000x1_1_0_0_1 x i u),
    TRef.binary (sumW k.castSucc) (v G1 k 32) (v G1 k 33) addf ]

set_option maxHeartbeats 4000000 in
/-- They are the program's. -/
theorem gops_eq : ∀ k : Fin 27, (gops k : List (HloOp τ sig (Elt F))) = (hostOps0.drop (55 + 34 * k.val)).take 34
  | 0 | 1 | 2 | 3 | 4 | 5 | 6 | 7 | 8 | 9 | 10 | 11 | 12 | 13 | 14 | 15 | 16 | 17 | 18 | 19 | 20 | 21 | 22 | 23 | 24 | 25
  | 26 => rfl
  | ⟨_ + 27, h⟩ => absurd h (by omega)

/-! The values. -/

variable (m : (ℓ : Loc nD τ sig) → Buf (Elt F) ℓ) (c : Dev nD)

theorem settled0 : Settled (V0 m c) 2 (hostOps0 : List (HloOp τ sig (Elt F))) := by
  show Settled (after (hostOps0 ++ []) _) 2 _
  rw [List.append_nil]
  exact settled stamp_at' hostOps0 2 _ hostOps0_writes (by show 2 + 976 ≤ 980; decide)

theorem settled_group (k : Fin 27) : Settled (V0 m c) (57 + 34 * k.val) (gops k : List (HloOp τ sig (Elt F))) := by
  rw [gops_eq k]
  have := ((settled0 m c).drop (55 + 34 * k.val)).take 34
  rwa [show 2 + (55 + 34 * k.val) = 57 + 34 * k.val by omega] at this

end Cert.Proof.K

end
-- ==== Proof.KernelSums.lean ====
/- What the groups of the kernel program's host operations compute: each adds its cell's two sums to the running ones. -/
module

public import proofs.«01_k».proof.Proof.KernelHost

@[expose] public section

set_option maxRecDepth 16384

noncomputable section

namespace Cert.Proof.K

open Idealize.ShloMosaic Idealize.ShloMosaic.TcCoe Idealize.ShloMosaic.StableHlo
open Cert.KernelIdeal Cert.KernelIdeal.Gen

variable {F : FTy → Type} [FloatOps F]

variable (m : (ℓ : Loc nD τ sig) → Buf (Elt F) ℓ) (c : Dev nD)

/-- The weight of a group's cell: the product of one weight per axis. -/
def weight (a b d : P3.Contents (Elt F)) : P1.Contents (Elt F) :=
  mulf (mulf (extractStridedSlice S1000000x1 ![0, 0] a slices_S1000000x3_S1000000x1_0_0)
      (extractStridedSlice S1000000x1 ![0, 1] b slices_S1000000x3_S1000000x1_0_1))
    (extractStridedSlice S1000000x1 ![0, 2] d slices_S1000000x3_S1000000x1_0_2)

/-- A group's cell, as a vector of three coordinates. -/
def shifted (p : I3.Contents (Elt F)) (o : O3.Contents (Elt F)) : I3.Contents (Elt F) :=
  addi p (broadcastInDim S1000000x3 ![0, 1] bcast_S1x3_S1000000x3_0_1 (broadcastInDim S1x3 ![1] bcast_S3_S1x3_1 o))

/-- Coordinate `j` of a cell. -/
def coord0 (q : I3.Contents (Elt F)) : I0.Contents (Elt F) :=
  shapeCast S1000000 (extractStridedSlice S1000000x1 ![0, 0] q slices_S1000000x3_S1000000x1_0_0) shapeCasts_S1000000x1_S1000000
@[inherit_doc coord0]
def coord1 (q : I3.Contents (Elt F)) : I0.Contents (Elt F) :=
  shapeCast S1000000 (extractStridedSlice S1000000x1 ![0, 1] q slices_S1000000x3_S1000000x1_0_1) shapeCasts_S1000000x1_S1000000
@[inherit_doc coord0]
def coord2 (q : I3.Contents (Elt F)) : I0.Contents (Elt F) :=
  shapeCast S1000000 (extractStridedSlice S1000000x1 ![0, 2] q slices_S1000000x3_S1000000x1_0_2) shapeCasts_S1000000x1_S1000000

/-- The integer constant `z` at every particle. -/
def fill (z : BitVec 32) : I0.Contents (Elt F) := broadcastInDim S1000000 ![] bcast_S_S1000000 (constantI S_ 32 z)

/-- A cell's number in the flat grid of 130³. -/
def flat (q : I3.Contents (Elt F)) : I1.Contents (Elt F) :=
  broadcastInDim S1000000x1 ![0] bcast_S1000000_S1000000x1_0
    (addi (addi (muli (coord0 q) (fill (F := F) 16900#32)) (muli (coord1 q) (fill (F := F) 130#32))) (coord2 q))

/-- The sum over the particles, cell by cell, of the weighted velocities, -/
def scatV (vl : P3.Contents (Elt F)) (q : I1.Contents (Elt F)) (w : P1.Contents (Elt F)) : G3.Contents (Elt F) :=
  Host.scatterAdd scatter_S2197000x3_S1000000x1_S1000000x3_1_0_0_1
    (broadcastInDim S2197000x3 ![] bcast_S_S2197000x3 (constant S_ .f32 0x00000000#32)) q
    (mulf vl (broadcastInDim S1000000x3 ![0, 1] bcast_S1000000x1_S1000000x3_0_1 w))
/-- and of the weights. -/
def scatW (q : I1.Contents (Elt F)) (w : P1.Contents (Elt F)) : G1.Contents (Elt F) :=
  Host.scatterAdd scatter_S2197000x1_S1000000x1_S1000000x1_1_0_0_1
    (broadcastInDim S2197000x1 ![] bcast_S_S2197000x1 (constant S_ .f32 0x00000000#32)) q w

/-- Group `k`'s weights and its cells. -/
def gw (k : Fin 27) : P1.Contents (Elt F) :=
  weight (read (V0 m c) (wl (d0 k))) (read (V0 m c) (wl (d1 k))) (read (V0 m c) (wl (d2 k)))
@[inherit_doc gw]
def gq (k : Fin 27) : I1.Contents (Elt F) := flat (shifted (read (V0 m c) cell) (read (V0 m c) (off k)))

theorem buf_congr {T : BufTy} {n n' : Nat} (e : n = n') (h : hbmTy (n % 980) = T) (h' : hbmTy (n' % 980) = T) :
    buf T n h = buf T n' h' := by subst e; rfl

theorem sumV_succ (k : Fin 27) : sumV k.succ = v G3 k 28 :=
  buf_congr (by unfold vix; rw [Fin.val_succ, if_neg (Nat.succ_ne_zero _)]; show _ = 57 + 34 * k.val + 28; omega) _ _
theorem sumW_succ (k : Fin 27) : sumW k.succ = v G1 k 33 :=
  buf_congr (by unfold wsx; rw [Fin.val_succ]; show _ = 57 + 34 * k.val + 33; omega) _ _

/-- Group `k` adds its two sums to the running ones. -/
theorem group (k : Fin 27) :
    read (V0 m c) (sumV k.succ) = addf (read (V0 m c) (sumV k.castSucc)) (scatV (read (V0 m c) vel) (gq m c k) (gw m c k)) ∧
    read (V0 m c) (sumW k.succ) = addf (read (V0 m c) (sumW k.castSucc)) (scatW (gq m c k) (gw m c k)) := by
  have h := settled_group m c k
  have hk := k.isLt
  have hs : ∀ j : Nat, j < 34 → stamp (at' (57 + 34 * k.val + j)) = 57 + 34 * k.val + j := fun j h => stamp_at' _ (by omega)
  -- a result is written at its own index, and read after it
  have at_ : ∀ (j n : Nat), j < 34 → n = 57 + 34 * k.val + j → stamp (at' (57 + 34 * k.val + j)) = n :=
    fun j n h e => (hs j h).trans e.symm
  have lt_ : ∀ (j n : Nat), j < 34 → 57 + 34 * k.val + j < n → stamp (at' (57 + 34 * k.val + j)) < n :=
    fun j n h e => (hs j h).trans_lt e
  have old : ∀ (i n : Nat), i < 57 + 34 * k.val → 57 + 34 * k.val ≤ n → stamp (at' i) < n :=
    fun i n h e => (stamp_at' i (by omega)).trans_lt (by omega)
  have hwix : ∀ i : Fin 3, wix i < 57 := by decide
  have hwl : ∀ (i : Fin 3) (n : Nat), 57 + 34 * k.val ≤ n → stamp (at' (wix i)) < n :=
    fun i n e => old _ n ((hwix i).trans_le (by omega)) e
  obtain ⟨h0, h1, h2, h3, h4, h5, h6, h7, h8, h9, h10, h11, h12, h13, h14, h15, h16, h17, h18, h19, h20, h21, h22, h23, h24,
    h25, h26, h27, h28, h29, h30, h31, h32, h33, -⟩ := h
  have hsv : vix k.castSucc.val < 57 + 34 * k.val := by
    unfold vix; rw [Fin.val_castSucc]; split <;> omega
  have hsw : wsx k.castSucc.val < 57 + 34 * k.val := by
    unfold wsx; rw [Fin.val_castSucc]; omega
  have e0 := h0.unary (hwl _ _ (by omega)) (at_ 0 _ (by omega) (by omega))
  have e1 := h1.unary (hwl _ _ (by omega)) (at_ 1 _ (by omega) (by omega))
  have e2 := h2.binary (lt_ 0 _ (by omega) (by omega)) (lt_ 1 _ (by omega) (by omega)) (at_ 2 _ (by omega) (by omega))
  have e3 := h3.unary (hwl _ _ (by omega)) (at_ 3 _ (by omega) (by omega))
  have e4 := h4.binary (lt_ 2 _ (by omega) (by omega)) (lt_ 3 _ (by omega) (by omega)) (at_ 4 _ (by omega) (by omega))
  have e5 := h5.unary (old _ _ (by omega) (by omega)) (at_ 5 _ (by omega) (by omega))
  have e6 := h6.unary (lt_ 5 _ (by omega) (by omega)) (at_ 6 _ (by omega) (by omega))
  have e7 := h7.binary (old _ _ (by omega) (by omega)) (lt_ 6 _ (by omega) (by omega)) (at_ 7 _ (by omega) (by omega))
  have e8 := h8.unary (lt_ 7 _ (by omega) (by omega)) (at_ 8 _ (by omega) (by omega))
  have e9 := h9.unary (lt_ 8 _ (by omega) (by omega)) (at_ 9 _ (by omega) (by omega))
  have e10 := h10.nullary (at_ 10 _ (by omega) (by omega))
  have e11 := h11.unary (lt_ 10 _ (by omega) (by omega)) (at_ 11 _ (by omega) (by omega))
  have e12 := h12.binary (lt_ 9 _ (by omega) (by omega)) (lt_ 11 _ (by omega) (by omega)) (at_ 12 _ (by omega) (by omega))
  have e13 := h13.unary (lt_ 7 _ (by omega) (by omega)) (at_ 13 _ (by omega) (by omega))
  have e14 := h14.unary (lt_ 13 _ (by omega) (by omega)) (at_ 14 _ (by omega) (by omega))
  have e15 := h15.nullary (at_ 15 _ (by omega) (by omega))
  have e16 := h16.unary (lt_ 15 _ (by omega) (by omega)) (at_ 16 _ (by omega) (by omega))
  have e17 := h17.binary (lt_ 14 _ (by omega) (by omega)) (lt_ 16 _ (by omega) (by omega)) (at_ 17 _ (by omega) (by omega))
  have e18 := h18.binary (lt_ 12 _ (by omega) (by omega)) (lt_ 17 _ (by omega) (by omega)) (at_ 18 _ (by omega) (by omega))
  have e19 := h19.unary (lt_ 7 _ (by omega) (by omega)) (at_ 19 _ (by omega) (by omega))
  have e20 := h20.unary (lt_ 19 _ (by omega) (by omega)) (at_ 20 _ (by omega) (by omega))
  have e21 := h21.binary (lt_ 18 _ (by omega) (by omega)) (lt_ 20 _ (by omega) (by omega)) (at_ 21 _ (by omega) (by omega))
  have e22 := h22.unary (lt_ 4 _ (by omega) (by omega)) (at_ 22 _ (by omega) (by omega))
  have e23 := h23.binary (old _ _ (by omega) (by omega)) (lt_ 22 _ (by omega) (by omega)) (at_ 23 _ (by omega) (by omega))
  have e24 := h24.nullary (at_ 24 _ (by omega) (by omega))
  have e25 := h25.unary (lt_ 24 _ (by omega) (by omega)) (at_ 25 _ (by omega) (by omega))
  have e26 := h26.unary (lt_ 21 _ (by omega) (by omega)) (at_ 26 _ (by omega) (by omega))
  have e27 := h27.ternary (lt_ 25 _ (by omega) (by omega)) (lt_ 26 _ (by omega) (by omega)) (lt_ 23 _ (by omega) (by omega)) (at_ 27 _ (by omega) (by omega))
  have e28 := h28.binary (old _ _ hsv (by omega)) (lt_ 27 _ (by omega) (by omega)) (at_ 28 _ (by omega) (by omega))
  have e29 := h29.nullary (at_ 29 _ (by omega) (by omega))
  have e30 := h30.unary (lt_ 29 _ (by omega) (by omega)) (at_ 30 _ (by omega) (by omega))
  have e31 := h31.unary (lt_ 21 _ (by omega) (by omega)) (at_ 31 _ (by omega) (by omega))
  have e32 := h32.ternary (lt_ 30 _ (by omega) (by omega)) (lt_ 31 _ (by omega) (by omega)) (lt_ 4 _ (by omega) (by omega)) (at_ 32 _ (by omega) (by omega))
  have e33 := h33.binary (old _ _ hsw (by omega)) (lt_ 32 _ (by omega) (by omega)) (at_ 33 _ (by omega) (by omega))
  refine ⟨?_, ?_⟩
  · rw [sumV_succ, e28, e27, e26, e25, e24, e23, e22, e21, e20, e19, e18, e17, e16, e15, e14, e13, e12, e11, e10, e9, e8,
      e7, e6, e5, e4, e3, e2, e1, e0]
    rfl
  · rw [sumW_succ, e33, e32, e31, e30, e29, e21, e20, e19, e18, e17, e16, e15, e14, e13, e12, e11, e10, e9, e8,
      e7, e6, e5, e4, e3, e2, e1, e0]
    rfl

end Cert.Proof.K

end
-- ==== Proof.KernelPrep.lean ====
/- The kernel program's host operations before its groups (the cells, the weights, the offsets, the two zero sums) and
   after them (the two operands of the region). -/
module

public import proofs.«01_k».proof.Proof.KernelSums

@[expose] public section

set_option maxRecDepth 16384

noncomputable section

namespace Cert.Proof.K

open Idealize.ShloMosaic Idealize.ShloMosaic.TcCoe Idealize.ShloMosaic.StableHlo
open Cert.KernelIdeal Cert.KernelIdeal.Gen

variable {F : FTy → Type} [FloatOps F]

variable (m : (ℓ : Loc nD τ sig) → Buf (Elt F) ℓ) (c : Dev nD)

/-! ## The offsets -/

/-- The 27 offsets, as the program writes them. -/
def offs : Fin 27 → O3.Contents (Elt F) :=
  ![constantI S3 32 0#32, fun i => lit0 (S3.rowMajor i), fun i => lit1 (S3.rowMajor i), fun i => lit2 (S3.rowMajor
    i), fun i => lit3 (S3.rowMajor i), fun i => lit4 (S3.rowMajor i), fun i => lit5 (S3.rowMajor i), fun i => lit6
    (S3.rowMajor i), fun i => lit7 (S3.rowMajor i), fun i => lit8 (S3.rowMajor i), fun i => lit9 (S3.rowMajor i),
    fun i => lit10 (S3.rowMajor i), fun i => lit11 (S3.rowMajor i),
    constantI S3 32 1#32, fun i => lit12 (S3.rowMajor i), fun i => lit13 (S3.rowMajor i), fun i => lit14
    (S3.rowMajor i), fun i => lit15 (S3.rowMajor i), fun i => lit16 (S3.rowMajor i), fun i => lit17 (S3.rowMajor
    i), fun i => lit18 (S3.rowMajor i), fun i => lit19 (S3.rowMajor i), fun i => lit20 (S3.rowMajor i), fun i =>
    lit21 (S3.rowMajor i), fun i => lit22 (S3.rowMajor i), fun i => lit23 (S3.rowMajor i), constantI S3 32 2#32]

theorem off_op : ∀ k : Fin 27,
    (hostOps0 : List (HloOp τ sig (Elt F)))[1 + k.val]? = some (TRef.nullary (off k) (offs k))
  | 0 | 1 | 2 | 3 | 4 | 5 | 6 | 7 | 8 | 9 | 10 | 11 | 12 | 13 | 14 | 15 | 16 | 17 | 18 | 19 | 20 | 21 | 22 | 23 | 24 | 25
  | 26 => rfl
  | ⟨_ + 27, h⟩ => absurd h (by omega)

theorem read_off (k : Fin 27) : read (V0 m c) (off k) = offs k :=
  ((settled0 m c).get (1 + k.val) 2 _ (off_op k)).nullary ((stamp_at' _ (by omega)).trans (by omega))

/-! ## The particles' cells and weights -/

/-- A float constant at every coordinate of every particle. -/
def fillP (z : BitVec 32) : P3.Contents (Elt F) := broadcastInDim S1000000x3 ![] bcast_S_S1000000x3 (constant S_ .f32 z)

/-- Positions in units of the cell's side (1/128). -/
def norm (x : P3.Contents (Elt F)) : P3.Contents (Elt F) := Host.divf x (fillP 0x3C000000#32)
/-- The cell below (the integer part), -/
def base (x : P3.Contents (Elt F)) : I3.Contents (Elt F) := fptosi 32 x
/-- the position within it, -/
def frac (x : P3.Contents (Elt F)) : P3.Contents (Elt F) := subf x (sitofp .f32 (base x))
/-- and the weights of the three cells along each axis: (1 − f)²/2, 3/4 − (1/2 − f)², f²/2. -/
def axisW (f : P3.Contents (Elt F)) : Fin 3 → P3.Contents (Elt F) :=
  ![mulf (fillP 0x3F000000#32) (mulf (subf (fillP 0x3F800000#32) f) (subf (fillP 0x3F800000#32) f)),
    subf (fillP 0x3F400000#32) (mulf (subf (fillP 0x3F000000#32) f) (subf (fillP 0x3F000000#32) f)),
    mulf (fillP 0x3F000000#32) (mulf f f)]

/-- Result `j` of the preparation, after the offsets. -/
abbrev u (T : BufTy) (j : Nat) (h : hbmTy ((30 + j) % 980) = T := by rfl) : TRef sig T := buf T (30 + j) h

/-- The preparation's operations, after the offsets. -/
def pops : List (HloOp τ sig (Elt F)) :=
  [ TRef.unary (buf Z 2 rfl) (u P3 0) (broadcastInDim S1000000x3 ![] bcast_S_S1000000x3),
    TRef.binary pos (u P3 0) (u P3 1) Host.divf,
    TRef.unary (u P3 1) (u I3 2) (fptosi 32),
    TRef.unary (u I3 2) (u P3 3) (sitofp .f32),
    TRef.binary (u P3 1) (u P3 3) (u P3 4) subf,
    TRef.nullary (u Z 5) (constant S_ .f32 0x3F800000#32),
    TRef.unary (u Z 5) (u P3 6) (broadcastInDim S1000000x3 ![] bcast_S_S1000000x3),
    TRef.binary (u P3 6) (u P3 4) (u P3 7) subf,
    TRef.binary (u P3 7) (u P3 7) (u P3 8) mulf,
    TRef.nullary (u Z 9) (constant S_ .f32 0x3F000000#32),
    TRef.unary (u Z 9) (u P3 10) (broadcastInDim S1000000x3 ![] bcast_S_S1000000x3),
    TRef.binary (u P3 10) (u P3 8) (u P3 11) mulf,
    TRef.nullary (u Z 12) (constant S_ .f32 0x3F000000#32),
    TRef.unary (u Z 12) (u P3 13) (broadcastInDim S1000000x3 ![] bcast_S_S1000000x3),
    TRef.binary (u P3 13) (u P3 4) (u P3 14) subf,
    TRef.binary (u P3 14) (u P3 14) (u P3 15) mulf,
    TRef.nullary (u Z 16) (constant S_ .f32 0x3F400000#32),
    TRef.unary (u Z 16) (u P3 17) (broadcastInDim S1000000x3 ![] bcast_S_S1000000x3),
    TRef.binary (u P3 17) (u P3 15) (u P3 18) subf,
    TRef.binary (u P3 4) (u P3 4) (u P3 19) mulf,
    TRef.nullary (u Z 20) (constant S_ .f32 0x3F000000#32),
    TRef.unary (u Z 20) (u P3 21) (broadcastInDim S1000000x3 ![] bcast_S_S1000000x3),
    TRef.binary (u P3 21) (u P3 19) (u P3 22) mulf,
    TRef.nullary (u Z 23) (constant S_ .f32 0x00000000#32),
    TRef.unary (u Z 23) (u G3 24) (broadcastInDim S2197000x3 ![] bcast_S_S2197000x3),
    TRef.nullary (u Z 25) (constant S_ .f32 0x00000000#32),
    TRef.unary (u Z 25) (u G1 26) (broadcastInDim S2197000x1 ![] bcast_S_S2197000x1) ]

theorem pops_eq : (pops : List (HloOp τ sig (Elt F))) = (hostOps0.drop 28).take 27 := rfl

/-- The one constant before the offsets: the cell's side. -/
theorem side_op : (hostOps0 : List (HloOp τ sig (Elt F)))[0]? = some (TRef.nullary (buf Z 2 rfl) (constant S_ .f32 0x3C000000#32)) := rfl

theorem prep :
    read (V0 m c) cell = base (norm (read (V0 m c) pos)) ∧
    (∀ i, read (V0 m c) (wl i) = axisW (frac (norm (read (V0 m c) pos))) i) ∧
    read (V0 m c) (sumV 0) = broadcastInDim S2197000x3 ![] bcast_S_S2197000x3 (constant S_ .f32 0x00000000#32) ∧
    read (V0 m c) (sumW 0) = broadcastInDim S2197000x1 ![] bcast_S_S2197000x1 (constant S_ .f32 0x00000000#32) := by
  have hz := ((settled0 m c).get 0 2 _ side_op).nullary rfl
  have h : Settled (V0 m c) 30 (pops : List (HloOp τ sig (Elt F))) := by
    rw [pops_eq]; exact ((settled0 m c).drop 28 2 _).take 27 _ _
  obtain ⟨h0, h1, h2, h3, h4, h5, h6, h7, h8, h9, h10, h11, h12, h13, h14, h15, h16, h17, h18, h19, h20, h21, h22, h23, h24,
    h25, h26, -⟩ := h
  have e0 := h0.unary (by decide) rfl
  have e1 := h1.binary (by decide) (by decide) rfl
  have e2 := h2.unary (by decide) rfl
  have e3 := h3.unary (by decide) rfl
  have e4 := h4.binary (by decide) (by decide) rfl
  have e5 := h5.nullary rfl
  have e6 := h6.unary (by decide) rfl
  have e7 := h7.binary (by decide) (by decide) rfl
  have e8 := h8.binary (by decide) (by decide) rfl
  have e9 := h9.nullary rfl
  have e10 := h10.unary (by decide) rfl
  have e11 := h11.binary (by decide) (by decide) rfl
  have e12 := h12.nullary rfl
  have e13 := h13.unary (by decide) rfl
  have e14 := h14.binary (by decide) (by decide) rfl
  have e15 := h15.binary (by decide) (by decide) rfl
  have e16 := h16.nullary rfl
  have e17 := h17.unary (by decide) rfl
  have e18 := h18.binary (by decide) (by decide) rfl
  have e19 := h19.binary (by decide) (by decide) rfl
  have e20 := h20.nullary rfl
  have e21 := h21.unary (by decide) rfl
  have e22 := h22.binary (by decide) (by decide) rfl
  have e23 := h23.nullary rfl
  have e24 := h24.unary (by decide) rfl
  have e25 := h25.nullary rfl
  have e26 := h26.unary (by decide) rfl
  have n1 : read (V0 m c) (u P3 1) = norm (read (V0 m c) pos) := by rw [e1, e0, hz]; rfl
  have n4 : read (V0 m c) (u P3 4) = frac (norm (read (V0 m c) pos)) := by rw [e4, e3, e2, n1]; rfl
  refine ⟨by rw [← n1]; exact e2, fun i => ?_, e24.trans (by rw [e23]), e26.trans (by rw [e25])⟩
  match i with
  | 0 => refine e11.trans ?_; rw [e10, e9, e8, e7, e6, e5, n4]; rfl
  | 1 => refine e18.trans ?_; rw [e17, e16, e15, e14, e13, e12, n4]; rfl
  | 2 => refine e22.trans ?_; rw [e21, e20, e19, n4]; rfl

/-! ## The region's operands -/

/-- The region's arrays, as three-dimensional blocks. -/
abbrev B3 : BufTy := ⟨S13x1300x390, .f32⟩

theorem tail :
    read (V0 m c) (buf B3 975 rfl) = shapeCast S13x1300x390 (read (V0 m c) (sumV 27)) shapeCasts_S2197000x3_S13x1300x390 ∧
    read (V0 m c) (buf B3 977 rfl) = shapeCast S13x1300x390
      (broadcastInDim S2197000x3 ![0, 1] bcast_S2197000x1_S2197000x3_0_1 (read (V0 m c) (sumW 27)))
      shapeCasts_S2197000x3_S13x1300x390 := by
  have h0 := (settled0 m c).get 973 2 _ (op := TRef.unary (sumV 27) (buf B3 975 rfl) (shapeCast S13x1300x390 · shapeCasts_S2197000x3_S13x1300x390)) rfl
  have h1 := (settled0 m c).get 974 2 _ (op := TRef.unary (sumW 27) (buf G3 976 rfl) (broadcastInDim S2197000x3 ![0, 1] bcast_S2197000x1_S2197000x3_0_1)) rfl
  have h2 := (settled0 m c).get 975 2 _ (op := TRef.unary (buf G3 976 rfl) (buf B3 977 rfl) (shapeCast S13x1300x390 · shapeCasts_S2197000x3_S13x1300x390)) rfl
  refine ⟨h0.unary (by decide) rfl, ?_⟩
  rw [h2.unary (by decide) rfl, h1.unary (by decide) rfl]

end Cert.Proof.K

end
-- ==== Proof.KernelValue.lean ====
/- What the kernel program leaves in its result: block by block, the quotient of the region's two operands with 1 in
   place of a zero divisor; so the same quotient of the whole arrays, reshaped to the grid's three axes. -/
module

public import proofs.«01_k».proof.Proof.KernelPrep
public import Idealize.ShloMosaic.Lib.Pipeline.ValueKit

@[expose] public section

set_option maxRecDepth 16384

noncomputable section

namespace Cert.Proof.K

open Idealize.ShloMosaic Idealize.ShloMosaic.TcCoe Idealize.ShloMosaic.StableHlo Idealize.ShloMosaic.Tactic
open Idealize.SL.Sem
open Idealize.ShloMosaic.Pipeline (Dat)
open Cert.KernelIdeal Cert.KernelIdeal.Gen

variable {F : FTy → Type} [FloatOps F]

variable (m : (ℓ : Loc nD τ sig) → Buf (Elt F) ℓ) (ρ : Dev nD → PrngReg) (c : Dev nD)

/-- One element of the quotient: `v / w`, or `v / 1` where `w` is zero. -/
def quot1 (v w : F .f32) : F .f32 :=
  FloatOps.divf v (Scalar.select (FloatOps.cmpf .oeq w (FloatOps.ofBits .f32 0x00000000#32)) (FloatOps.ofBits .f32 0x3F800000#32) w)

/-- The quotient of the whole arrays. -/
def quot (v w : B3.Contents (Elt F)) : B3.Contents (Elt F) := fun i => quot1 (v i) (w i)

/-- The region's result. -/
theorem window : (dats m 0 c).arrAt 2 cfg0.N = quot (V m c (Pipeline.arrRef spec0 0)) (V m c (Pipeline.arrRef spec0 1)) := by
  refine (dats m 0 c).arrAt_eq_of_covers 2 _ (by decide +kernel) fun t hf y => ?_
  blk_simp
  rw [after0_2]
  frame_out
  unfold k0_pay1
  simp only [shapeCast_self]
  unfold iblk
  generalize V m c (Pipeline.arrRef spec0 0) = A
  generalize V m c (Pipeline.arrRef spec0 1) = B
  have eA : View.read (Elt F) ((cfg0.win 0).blk t).view A y = A (((cfg0.win 2).blk t).view.emb y) := rfl
  have eB : View.read (Elt F) ((cfg0.win 1).blk t).view B y = B (((cfg0.win 2).blk t).view.emb y) := rfl
  show quot1 (View.read (Elt F) ((cfg0.win 0).blk t).view A y) (View.read (Elt F) ((cfg0.win 1).blk t).view B y) = _
  rw [eA, eB]
  rfl

/-- The program's result, reshaped from the region's. -/
theorem after_tail : Pipeline.afterTail₀ cfgs (dats m) 0 (V0 m) [hostOps1] c main_v834
    = shapeCast S130x130x130x3 (quot (V m c (Pipeline.arrRef spec0 0)) (V m c (Pipeline.arrRef spec0 1)))
        shapeCasts_S13x1300x390_S130x130x130x3 := by
  rw [← window m c]
  unfold Pipeline.afterTail₀
  simp only [hostOps1, List.flatten_cons, List.flatten_nil, List.append_nil]
  after_results
  exact congrArg (fun x : B3.Contents (Elt F) => shapeCast S130x130x130x3 x shapeCasts_S13x1300x390_S130x130x130x3)
    (Pipeline.withArrays_arr _ launch0.win.arr_inj c (V0 m c) (fun w => (dats m 0 c).arrAt w (cfgs 0).N) 2)

/-- The two sums after the last group. -/
abbrev endV : S2197000x3.Idx → F .f32 := read (V0 m c) (sumV 27)
@[inherit_doc endV]
abbrev endW : S2197000x1.Idx → F .f32 := read (V0 m c) (sumW 27)

/-- The kernel program's result. -/
def result : S130x130x130x3.Idx → F .f32 :=
  shapeCast S130x130x130x3 (quot (shapeCast S13x1300x390 (endV m c) shapeCasts_S2197000x3_S13x1300x390)
    (shapeCast S13x1300x390 (broadcastInDim S2197000x3 ![0, 1] bcast_S2197000x1_S2197000x3_0_1 (endW m c))
      shapeCasts_S2197000x3_S13x1300x390)) shapeCasts_S13x1300x390_S130x130x130x3

/-- The region's operands, as the host operations' results. -/
theorem operand0 (W : Valuation τ sig (Elt F)) : W (Proc.devRef .tc (Pipeline.arrRef spec0 0)) = read W (buf B3 975 rfl) := rfl
@[inherit_doc operand0]
theorem operand1 (W : Valuation τ sig (Elt F)) : W (Proc.devRef .tc (Pipeline.arrRef spec0 1)) = read W (buf B3 977 rfl) := rfl

theorem result_eq : Pipeline.afterTail₀ cfgs (dats m) 0 (V0 m) [hostOps1] c main_v834 = result m c := by
  have e0 : V m c (Pipeline.arrRef spec0 0) = _ := (operand0 (V0 m c)).trans (tail m c).1
  have e1 : V m c (Pipeline.arrRef spec0 1) = _ := (operand1 (V0 m c)).trans (tail m c).2
  rw [after_tail, e0, e1]
  rfl

theorem run : θ_run defs (onTc (τ := τ) (main (F := F))) ⟨m, fun _ => 0, ρ⟩ fun r => ∀ c : Dev nD,
    r.2.mem ((c.tc : Thread nD τ).loc main_v834) = result m c
    ∧ r.2.mem ((c.tc : Thread nD τ).loc main_arg0) = m ((c.tc : Thread nD τ).loc main_arg0)
    ∧ r.2.mem ((c.tc : Thread nD τ).loc main_arg1) = m ((c.tc : Thread nD τ).loc main_arg1) := by
  refine (θ_run defs _ _).mono (fun _ h c => ⟨?_, h.2 c⟩) (θ_run_and (run_main m ρ) (unchanged m ρ))
  exact ((h.1 c).2 main_v834 (Pipeline.mem_restRefs_of main_v834 (by decide) (by decide))).trans (result_eq m c)

end Cert.Proof.K

end
-- ==== Proof.RefHost.lean ====
/- The reference program's host operations, in single-assignment form.

   After 62 operations of preparation come 27 groups of 42 operations, one group per neighbouring cell, written once over
   their number; then the division. -/
module

public import proofs.«01_k».proof.Proof.Straight
public import proofs.«01_k».proof.Proof.Gen.ReferenceIdeal.Run
public import Idealize.ShloMosaic.Lib.Quiescent

@[expose] public section

set_option maxRecDepth 16384

noncomputable section

namespace Cert.Proof.R

open Idealize.ShloMosaic Idealize.ShloMosaic.TcCoe Idealize.ShloMosaic.StableHlo
open Cert.ReferenceIdeal Cert.ReferenceIdeal.Gen Cert.ReferenceIdeal.Value

variable {F : FTy → Type} [FloatOps F]

/-- The buffer of index `n`. -/
abbrev at' (n : Nat) : Ref sig .tc := ⟨.hbm, ⟨n % 1206, Nat.mod_lt _ (by decide)⟩, rfl⟩

theorem stamp_at' : ∀ n < 1206, stamp (at' n) = n := fun _ h => Nat.mod_eq_of_lt h

/-- The operations write the buffers 2, 3, …, 1205, in order. -/
theorem ops_writes : Writes at' 2 (ops : List (HloOp τ sig (Elt F))) := by
  show _ = (List.range' 2 1204).map _
  rfl

/-! The types of the buffers. -/

abbrev P3 : BufTy := ⟨S1000000x3, .f32⟩
abbrev P1 : BufTy := ⟨S1000000x1, .f32⟩
abbrev I3 : BufTy := ⟨S1000000x3, .i32⟩
abbrev I1 : BufTy := ⟨S1000000x1, .i32⟩
abbrev I0 : BufTy := ⟨S1000000, .i32⟩
abbrev O3 : BufTy := ⟨S3, .i32⟩
abbrev O13 : BufTy := ⟨S1x3, .i32⟩
abbrev F3 : BufTy := ⟨S3, .f32⟩
abbrev F13 : BufTy := ⟨S1x3, .f32⟩
abbrev C : BufTy := ⟨S_, .i32⟩
abbrev Z : BufTy := ⟨S_, .f32⟩
abbrev G3 : BufTy := ⟨S2197000x3, .f32⟩
abbrev G1 : BufTy := ⟨S2197000x1, .f32⟩
abbrev Q3 : BufTy := ⟨S130x130x130x3, .f32⟩
abbrev Q1 : BufTy := ⟨S130x130x130x1, .f32⟩
abbrev M1 : BufTy := ⟨S130x130x130x1, .i1⟩

/-- The buffer of index `n` at its type. -/
abbrev buf (T : BufTy) (n : Nat) (h : hbmTy (n % 1206) = T) : TRef sig T := ⟨at' n, h, Space.noConfusion, rfl⟩

/-! The buffers of a group. -/

/-- The types of a group's 42 results. -/
def gty : Fin 42 → BufTy :=
  ![P1, P1, P1, P1, P1, O13, I3, I3, C, I3, I3, P3, P3, I1, I0, C, I0, I0, C, I0, I0, I1, I0, C, I0, I0, I0, I1, I0, I0,
    Z, G3, I1, G3, Q3, Q3, Z, G1, I1, G1, Q1, Q1]

theorem gty_eq : ∀ (k : Fin 27) (j : Fin 42), hbmTy ((64 + 42 * k.val + j.val) % 1206) = gty j := by decide +kernel

/-- Result `j` of group `k`. -/
abbrev v (T : BufTy) (k : Fin 27) (j : Fin 42) (h : gty j = T := by rfl) : TRef sig T :=
  buf T (64 + 42 * k.val + j.val) ((gty_eq k j).trans h)

/-- The weights' index: the three weights' buffers. -/
def wix : Fin 3 → Nat := ![49, 56, 60]
theorem wix_ty : ∀ i : Fin 3, hbmTy (wix i % 1206) = P3 := by decide +kernel
/-- Weight `i` (of the three along each axis). -/
abbrev wl (i : Fin 3) : TRef sig P3 := buf P3 (wix i) (wix_ty i)

/-- A group's offset along the three axes: the digits of its number. -/
abbrev d0 (k : Fin 27) : Fin 3 := ⟨k.val / 9, by omega⟩
abbrev d1 (k : Fin 27) : Fin 3 := ⟨k.val / 3 % 3, by omega⟩
abbrev d2 (k : Fin 27) : Fin 3 := ⟨k.val % 3, by omega⟩

theorem off_ty : ∀ k : Fin 27, hbmTy ((3 + k.val) % 1206) = O3 := by decide +kernel
/-- The offset vector of group `k`. -/
abbrev off (k : Fin 27) : TRef sig O3 := buf O3 (3 + k.val) (off_ty k)

abbrev vel : TRef sig P3 := buf P3 0 rfl
abbrev pos : TRef sig P3 := buf P3 1 rfl
/-- The cells, one up along each axis. -/
abbrev cell : TRef sig I3 := buf I3 63 rfl

/-- Where the two running sums are before group `k`. -/
def vix (k : Nat) : Nat := if k = 0 then 31 else 57 + 42 * k
@[inherit_doc vix]
def wsx (k : Nat) : Nat := if k = 0 then 33 else 63 + 42 * k
theorem vix_ty : ∀ k : Fin 28, hbmTy (vix k.val % 1206) = Q3 := by decide +kernel
theorem wsx_ty : ∀ k : Fin 28, hbmTy (wsx k.val % 1206) = Q1 := by decide +kernel
abbrev sumV (k : Fin 28) : TRef sig Q3 := buf Q3 (vix k.val) (vix_ty k)
abbrev sumW (k : Fin 28) : TRef sig Q1 := buf Q1 (wsx k.val) (wsx_ty k)

/-- The operations of group `k`. -/
def gops (k : Fin 27) : List (HloOp τ sig (Elt F)) :=
  [ TRef.unary (wl (d0 k)) (v P1 k 0) (extractStridedSlice S1000000x1 ![0, 0] · slices_S1000000x3_S1000000x1_0_0),
    TRef.unary (wl (d1 k)) (v P1 k 1) (extractStridedSlice S1000000x1 ![0, 1] · slices_S1000000x3_S1000000x1_0_1),
    TRef.binary (v P1 k 0) (v P1 k 1) (v P1 k 2) mulf,
    TRef.unary (wl (d2 k)) (v P1 k 3) (extractStridedSlice S1000000x1 ![0, 2] · slices_S1000000x3_S1000000x1_0_2),
    TRef.binary (v P1 k 2) (v P1 k 3) (v P1 k 4) mulf,
    TRef.unary (off k) (v O13 k 5) (broadcastInDim S1x3 ![1] bcast_S3_S1x3_1),
    TRef.unary (v O13 k 5) (v I3 k 6) (broadcastInDim S1000000x3 ![0, 1] bcast_S1x3_S1000000x3_0_1),
    TRef.binary cell (v I3 k 6) (v I3 k 7) addi,
    TRef.nullary (v C k 8) (constantI S_ 32 1#32),
    TRef.unary (v C k 8) (v I3 k 9) (broadcastInDim S1000000x3 ![] bcast_S_S1000000x3),
    TRef.binary (v I3 k 7) (v I3 k 9) (v I3 k 10) subi,
    TRef.unary (v P1 k 4) (v P3 k 11) (broadcastInDim S1000000x3 ![0, 1] bcast_S1000000x1_S1000000x3_0_1),
    TRef.binary vel (v P3 k 11) (v P3 k 12) mulf,
    TRef.unary (v I3 k 10) (v I1 k 13) (extractStridedSlice S1000000x1 ![0, 0] · slices_S1000000x3_S1000000x1_0_0),
    TRef.unary (v I1 k 13) (v I0 k 14) (shapeCast S1000000 · shapeCasts_S1000000x1_S1000000),
    TRef.nullary (v C k 15) (constantI S_ 32 130#32),
    TRef.unary (v C k 15) (v I0 k 16) (broadcastInDim S1000000 ![] bcast_S_S1000000),
    TRef.binary (v I0 k 14) (v I0 k 16) (v I0 k 17) muli,
    TRef.nullary (v C k 18) (constantI S_ 32 130#32),
    TRef.unary (v C k 18) (v I0 k 19) (broadcastInDim S1000000 ![] bcast_S_S1000000),
    TRef.binary (v I0 k 17) (v I0 k 19) (v I0 k 20) muli,
    TRef.unary (v I3 k 10) (v I1 k 21) (extractStridedSlice S1000000x1 ![0, 1] · slices_S1000000x3_S1000000x1_0_1),
    TRef.unary (v I1 k 21) (v I0 k 22) (shapeCast S1000000 · shapeCasts_S1000000x1_S1000000),
    TRef.nullary (v C k 23) (constantI S_ 32 130#32),
    TRef.unary (v C k 23) (v I0 k 24) (broadcastInDim S1000000 ![] bcast_S_S1000000),
    TRef.binary (v I0 k 22) (v I0 k 24) (v I0 k 25) muli,
    TRef.binary (v I0 k 20) (v I0 k 25) (v I0 k 26) addi,
    TRef.unary (v I3 k 10) (v I1 k 27) (extractStridedSlice S1000000x1 ![0, 2] · slices_S1000000x3_S1000000x1_0_2),
    TRef.unary (v I1 k 27) (v I0 k 28) (shapeCast S1000000 · shapeCasts_S1000000x1_S1000000),
    TRef.binary (v I0 k 26) (v I0 k 28) (v I0 k 29) addi,
    TRef.nullary (v Z k 30) (constant S_ .f32 0x00000000#32),
    TRef.unary (v Z k 30) (v G3 k 31) (broadcastInDim S2197000x3 ![] bcast_S_S2197000x3),
    TRef.unary (v I0 k 29) (v I1 k 32) (broadcastInDim S1000000x1 ![0] bcast_S1000000_S1000000x1_0),
    TRef.ternary (v G3 k 31) (v I1 k 32) (v P3 k 12) (v G3 k 33)
      (fun x i u => Host.scatterAdd scatter_S2197000x3_S1000000x1_S1000000x3_1_0_0_1 x i u),
    TRef.unary (v G3 k 33) (v Q3 k 34) (shapeCast S130x130x130x3 · shapeCasts_S2197000x3_S130x130x130x3),
    TRef.binary (sumV k.castSucc) (v Q3 k 34) (v Q3 k 35) addf,
    TRef.nullary (v Z k 36) (constant S_ .f32 0x00000000#32),
    TRef.unary (v Z k 36) (v G1 k 37) (broadcastInDim S2197000x1 ![] bcast_S_S2197000x1),
    TRef.unary (v I0 k 29) (v I1 k 38) (broadcastInDim S1000000x1 ![0] bcast_S1000000_S1000000x1_0),
    TRef.ternary (v G1 k 37) (v I1 k 38) (v P1 k 4) (v G1 k 39)
      (fun x i u => Host.scatterAdd scatter_S2197000x1_S1000000x1_S1000000x1_1_0_0_1 x i u),
    TRef.unary (v G1 k 39) (v Q1 k 40) (shapeCast S130x130x130x1 · shapeCasts_S2197000x1_S130x130x130x1),
    TRef.binary (sumW k.castSucc) (v Q1 k 40) (v Q1 k 41) addf ]

set_option maxHeartbeats 4000000 in
/-- They are the program's. -/
theorem gops_eq : ∀ k : Fin 27, (gops k : List (HloOp τ sig (Elt F))) = (ops.drop (62 + 42 * k.val)).take 42
  | 0 | 1 | 2 | 3 | 4 | 5 | 6 | 7 | 8 | 9 | 10 | 11 | 12 | 13 | 14 | 15 | 16 | 17 | 18 | 19 | 20 | 21 | 22 | 23 | 24 | 25
  | 26 => rfl
  | ⟨_ + 27, h⟩ => absurd h (by omega)

/-! The values. -/

variable (m : (ℓ : Loc nD τ sig) → Buf (Elt F) ℓ) (ρ : Dev nD → PrngReg) (c : Dev nD)

/-- Core `c`'s buffers at the end. -/
abbrev V0 : Valuation τ sig (Elt F) := after ops (launchContents m c)

theorem settled0 : Settled (V0 m c) 2 (ops : List (HloOp τ sig (Elt F))) :=
  settled stamp_at' ops 2 _ ops_writes (by show 2 + 1204 ≤ 1206; decide)

theorem settled_group (k : Fin 27) : Settled (V0 m c) (64 + 42 * k.val) (gops k : List (HloOp τ sig (Elt F))) := by
  rw [gops_eq k]
  have := ((settled0 m c).drop (62 + 42 * k.val)).take 42
  rwa [show 2 + (62 + 42 * k.val) = 64 + 42 * k.val by omega] at this

/-- No operation writes an argument. -/
theorem V_arg (b : Ref sig .tc) (hb : stamp b < 2) : V0 m c (Proc.devRef .tc b) = m ((c : Thread nD τ).loc b) :=
  after_below stamp_at' ops 2 _ ops_writes (by show 2 + 1204 ≤ 1206; decide) b hb

/-- The run: every buffer ends as the operations leave it. -/
theorem run : θ_run defs (onTc (τ := τ) (main (F := F))) ⟨m, fun _ => 0, ρ⟩ fun r =>
    ∀ (d : Dev nD) (b : Ref sig .tc), r.2.mem ((d.tc : Thread nD τ).loc b) = V0 m d (Proc.devRef .tc b) :=
  run_seq scopedRefs_eq scopedSems_eq defs main (fun _ => ops) main_eq (fun _ => ops_sub) m ρ fun _ => ops_fresh

/-- The frame: the arguments end as launched, and there is no counter. -/
theorem frame : θ_run defs (onTc (τ := τ) (main (F := F))) ⟨m, fun _ => 0, ρ⟩ fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0 :=
  (θ_run defs _ _).mono (fun r h => ⟨fun c => ⟨(h c main_arg0).trans (V_arg m c main_arg0 (by decide)),
    (h c main_arg1).trans (V_arg m c main_arg1 (by decide))⟩, sem_eq_zero_of_no_sems rfl r.2⟩) (run m ρ)

end Cert.Proof.R

end
-- ==== Proof.RefSums.lean ====
/- What the groups of the reference program's host operations compute: each adds its cell's two sums to the running
   ones, over the grid in its three axes. -/
module

public import proofs.«01_k».proof.Proof.RefHost

@[expose] public section

set_option maxRecDepth 16384

noncomputable section

namespace Cert.Proof.R

open Idealize.ShloMosaic Idealize.ShloMosaic.TcCoe Idealize.ShloMosaic.StableHlo
open Cert.ReferenceIdeal Cert.ReferenceIdeal.Gen Cert.ReferenceIdeal.Value

variable {F : FTy → Type} [FloatOps F]

variable (m : (ℓ : Loc nD τ sig) → Buf (Elt F) ℓ) (c : Dev nD)

/-- The weight of a group's cell: the product of one weight per axis. -/
def weight (a b d : P3.Contents (Elt F)) : P1.Contents (Elt F) :=
  mulf (mulf (extractStridedSlice S1000000x1 ![0, 0] a slices_S1000000x3_S1000000x1_0_0)
      (extractStridedSlice S1000000x1 ![0, 1] b slices_S1000000x3_S1000000x1_0_1))
    (extractStridedSlice S1000000x1 ![0, 2] d slices_S1000000x3_S1000000x1_0_2)

/-- The integer 1 at every coordinate of every particle. -/
def one3 : I3.Contents (Elt F) := broadcastInDim S1000000x3 ![] bcast_S_S1000000x3 (constantI S_ 32 1#32)

/-- A group's cell, as a vector of three coordinates: its offset counts from −1. -/
def shifted (p : I3.Contents (Elt F)) (o : O3.Contents (Elt F)) : I3.Contents (Elt F) :=
  subi (addi p (broadcastInDim S1000000x3 ![0, 1] bcast_S1x3_S1000000x3_0_1 (broadcastInDim S1x3 ![1] bcast_S3_S1x3_1 o)))
    (one3 (F := F))

/-- Coordinate `j` of a cell. -/
def coord0 (q : I3.Contents (Elt F)) : I0.Contents (Elt F) :=
  shapeCast S1000000 (extractStridedSlice S1000000x1 ![0, 0] q slices_S1000000x3_S1000000x1_0_0) shapeCasts_S1000000x1_S1000000
@[inherit_doc coord0]
def coord1 (q : I3.Contents (Elt F)) : I0.Contents (Elt F) :=
  shapeCast S1000000 (extractStridedSlice S1000000x1 ![0, 1] q slices_S1000000x3_S1000000x1_0_1) shapeCasts_S1000000x1_S1000000
@[inherit_doc coord0]
def coord2 (q : I3.Contents (Elt F)) : I0.Contents (Elt F) :=
  shapeCast S1000000 (extractStridedSlice S1000000x1 ![0, 2] q slices_S1000000x3_S1000000x1_0_2) shapeCasts_S1000000x1_S1000000

/-- The integer 130, the grid's side, at every particle. -/
def side : I0.Contents (Elt F) := broadcastInDim S1000000 ![] bcast_S_S1000000 (constantI S_ 32 130#32)

/-- A cell's number in the flat grid of 130³. -/
def flat (q : I3.Contents (Elt F)) : I1.Contents (Elt F) :=
  broadcastInDim S1000000x1 ![0] bcast_S1000000_S1000000x1_0
    (addi (addi (muli (muli (coord0 q) (side (F := F))) (side (F := F))) (muli (coord1 q) (side (F := F)))) (coord2 q))

/-- The sum over the particles, cell by cell, of the weighted velocities, -/
def scatV (vl : P3.Contents (Elt F)) (q : I1.Contents (Elt F)) (w : P1.Contents (Elt F)) : G3.Contents (Elt F) :=
  Host.scatterAdd scatter_S2197000x3_S1000000x1_S1000000x3_1_0_0_1
    (broadcastInDim S2197000x3 ![] bcast_S_S2197000x3 (constant S_ .f32 0x00000000#32)) q
    (mulf vl (broadcastInDim S1000000x3 ![0, 1] bcast_S1000000x1_S1000000x3_0_1 w))
/-- and of the weights. -/
def scatW (q : I1.Contents (Elt F)) (w : P1.Contents (Elt F)) : G1.Contents (Elt F) :=
  Host.scatterAdd scatter_S2197000x1_S1000000x1_S1000000x1_1_0_0_1
    (broadcastInDim S2197000x1 ![] bcast_S_S2197000x1 (constant S_ .f32 0x00000000#32)) q w

/-- Group `k`'s weights and its cells. -/
def gw (k : Fin 27) : P1.Contents (Elt F) :=
  weight (read (V0 m c) (wl (d0 k))) (read (V0 m c) (wl (d1 k))) (read (V0 m c) (wl (d2 k)))
@[inherit_doc gw]
def gq (k : Fin 27) : I1.Contents (Elt F) := flat (shifted (read (V0 m c) cell) (read (V0 m c) (off k)))

theorem buf_congr {T : BufTy} {n n' : Nat} (e : n = n') (h : hbmTy (n % 1206) = T) (h' : hbmTy (n' % 1206) = T) :
    buf T n h = buf T n' h' := by subst e; rfl

theorem sumV_succ (k : Fin 27) : sumV k.succ = v Q3 k 35 :=
  buf_congr (by unfold vix; rw [Fin.val_succ, if_neg (Nat.succ_ne_zero _)]; show _ = 64 + 42 * k.val + 35; omega) _ _
theorem sumW_succ (k : Fin 27) : sumW k.succ = v Q1 k 41 :=
  buf_congr (by unfold wsx; rw [Fin.val_succ, if_neg (Nat.succ_ne_zero _)]; show _ = 64 + 42 * k.val + 41; omega) _ _

/-- Group `k` adds its two sums to the running ones. -/
theorem group (k : Fin 27) :
    read (V0 m c) (sumV k.succ) = addf (read (V0 m c) (sumV k.castSucc))
      (shapeCast S130x130x130x3 (scatV (read (V0 m c) vel) (gq m c k) (gw m c k)) shapeCasts_S2197000x3_S130x130x130x3) ∧
    read (V0 m c) (sumW k.succ) = addf (read (V0 m c) (sumW k.castSucc))
      (shapeCast S130x130x130x1 (scatW (gq m c k) (gw m c k)) shapeCasts_S2197000x1_S130x130x130x1) := by
  have h := settled_group m c k
  have hk := k.isLt
  have hs : ∀ j : Nat, j < 42 → stamp (at' (64 + 42 * k.val + j)) = 64 + 42 * k.val + j := fun j h => stamp_at' _ (by omega)
  -- a result is written at its own index, and read after it
  have at_ : ∀ (j n : Nat), j < 42 → n = 64 + 42 * k.val + j → stamp (at' (64 + 42 * k.val + j)) = n :=
    fun j n h e => (hs j h).trans e.symm
  have lt_ : ∀ (j n : Nat), j < 42 → 64 + 42 * k.val + j < n → stamp (at' (64 + 42 * k.val + j)) < n :=
    fun j n h e => (hs j h).trans_lt e
  have old : ∀ (i n : Nat), i < 64 + 42 * k.val → 64 + 42 * k.val ≤ n → stamp (at' i) < n :=
    fun i n h e => (stamp_at' i (by omega)).trans_lt (by omega)
  have hwix : ∀ i : Fin 3, wix i < 64 := by decide
  have hwl : ∀ (i : Fin 3) (n : Nat), 64 + 42 * k.val ≤ n → stamp (at' (wix i)) < n :=
    fun i n e => old _ n ((hwix i).trans_le (by omega)) e
  obtain ⟨h0, h1, h2, h3, h4, h5, h6, h7, h8, h9, h10, h11, h12, h13, h14, h15, h16, h17, h18, h19, h20,
    h21, h22, h23, h24, h25, h26, h27, h28, h29, h30, h31, h32, h33, h34, h35, h36, h37, h38, h39, h40, h41, -⟩ := h
  have hsv : vix k.castSucc.val < 64 + 42 * k.val := by
    unfold vix; rw [Fin.val_castSucc]; split <;> omega
  have hsw : wsx k.castSucc.val < 64 + 42 * k.val := by
    unfold wsx; rw [Fin.val_castSucc]; split <;> omega
  have e0 := h0.unary (hwl _ _ (by omega)) (at_ 0 _ (by omega) (by omega))
  have e1 := h1.unary (hwl _ _ (by omega)) (at_ 1 _ (by omega) (by omega))
  have e2 := h2.binary (lt_ 0 _ (by omega) (by omega)) (lt_ 1 _ (by omega) (by omega)) (at_ 2 _ (by omega) (by omega))
  have e3 := h3.unary (hwl _ _ (by omega)) (at_ 3 _ (by omega) (by omega))
  have e4 := h4.binary (lt_ 2 _ (by omega) (by omega)) (lt_ 3 _ (by omega) (by omega)) (at_ 4 _ (by omega) (by omega))
  have e5 := h5.unary (old _ _ (by omega) (by omega)) (at_ 5 _ (by omega) (by omega))
  have e6 := h6.unary (lt_ 5 _ (by omega) (by omega)) (at_ 6 _ (by omega) (by omega))
  have e7 := h7.binary (old _ _ (by omega) (by omega)) (lt_ 6 _ (by omega) (by omega)) (at_ 7 _ (by omega) (by omega))
  have e8 := h8.nullary (at_ 8 _ (by omega) (by omega))
  have e9 := h9.unary (lt_ 8 _ (by omega) (by omega)) (at_ 9 _ (by omega) (by omega))
  have e10 := h10.binary (lt_ 7 _ (by omega) (by omega)) (lt_ 9 _ (by omega) (by omega)) (at_ 10 _ (by omega) (by omega))
  have e11 := h11.unary (lt_ 4 _ (by omega) (by omega)) (at_ 11 _ (by omega) (by omega))
  have e12 := h12.binary (old _ _ (by omega) (by omega)) (lt_ 11 _ (by omega) (by omega)) (at_ 12 _ (by omega) (by omega))
  have e13 := h13.unary (lt_ 10 _ (by omega) (by omega)) (at_ 13 _ (by omega) (by omega))
  have e14 := h14.unary (lt_ 13 _ (by omega) (by omega)) (at_ 14 _ (by omega) (by omega))
  have e15 := h15.nullary (at_ 15 _ (by omega) (by omega))
  have e16 := h16.unary (lt_ 15 _ (by omega) (by omega)) (at_ 16 _ (by omega) (by omega))
  have e17 := h17.binary (lt_ 14 _ (by omega) (by omega)) (lt_ 16 _ (by omega) (by omega)) (at_ 17 _ (by omega) (by omega))
  have e18 := h18.nullary (at_ 18 _ (by omega) (by omega))
  have e19 := h19.unary (lt_ 18 _ (by omega) (by omega)) (at_ 19 _ (by omega) (by omega))
  have e20 := h20.binary (lt_ 17 _ (by omega) (by omega)) (lt_ 19 _ (by omega) (by omega)) (at_ 20 _ (by omega) (by omega))
  have e21 := h21.unary (lt_ 10 _ (by omega) (by omega)) (at_ 21 _ (by omega) (by omega))
  have e22 := h22.unary (lt_ 21 _ (by omega) (by omega)) (at_ 22 _ (by omega) (by omega))
  have e23 := h23.nullary (at_ 23 _ (by omega) (by omega))
  have e24 := h24.unary (lt_ 23 _ (by omega) (by omega)) (at_ 24 _ (by omega) (by omega))
  have e25 := h25.binary (lt_ 22 _ (by omega) (by omega)) (lt_ 24 _ (by omega) (by omega)) (at_ 25 _ (by omega) (by omega))
  have e26 := h26.binary (lt_ 20 _ (by omega) (by omega)) (lt_ 25 _ (by omega) (by omega)) (at_ 26 _ (by omega) (by omega))
  have e27 := h27.unary (lt_ 10 _ (by omega) (by omega)) (at_ 27 _ (by omega) (by omega))
  have e28 := h28.unary (lt_ 27 _ (by omega) (by omega)) (at_ 28 _ (by omega) (by omega))
  have e29 := h29.binary (lt_ 26 _ (by omega) (by omega)) (lt_ 28 _ (by omega) (by omega)) (at_ 29 _ (by omega) (by omega))
  have e30 := h30.nullary (at_ 30 _ (by omega) (by omega))
  have e31 := h31.unary (lt_ 30 _ (by omega) (by omega)) (at_ 31 _ (by omega) (by omega))
  have e32 := h32.unary (lt_ 29 _ (by omega) (by omega)) (at_ 32 _ (by omega) (by omega))
  have e33 := h33.ternary (lt_ 31 _ (by omega) (by omega)) (lt_ 32 _ (by omega) (by omega)) (lt_ 12 _ (by omega) (by omega)) (at_ 33 _ (by omega) (by omega))
  have e34 := h34.unary (lt_ 33 _ (by omega) (by omega)) (at_ 34 _ (by omega) (by omega))
  have e35 := h35.binary (old _ _ hsv (by omega)) (lt_ 34 _ (by omega) (by omega)) (at_ 35 _ (by omega) (by omega))
  have e36 := h36.nullary (at_ 36 _ (by omega) (by omega))
  have e37 := h37.unary (lt_ 36 _ (by omega) (by omega)) (at_ 37 _ (by omega) (by omega))
  have e38 := h38.unary (lt_ 29 _ (by omega) (by omega)) (at_ 38 _ (by omega) (by omega))
  have e39 := h39.ternary (lt_ 37 _ (by omega) (by omega)) (lt_ 38 _ (by omega) (by omega)) (lt_ 4 _ (by omega) (by omega)) (at_ 39 _ (by omega) (by omega))
  have e40 := h40.unary (lt_ 39 _ (by omega) (by omega)) (at_ 40 _ (by omega) (by omega))
  have e41 := h41.binary (old _ _ hsw (by omega)) (lt_ 40 _ (by omega) (by omega)) (at_ 41 _ (by omega) (by omega))
  refine ⟨?_, ?_⟩
  · rw [sumV_succ, e35, e34, e33, e32, e31, e30, e29, e28, e27, e26, e25, e24, e23, e22, e21, e20, e19, e18, e17,
      e16, e15, e14, e13, e12, e11, e10, e9, e8, e7, e6, e5, e4, e3, e2, e1, e0]
    rfl
  · rw [sumW_succ, e41, e40, e39, e38, e37, e36, e29, e28, e27, e26, e25, e24, e23, e22, e21, e20, e19, e18, e17,
      e16, e15, e14, e13, e10, e9, e8, e7, e6, e5, e4, e3, e2, e1, e0]
    rfl

end Cert.Proof.R

end
-- ==== Proof.RefPrep.lean ====
/- The reference program's host operations before its groups (the cells, the weights, the offsets, the two zero sums)
   and after them (the division). -/
module

public import proofs.«01_k».proof.Proof.RefSums

@[expose] public section

set_option maxRecDepth 16384

noncomputable section

namespace Cert.Proof.R

open Idealize.ShloMosaic Idealize.ShloMosaic.TcCoe Idealize.ShloMosaic.StableHlo
open Cert.ReferenceIdeal Cert.ReferenceIdeal.Gen Cert.ReferenceIdeal.Value

variable {F : FTy → Type} [FloatOps F]

variable (m : (ℓ : Loc nD τ sig) → Buf (Elt F) ℓ) (c : Dev nD)

/-! ## The offsets -/

/-- The 27 offsets, as the program writes them. -/
def offs : Fin 27 → O3.Contents (Elt F) :=
  ![constantI S3 32 0#32, fun i => lit0 (S3.rowMajor i), fun i => lit1 (S3.rowMajor i), fun i => lit2 (S3.rowMajor
    i), fun i => lit3 (S3.rowMajor i), fun i => lit4 (S3.rowMajor i), fun i => lit5 (S3.rowMajor i), fun i => lit6
    (S3.rowMajor i), fun i => lit7 (S3.rowMajor i), fun i => lit8 (S3.rowMajor i), fun i => lit9 (S3.rowMajor i),
    fun i => lit10 (S3.rowMajor i), fun i => lit11 (S3.rowMajor i),
    constantI S3 32 1#32, fun i => lit12 (S3.rowMajor i), fun i => lit13 (S3.rowMajor i), fun i => lit14
    (S3.rowMajor i), fun i => lit15 (S3.rowMajor i), fun i => lit16 (S3.rowMajor i), fun i => lit17 (S3.rowMajor
    i), fun i => lit18 (S3.rowMajor i), fun i => lit19 (S3.rowMajor i), fun i => lit20 (S3.rowMajor i), fun i =>
    lit21 (S3.rowMajor i), fun i => lit22 (S3.rowMajor i), fun i => lit23 (S3.rowMajor i), constantI S3 32 2#32]

theorem off_op : ∀ k : Fin 27,
    (ops : List (HloOp τ sig (Elt F)))[1 + k.val]? = some (TRef.nullary (off k) (offs k))
  | 0 | 1 | 2 | 3 | 4 | 5 | 6 | 7 | 8 | 9 | 10 | 11 | 12 | 13 | 14 | 15 | 16 | 17 | 18 | 19 | 20 | 21 | 22 | 23 | 24 | 25
  | 26 => rfl
  | ⟨_ + 27, h⟩ => absurd h (by omega)

theorem read_off (k : Fin 27) : read (V0 m c) (off k) = offs k :=
  ((settled0 m c).get (1 + k.val) 2 _ (off_op k)).nullary ((stamp_at' _ (by omega)).trans (by omega))

/-! ## The particles' cells and weights -/

/-- A float constant at every coordinate of every particle. -/
def fillP (z : BitVec 32) : P3.Contents (Elt F) := broadcastInDim S1000000x3 ![] bcast_S_S1000000x3 (constant S_ .f32 z)

/-- Positions relative to the grid's corner, the origin. -/
def centred (x : P3.Contents (Elt F)) : P3.Contents (Elt F) :=
  subf x (broadcastInDim S1000000x3 ![0, 1] bcast_S1x3_S1000000x3_0_1
    (broadcastInDim S1x3 ![1] bcast_S3_S1x3_1 (constant S3 .f32 0x00000000#32)))
/-- Positions in units of the cell's side (1/128). -/
def norm (x : P3.Contents (Elt F)) : P3.Contents (Elt F) := Host.divf x (fillP 0x3C000000#32)
/-- The cell below (the integer part), -/
def base (x : P3.Contents (Elt F)) : I3.Contents (Elt F) := fptosi 32 x
/-- the position within it, -/
def frac (x : P3.Contents (Elt F)) : P3.Contents (Elt F) := subf x (sitofp .f32 (base x))
/-- and the weights of the three cells along each axis: (1 − f)²/2, 3/4 − (1/2 − f)², f²/2. -/
def axisW (f : P3.Contents (Elt F)) : Fin 3 → P3.Contents (Elt F) :=
  ![mulf (fillP 0x3F000000#32) (mulf (subf (fillP 0x3F800000#32) f) (subf (fillP 0x3F800000#32) f)),
    subf (fillP 0x3F400000#32) (mulf (subf (fillP 0x3F000000#32) f) (subf (fillP 0x3F000000#32) f)),
    mulf (fillP 0x3F000000#32) (mulf f f)]

/-- Result `j` of the preparation, after the offsets. -/
abbrev u (T : BufTy) (j : Nat) (h : hbmTy ((30 + j) % 1206) = T := by rfl) : TRef sig T := buf T (30 + j) h

/-- The preparation's operations, after the offsets. -/
def pops : List (HloOp τ sig (Elt F)) :=
  [ TRef.nullary (u Z 0) (constant S_ .f32 0x00000000#32),
    TRef.unary (u Z 0) (u Q3 1) (broadcastInDim S130x130x130x3 ![] bcast_S_S130x130x130x3),
    TRef.nullary (u Z 2) (constant S_ .f32 0x00000000#32),
    TRef.unary (u Z 2) (u Q1 3) (broadcastInDim S130x130x130x1 ![] bcast_S_S130x130x130x1),
    TRef.unary (buf F3 2 rfl) (u F13 4) (broadcastInDim S1x3 ![1] bcast_S3_S1x3_1),
    TRef.unary (u F13 4) (u P3 5) (broadcastInDim S1000000x3 ![0, 1] bcast_S1x3_S1000000x3_0_1),
    TRef.binary pos (u P3 5) (u P3 6) subf,
    TRef.nullary (u Z 7) (constant S_ .f32 0x3C000000#32),
    TRef.unary (u Z 7) (u P3 8) (broadcastInDim S1000000x3 ![] bcast_S_S1000000x3),
    TRef.binary (u P3 6) (u P3 8) (u P3 9) Host.divf,
    TRef.unary (u P3 9) (u I3 10) (fptosi 32),
    TRef.unary (u I3 10) (u P3 11) (sitofp .f32),
    TRef.binary (u P3 9) (u P3 11) (u P3 12) subf,
    TRef.nullary (u Z 13) (constant S_ .f32 0x3F800000#32),
    TRef.unary (u Z 13) (u P3 14) (broadcastInDim S1000000x3 ![] bcast_S_S1000000x3),
    TRef.binary (u P3 14) (u P3 12) (u P3 15) subf,
    TRef.binary (u P3 15) (u P3 15) (u P3 16) mulf,
    TRef.nullary (u Z 17) (constant S_ .f32 0x3F000000#32),
    TRef.unary (u Z 17) (u P3 18) (broadcastInDim S1000000x3 ![] bcast_S_S1000000x3),
    TRef.binary (u P3 18) (u P3 16) (u P3 19) mulf,
    TRef.nullary (u Z 20) (constant S_ .f32 0x3F000000#32),
    TRef.unary (u Z 20) (u P3 21) (broadcastInDim S1000000x3 ![] bcast_S_S1000000x3),
    TRef.binary (u P3 21) (u P3 12) (u P3 22) subf,
    TRef.binary (u P3 22) (u P3 22) (u P3 23) mulf,
    TRef.nullary (u Z 24) (constant S_ .f32 0x3F400000#32),
    TRef.unary (u Z 24) (u P3 25) (broadcastInDim S1000000x3 ![] bcast_S_S1000000x3),
    TRef.binary (u P3 25) (u P3 23) (u P3 26) subf,
    TRef.binary (u P3 12) (u P3 12) (u P3 27) mulf,
    TRef.nullary (u Z 28) (constant S_ .f32 0x3F000000#32),
    TRef.unary (u Z 28) (u P3 29) (broadcastInDim S1000000x3 ![] bcast_S_S1000000x3),
    TRef.binary (u P3 29) (u P3 27) (u P3 30) mulf,
    TRef.nullary (u C 31) (constantI S_ 32 1#32),
    TRef.unary (u C 31) (u I3 32) (broadcastInDim S1000000x3 ![] bcast_S_S1000000x3),
    TRef.binary (u I3 10) (u I3 32) (u I3 33) addi ]

theorem pops_eq : (pops : List (HloOp τ sig (Elt F))) = (ops.drop 28).take 34 := rfl

/-- The one constant before the offsets: the grid's corner. -/
theorem corner_op : (ops : List (HloOp τ sig (Elt F)))[0]? = some (TRef.nullary (buf F3 2 rfl) (constant S3 .f32 0x00000000#32)) := rfl

theorem prep :
    read (V0 m c) cell = addi (base (norm (centred (read (V0 m c) pos)))) (one3 (F := F)) ∧
    (∀ i, read (V0 m c) (wl i) = axisW (frac (norm (centred (read (V0 m c) pos)))) i) ∧
    read (V0 m c) (sumV 0) = broadcastInDim S130x130x130x3 ![] bcast_S_S130x130x130x3 (constant S_ .f32 0x00000000#32) ∧
    read (V0 m c) (sumW 0) = broadcastInDim S130x130x130x1 ![] bcast_S_S130x130x130x1 (constant S_ .f32 0x00000000#32) := by
  have hz := ((settled0 m c).get 0 2 _ corner_op).nullary rfl
  have h : Settled (V0 m c) 30 (pops : List (HloOp τ sig (Elt F))) := by
    rw [pops_eq]; exact ((settled0 m c).drop 28 2 _).take 34 _ _
  obtain ⟨h0, h1, h2, h3, h4, h5, h6, h7, h8, h9, h10, h11, h12, h13, h14, h15, h16, h17, h18, h19, h20, h21,
    h22, h23, h24, h25, h26, h27, h28, h29, h30, h31, h32, h33, -⟩ := h
  have e0 := h0.nullary rfl
  have e1 := h1.unary (by decide) rfl
  have e2 := h2.nullary rfl
  have e3 := h3.unary (by decide) rfl
  have e4 := h4.unary (by decide) rfl
  have e5 := h5.unary (by decide) rfl
  have e6 := h6.binary (by decide) (by decide) rfl
  have e7 := h7.nullary rfl
  have e8 := h8.unary (by decide) rfl
  have e9 := h9.binary (by decide) (by decide) rfl
  have e10 := h10.unary (by decide) rfl
  have e11 := h11.unary (by decide) rfl
  have e12 := h12.binary (by decide) (by decide) rfl
  have e13 := h13.nullary rfl
  have e14 := h14.unary (by decide) rfl
  have e15 := h15.binary (by decide) (by decide) rfl
  have e16 := h16.binary (by decide) (by decide) rfl
  have e17 := h17.nullary rfl
  have e18 := h18.unary (by decide) rfl
  have e19 := h19.binary (by decide) (by decide) rfl
  have e20 := h20.nullary rfl
  have e21 := h21.unary (by decide) rfl
  have e22 := h22.binary (by decide) (by decide) rfl
  have e23 := h23.binary (by decide) (by decide) rfl
  have e24 := h24.nullary rfl
  have e25 := h25.unary (by decide) rfl
  have e26 := h26.binary (by decide) (by decide) rfl
  have e27 := h27.binary (by decide) (by decide) rfl
  have e28 := h28.nullary rfl
  have e29 := h29.unary (by decide) rfl
  have e30 := h30.binary (by decide) (by decide) rfl
  have e31 := h31.nullary rfl
  have e32 := h32.unary (by decide) rfl
  have e33 := h33.binary (by decide) (by decide) rfl
  have n1 : read (V0 m c) (u P3 9) = norm (centred (read (V0 m c) pos)) := by rw [e9, e8, e7, e6, e5, e4, hz]; rfl
  have n4 : read (V0 m c) (u P3 12) = frac (norm (centred (read (V0 m c) pos))) := by rw [e12, e11, e10, n1]; rfl
  refine ⟨by rw [← n1]; refine e33.trans ?_; rw [e32, e31, e10]; rfl, fun i => ?_, e1.trans (by rw [e0]), e3.trans (by rw [e2])⟩
  match i with
  | 0 => refine e19.trans ?_; rw [e18, e17, e16, e15, e14, e13, n4]; rfl
  | 1 => refine e26.trans ?_; rw [e25, e24, e23, e22, e21, e20, n4]; rfl
  | 2 => refine e30.trans ?_; rw [e29, e28, e27, n4]; rfl

/-! ## The result -/

/-- A weight sum with 1 in place of 0. -/
def nonzero (w : Q1.Contents (Elt F)) : Q1.Contents (Elt F) :=
  select (cmpf .oeq w (broadcastInDim S130x130x130x1 ![] bcast_S_S130x130x130x1 (constant S_ .f32 0x00000000#32)))
    (broadcastInDim S130x130x130x1 ![] bcast_S_S130x130x130x1 (constant S_ .f32 0x3F800000#32)) w

theorem tail : read (V0 m c) (buf Q3 1205 rfl) = Host.divf (read (V0 m c) (sumV 27))
    (broadcastInDim S130x130x130x3 ![0, 1, 2, 3] bcast_S130x130x130x1_S130x130x130x3_0_1_2_3 (nonzero (read (V0 m c) (sumW 27)))) := by
  have h0 := (settled0 m c).get 1196 2 _ (op := TRef.nullary (buf Z 1198 rfl) (constant S_ .f32 0x00000000#32)) rfl
  have h1 := (settled0 m c).get 1197 2 _ (op := TRef.unary (buf Z 1198 rfl) (buf Q1 1199 rfl) (broadcastInDim S130x130x130x1 ![] bcast_S_S130x130x130x1)) rfl
  have h2 := (settled0 m c).get 1198 2 _ (op := TRef.binary (sumW 27) (buf Q1 1199 rfl) (buf M1 1200 rfl) (cmpf .oeq)) rfl
  have h3 := (settled0 m c).get 1199 2 _ (op := TRef.nullary (buf Z 1201 rfl) (constant S_ .f32 0x3F800000#32)) rfl
  have h4 := (settled0 m c).get 1200 2 _ (op := TRef.unary (buf Z 1201 rfl) (buf Q1 1202 rfl) (broadcastInDim S130x130x130x1 ![] bcast_S_S130x130x130x1)) rfl
  have h5 := (settled0 m c).get 1201 2 _ (op := TRef.ternary (buf M1 1200 rfl) (buf Q1 1202 rfl) (sumW 27) (buf Q1 1203 rfl) select) rfl
  have h6 := (settled0 m c).get 1202 2 _ (op := TRef.unary (buf Q1 1203 rfl) (buf Q3 1204 rfl) (broadcastInDim S130x130x130x3 ![0, 1, 2, 3] bcast_S130x130x130x1_S130x130x130x3_0_1_2_3)) rfl
  have h7 := (settled0 m c).get 1203 2 _ (op := TRef.binary (sumV 27) (buf Q3 1204 rfl) (buf Q3 1205 rfl) Host.divf) rfl
  rw [h7.binary (by decide) (by decide) rfl, h6.unary (by decide) rfl, h5.ternary (by decide) (by decide) (by decide) rfl,
    h4.unary (by decide) rfl, h3.nullary rfl, h2.binary (by decide) (by decide) rfl, h1.unary (by decide) rfl, h0.nullary rfl]
  rfl

end Cert.Proof.R

end
-- ==== Proof.Bridge.lean ====
/- The two programs compute one function of the arguments over the extended reals.

   Group by group the reference's running sums, over the grid in three axes, are the kernel program's, over the flat
   grid, reshaped; the two divisions then agree element by element. What differs is only the spelling: the reference
   subtracts the grid's corner (the origin), counts a group's offset from −1 (adding 1 to the cell first), multiplies
   by 130 twice where the kernel program multiplies by 130², and reshapes each group's sums before adding them. -/
module

public import proofs.«01_k».proof.Defs
public import proofs.«01_k».proof.Proof.KernelValue
public import proofs.«01_k».proof.Proof.RefPrep
public import Idealize.ShloMosaic.Lib.Pointwise.Reshape

@[expose] public section

set_option maxRecDepth 16384

noncomputable section

namespace Cert.Proof

open Idealize.ShloMosaic Idealize.ShloMosaic.TcCoe Idealize.ShloMosaic.StableHlo
open Idealize.SL.Sem

/-! ## The operations' spellings -/

section Spelling

variable {F : FTy → Type} [FloatOps F]

/-- A cell one up along each axis, shifted, and one down again. -/
theorem shifted_eq (p : K.I3.Contents (Elt F)) (o : K.O3.Contents (Elt F)) :
    R.shifted (F := F) (addi p (R.one3 (F := F))) o = K.shifted (F := F) p o := by
  funext i
  show (p i + 1#32 + _) - 1#32 = p i + _
  rw [BitVec.add_assoc, BitVec.add_comm 1#32, ← BitVec.add_assoc, BitVec.add_sub_cancel]

/-- 130 · 130 = 16900. -/
theorem flat_eq (q : K.I3.Contents (Elt F)) : R.flat (F := F) q = K.flat (F := F) q := by
  have h : muli (muli (R.coord0 (F := F) q) (R.side (F := F))) (R.side (F := F)) = muli (K.coord0 (F := F) q) (K.fill (F := F) 16900#32) := by
    funext i
    show R.coord0 (F := F) q i * 130#32 * 130#32 = R.coord0 (F := F) q i * 16900#32
    rw [BitVec.mul_assoc]
    rfl
  unfold R.flat
  rw [h]
  rfl

theorem offs_eq : ∀ k : Fin 27, R.offs (F := F) k = K.offs (F := F) k
  | 0 | 1 | 2 | 3 | 4 | 5 | 6 | 7 | 8 | 9 | 10 | 11 | 12 | 13 | 14 | 15 | 16 | 17 | 18 | 19 | 20 | 21 | 22 | 23 | 24 | 25
  | 26 => rfl
  | ⟨_ + 27, h⟩ => absurd h (by omega)

theorem fillP_eq : R.fillP (F := F) = K.fillP := rfl
theorem norm_eq : R.norm (F := F) = K.norm := rfl
theorem base_eq : R.base (F := F) = K.base := rfl
theorem frac_eq : R.frac (F := F) = K.frac := rfl
theorem axisW_eq : R.axisW (F := F) = K.axisW := rfl
theorem weight_eq : R.weight (F := F) = K.weight := rfl
theorem scatV_eq : R.scatV (F := F) = K.scatV := rfl
theorem scatW_eq : R.scatW (F := F) = K.scatW := rfl

end Spelling

/-- The ideal zero. -/
theorem zero_eq : Ideal.ofBits .f32 0x00000000#32 = 0 := by simp [Ideal.ofBits, Ideal.ieee]

/-- The grid's corner is the origin. -/
theorem centred_eq (x : R.P3.Contents (Elt Ideal)) : R.centred (F := Ideal) x = x := by
  funext i
  show x i - Ideal.ofBits .f32 0x00000000#32 = x i
  rw [zero_eq, sub_zero]

/-! ## The sums -/

section Sums

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)
  (hv : read (R.V0 m' c) R.vel = read (K.V0 m c) K.vel) (hp : read (R.V0 m' c) R.pos = read (K.V0 m c) K.pos)

include hp in
theorem gw_eq (k : Fin 27) : R.gw m' c k = K.gw m c k := by
  have hR := (R.prep m' c).2.1
  have hK := (K.prep m c).2.1
  unfold R.gw K.gw
  rw [hR, hR, hR, hK, hK, hK, hp, centred_eq, weight_eq, axisW_eq, frac_eq, norm_eq]

include hp in
theorem gq_eq (k : Fin 27) : R.gq m' c k = K.gq m c k := by
  unfold R.gq K.gq
  rw [(R.prep m' c).1, (K.prep m c).1, hp, centred_eq, R.read_off, K.read_off, offs_eq, base_eq, norm_eq, shifted_eq, flat_eq]

open Cert.ReferenceIdeal Cert.ReferenceIdeal.Gen in
include hv hp in
/-- After every group, the reference's sums are the kernel program's, reshaped. -/
theorem sums_eq (k : Fin 28) :
    read (R.V0 m' c) (R.sumV k) = shapeCast S130x130x130x3 (read (K.V0 m c) (K.sumV k)) shapeCasts_S2197000x3_S130x130x130x3 ∧
    read (R.V0 m' c) (R.sumW k) = shapeCast S130x130x130x1 (read (K.V0 m c) (K.sumW k)) shapeCasts_S2197000x1_S130x130x130x1 := by
  induction k using Fin.induction with
  | zero =>
    rw [(R.prep m' c).2.2.1, (R.prep m' c).2.2.2, (K.prep m c).2.2.1, (K.prep m c).2.2.2]
    exact ⟨rfl, rfl⟩
  | succ k ih =>
    rw [(R.group m' c k).1, (R.group m' c k).2, (K.group m c k).1, (K.group m c k).2, ih.1, ih.2, hv, gw_eq m m' c hp,
      gq_eq m m' c hp, scatV_eq, scatW_eq]
    exact ⟨rfl, rfl⟩

end Sums

/-! ## The division -/

section Division

open Cert.ReferenceIdeal Cert.ReferenceIdeal.Gen

/-- Spreading the weights over the three components before the reshape, or after it. -/
theorem spread_eq {α : Type} (w : S2197000x1.Idx → α) (i : S130x130x130x3.Idx) (h : S2197000x1.BroadcastsInDim S2197000x3 ![0, 1])
    (h' : S2197000x3.ShapeCasts S130x130x130x3) :
    shapeCast S130x130x130x3 (broadcastInDim S2197000x3 ![0, 1] h w) h' i
      = broadcastInDim S130x130x130x3 ![0, 1, 2, 3] bcast_S130x130x130x1_S130x130x130x3_0_1_2_3
          (shapeCast S130x130x130x1 w shapeCasts_S2197000x1_S130x130x130x1) i := by
  have h0 : (i 0).val < 130 := (i 0).isLt
  have h1 : (i 1).val < 130 := (i 1).isLt
  have h2 : (i 2).val < 130 := (i 2).isLt
  have h3 : (i 3).val < 3 := (i 3).isLt
  let n : Fin 2197000 := ⟨((i 0).val * 130 + (i 1).val) * 130 + (i 2).val, by omega⟩
  let z : Fin 1 := 0
  let a : Fin 3 := ⟨(i 3).val, h3⟩
  have e1 := shapeCast_apply (broadcastInDim S2197000x3 ![0, 1] h w) h' i (fun | 0 => n | 1 => a) (by
    rw [Shape.rowMajor_val_two, Shape.rowMajor_val_four]
    rfl)
  have e2 := shapeCast_apply w shapeCasts_S2197000x1_S130x130x130x1 (fun | 0 => i 0 | 1 => i 1 | 2 => i 2 | 3 => z)
    (fun | 0 => n | 1 => z) (by
    rw [Shape.rowMajor_val_two, Shape.rowMajor_val_four]
    rfl)
  rw [e1]
  refine Eq.trans ?_ (e2.symm.trans ?_)
  · refine congrArg w (funext fun b => ?_)
    fin_cases b <;> rfl
  · refine congrArg (shapeCast S130x130x130x1 w shapeCasts_S2197000x1_S130x130x130x1) (funext fun b => ?_)
    fin_cases b <;> rfl

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The kernel program's result, element by element. -/
theorem result_apply (i : S130x130x130x3.Idx) : K.result m c i
    = K.quot1 (shapeCast S130x130x130x3 (K.endV m c) shapeCasts_S2197000x3_S130x130x130x3 i)
      (broadcastInDim S130x130x130x3 ![0, 1, 2, 3] bcast_S130x130x130x1_S130x130x130x3_0_1_2_3
        (shapeCast S130x130x130x1 (K.endW m c) shapeCasts_S2197000x1_S130x130x130x1) i) := by
  rw [← spread_eq _ i Cert.KernelIdeal.Gen.bcast_S2197000x1_S2197000x3_0_1 shapeCasts_S2197000x3_S130x130x130x3]
  unfold K.result
  rw [← shapeCast_comp (K.endV m c) Cert.KernelIdeal.Gen.shapeCasts_S2197000x3_S13x1300x390
      Cert.KernelIdeal.Gen.shapeCasts_S13x1300x390_S130x130x130x3,
    ← shapeCast_comp (broadcastInDim S2197000x3 ![0, 1] _ (K.endW m c)) Cert.KernelIdeal.Gen.shapeCasts_S2197000x3_S13x1300x390
      Cert.KernelIdeal.Gen.shapeCasts_S13x1300x390_S130x130x130x3]
  rfl

/-- The two results are equal where the arguments are. -/
theorem results_eq (hv : read (R.V0 m' c) R.vel = read (K.V0 m c) K.vel)
    (hp : read (R.V0 m' c) R.pos = read (K.V0 m c) K.pos) :
    read (R.V0 m' c) (R.buf R.Q3 1205 rfl) = K.result m c := by
  rw [R.tail, (sums_eq m m' c hv hp 27).1, (sums_eq m m' c hv hp 27).2]
  funext i
  rw [result_apply]
  rfl

end Division

/-! ## The arguments -/

section Arguments

variable {F : FTy → Type} [FloatOps F]

theorem K.read_vel (W : Valuation Cert.KernelIdeal.τ Cert.KernelIdeal.sig (Elt F)) :
    read W K.vel = W (Proc.devRef .tc Cert.KernelIdeal.main_arg0) := rfl
theorem K.read_pos (W : Valuation Cert.KernelIdeal.τ Cert.KernelIdeal.sig (Elt F)) :
    read W K.pos = W (Proc.devRef .tc Cert.KernelIdeal.main_arg1) := rfl
theorem R.read_vel (W : Valuation Cert.ReferenceIdeal.τ Cert.ReferenceIdeal.sig (Elt F)) :
    read W R.vel = W (Proc.devRef .tc Cert.ReferenceIdeal.main_arg0) := rfl
theorem R.read_pos (W : Valuation Cert.ReferenceIdeal.τ Cert.ReferenceIdeal.sig (Elt F)) :
    read W R.pos = W (Proc.devRef .tc Cert.ReferenceIdeal.main_arg1) := rfl
theorem R.read_out (W : Valuation Cert.ReferenceIdeal.τ Cert.ReferenceIdeal.sig (Elt F)) :
    W (Proc.devRef .tc Cert.ReferenceIdeal.main_v1001) = read W (R.buf R.Q3 1205 rfl) := rfl

end Arguments

/-! ## The value claim -/

open Cert.KernelIdeal.Gen Cert.ReferenceIdeal.Gen

theorem algebraic : Cert.algebraic_KernelIdeal_ReferenceIdeal := by
  intro m g m' g' _ hagree
  refine ⟨fun c => K.result m c, K.run m g, ?_⟩
  refine (θ_run Cert.ReferenceIdeal.defs _ _).mono (fun r h c => ⟨?_, ?_, ?_⟩) (R.run m' g')
  · refine (h c Cert.ReferenceIdeal.main_v1001).trans ((R.read_out (R.V0 m' c)).trans (results_eq m m' c ?_ ?_))
    · refine (R.read_vel (R.V0 m' c)).trans ((R.V_arg m' c Cert.ReferenceIdeal.main_arg0 (by decide)).trans ((hagree c).1.trans ?_))
      exact ((K.read_vel (K.V0 m c)).trans (K.V_arg m c Cert.KernelIdeal.main_arg0 (by decide))).symm
    · refine (R.read_pos (R.V0 m' c)).trans ((R.V_arg m' c Cert.ReferenceIdeal.main_arg1 (by decide)).trans ((hagree c).2.trans ?_))
      exact ((K.read_pos (K.V0 m c)).trans (K.V_arg m c Cert.KernelIdeal.main_arg1 (by decide))).symm
  · exact (h c Cert.ReferenceIdeal.main_arg0).trans (R.V_arg m' c Cert.ReferenceIdeal.main_arg0 (by decide))
  · exact (h c Cert.ReferenceIdeal.main_arg1).trans (R.V_arg m' c Cert.ReferenceIdeal.main_arg1 (by decide))

end Cert.Proof

end
-- ==== Proof.lean ====
module

public import proofs.«01_k».proof.Defs
public import proofs.«01_k».proof.Proof.SourceFrame
public import proofs.«01_k».proof.Proof.Bridge

@[expose] public section

noncomputable section

namespace Cert.Proof

theorem claim : Cert.Claim := ⟨Cert.Kernel.Gen.facts, Cert.KernelIdeal.Gen.facts, Cert.ReferenceIdeal.Gen.facts,
  fun m ρ _ => S.frame m ρ, fun m ρ _ => K.frame m ρ, fun m ρ _ => R.frame m ρ, trivial, algebraic⟩

end Cert.Proof

end
